-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive_future_masked [hPre_scales_positive_future_masked : Cert.Pre_scales_positive_future_masked.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive_future_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scales_positive_future_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive_future_masked [hPre_scales_positive_future_masked : Cert.Pre_scales_positive_future_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive_future_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scales_positive_future_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_positive_future_masked [hKernelIdeal : Cert.KernelIdeal.Facts] [hPre_scales_positive_future_masked : Cert.Pre_scales_positive_future_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive_future_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_positive_future_masked [hReferenceIdeal : Cert.ReferenceIdeal.Facts] [hPre_scales_positive_future_masked : Cert.Pre_scales_positive_future_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive_future_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Reference_ReferenceIdeal : Prop :=
  IdealRules.named_const.Statement Cert.ReferenceIdeal.κ "log2e" .f32 0x3FB8AA3B#32 (((Real.log 2)⁻¹ : ℝ) : EReal)

def algebraic_KernelIdeal_ReferenceIdeal_pre_scales_positive_future_masked [hKernelIdeal : Cert.KernelIdeal.Facts] [hReferenceIdeal : Cert.ReferenceIdeal.Facts] [hPre_scales_positive_future_masked : Cert.Pre_scales_positive_future_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive_future_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_scales_positive_future_masked : Cert.Pre_scales_positive_future_masked.Facts),
    quiescent_Kernel (hKernel := hKernel)
    ∧ quiescent_KernelIdeal (hKernelIdeal := hKernelIdeal)
    ∧ quiescent_KernelIdeal_pre_scales_positive_future_masked (hKernelIdeal := hKernelIdeal) (hPre_scales_positive_future_masked := hPre_scales_positive_future_masked)
    ∧ quiescent_ReferenceIdeal (hReferenceIdeal := hReferenceIdeal)
    ∧ quiescent_ReferenceIdeal_pre_scales_positive_future_masked (hReferenceIdeal := hReferenceIdeal) (hPre_scales_positive_future_masked := hPre_scales_positive_future_masked)
    ∧ quiescent_Reference (hReference := hReference)
    ∧ preserves_Kernel_KernelIdeal
    ∧ preserves_Reference_ReferenceIdeal
    ∧ algebraic_KernelIdeal_ReferenceIdeal_pre_scales_positive_future_masked (hKernelIdeal := hKernelIdeal) (hReferenceIdeal := hReferenceIdeal) (hPre_scales_positive_future_masked := hPre_scales_positive_future_masked)
-- ==== Pre_scales_positive_future_masked.lean ====
abbrev S2x8192x48x96 : Shape := ⟨4, ![2, 8192, 48, 96]⟩
abbrev S2x48 : Shape := ⟨2, ![2, 48]⟩
abbrev S48x256x128 : Shape := ⟨3, ![48, 256, 128]⟩
abbrev S48x128x128 : Shape := ⟨3, ![48, 128, 128]⟩
abbrev S_ : Shape := ⟨0, ![]⟩

class Facts : Prop where
  bcast_S_S2x48 : S_.BroadcastsInDim S2x48 (![] : Fin 0 → Fin S2x48.rank)
  slices_S48x256x128_S48x128x128_0_128_0 : S48x256x128.Slices ![0, 128, 0] S48x128x128
  bcast_S_S48x128x128 : S_.BroadcastsInDim S48x128x128 (![] : Fin 0 → Fin S48x128x128.rank)

variable [Facts]

def fn {F : FTy → Type} [FloatOps F] (main_arg0 : FVec F S2x8192x48x96 .fp8e4m3) (main_arg1 : FVec F S2x8192x48x96 .fp8e4m3) (main_arg2 : FVec F S2x8192x48x96 .fp8e4m3) (main_arg3 : FVec F S2x48 .f32) (main_arg4 : FVec F S2x48 .f32) (main_arg5 : FVec F S2x48 .f32) (main_arg6 : FVec F S48x256x128 .f32) : IVec S2x48 1 × IVec S48x128x128 1 :=
  let main_v0 : FVec F S2x48 .f32 := mulf main_arg3 main_arg4
  let main_v1 : IVec S48x128x128 32 := iotaInDim S48x128x128 32 1
  let main_v2 : IVec S48x128x128 32 := iotaInDim S48x128x128 32 2
  let main_cst : FVec F S_ .f32 := constant S_ .f32 0x00000000#32
  let main_v3 : FVec F S2x48 .f32 := broadcastInDim S2x48 ![] bcast_S_S2x48 main_cst
  let main_v4 : IVec S2x48 1 := cmpf .ogt main_v0 main_v3
  let main_cst_0 : FVec F S_ .f32 := constant S_ .f32 0x7F800000#32
  let main_v5 : FVec F S2x48 .f32 := broadcastInDim S2x48 ![] bcast_S_S2x48 main_cst_0
  let main_v6 : IVec S2x48 1 := cmpf .olt main_v0 main_v5
  let main_v7 : IVec S2x48 1 := andi main_v4 main_v6
  let main_v8 : IVec S48x128x128 1 := cmpi .sle main_v1 main_v2
  let main_v9 : FVec F S48x128x128 .f32 := (extractStridedSlice S48x128x128 ![0, 128, 0] · slices_S48x256x128_S48x128x128_0_128_0) main_arg6
  let main_cst_1 : FVec F S_ .f32 := constant S_ .f32 0xFF800000#32
  let main_v10 : FVec F S48x128x128 .f32 := broadcastInDim S48x128x128 ![] bcast_S_S48x128x128 main_cst_1
  let main_v11 : IVec S48x128x128 1 := cmpf .oeq main_v9 main_v10
  let main_v12 : IVec S48x128x128 1 := ori main_v8 main_v11
  (main_v7, main_v12)
-- ==== Kernel.lean ====
abbrev S2x8192x48x96 : Shape := ⟨4, ![2, 8192, 48, 96]⟩
abbrev S2x48 : Shape := ⟨2, ![2, 48]⟩
abbrev S48x256x128 : Shape := ⟨3, ![48, 256, 128]⟩
abbrev S2x48x96x8192 : Shape := ⟨4, ![2, 48, 96, 8192]⟩
abbrev S2x4608x8192 : Shape := ⟨3, ![2, 4608, 8192]⟩
abbrev S9216x8192 : Shape := ⟨2, ![9216, 8192]⟩
abbrev S_ : Shape := ⟨0, ![]⟩
abbrev S2x48x8192x96 : Shape := ⟨4, ![2, 48, 8192, 96]⟩
abbrev S2x48x8192x128 : Shape := ⟨4, ![2, 48, 8192, 128]⟩
abbrev S96 : Shape := ⟨1, ![96]⟩
abbrev S2x8192x4608 : Shape := ⟨3, ![2, 8192, 4608]⟩
abbrev S1x384x512 : Shape := ⟨3, ![1, 384, 512]⟩
abbrev S1x4x8192x128 : Shape := ⟨4, ![1, 4, 8192, 128]⟩
abbrev S192x8192 : Shape := ⟨2, ![192, 8192]⟩
abbrev S4x256x128 : Shape := ⟨3, ![4, 256, 128]⟩
abbrev S1x512x384 : Shape := ⟨3, ![1, 512, 384]⟩
abbrev S8192x512 : Shape := ⟨2, ![8192, 512]⟩
abbrev S128x512 : Shape := ⟨2, ![128, 512]⟩
abbrev S256x128 : Shape := ⟨2, ![256, 128]⟩
abbrev S8x512 : Shape := ⟨2, ![8, 512]⟩
abbrev S384x512 : Shape := ⟨2, ![384, 512]⟩
abbrev S1x96x512 : Shape := ⟨3, ![1, 96, 512]⟩
abbrev S96x512 : Shape := ⟨2, ![96, 512]⟩
abbrev S32x512 : Shape := ⟨2, ![32, 512]⟩
abbrev S1 : Shape := ⟨1, ![1]⟩
abbrev S1x256x128 : Shape := ⟨3, ![1, 256, 128]⟩
abbrev S512x512 : Shape := ⟨2, ![512, 512]⟩
abbrev S1x512 : Shape := ⟨2, ![1, 512]⟩
abbrev S1x1x512x128 : Shape := ⟨4, ![1, 1, 512, 128]⟩
abbrev S512x128 : Shape := ⟨2, ![512, 128]⟩
abbrev S64x8x512 : Shape := ⟨3, ![64, 8, 512]⟩
abbrev S128x128 : Shape := ⟨2, ![128, 128]⟩
abbrev S128x384 : Shape := ⟨2, ![128, 384]⟩
abbrev S96x128 : Shape := ⟨2, ![96, 128]⟩
abbrev S1x1x128x128 : Shape := ⟨4, ![1, 1, 128, 128]⟩
abbrev S128x256 : Shape := ⟨2, ![128, 256]⟩
abbrev S16x8x512 : Shape := ⟨3, ![16, 8, 512]⟩
abbrev S8x384 : Shape := ⟨2, ![8, 384]⟩
abbrev S1x384 : Shape := ⟨2, ![1, 384]⟩
abbrev S96x384 : Shape := ⟨2, ![96, 384]⟩
abbrev S16x8x384 : Shape := ⟨3, ![16, 8, 384]⟩
abbrev S8x256 : Shape := ⟨2, ![8, 256]⟩
abbrev S1x256 : Shape := ⟨2, ![1, 256]⟩
abbrev S96x256 : Shape := ⟨2, ![96, 256]⟩
abbrev S16x8x256 : Shape := ⟨3, ![16, 8, 256]⟩
abbrev S8x128 : Shape := ⟨2, ![8, 128]⟩
abbrev S1x128 : Shape := ⟨2, ![1, 128]⟩
abbrev S16x8x128 : Shape := ⟨3, ![16, 8, 128]⟩
abbrev S512 : Shape := ⟨1, ![512]⟩
abbrev S1x512x128 : Shape := ⟨3, ![1, 512, 128]⟩

abbrev nBuf : Space → Nat
  | .hbm => 19
  | .vmem => 22
  | .smem => 3
  | _ => 0

abbrev bufTy : (tb : Table) → Fin (tcTables nBuf tb) → BufTy
  | .hbm, ⟨0, _⟩ => ⟨S2x8192x48x96, .fp8e4m3⟩
  | .hbm, ⟨1, _⟩ => ⟨S2x8192x48x96, .fp8e4m3⟩
  | .hbm, ⟨2, _⟩ => ⟨S2x8192x48x96, .fp8e4m3⟩
  | .hbm, ⟨3, _⟩ => ⟨S2x48, .f32⟩
  | .hbm, ⟨4, _⟩ => ⟨S2x48, .f32⟩
  | .hbm, ⟨5, _⟩ => ⟨S2x48, .f32⟩
  | .hbm, ⟨6, _⟩ => ⟨S48x256x128, .f32⟩
  | .hbm, ⟨7, _⟩ => ⟨S2x48x96x8192, .fp8e4m3⟩
  | .hbm, ⟨8, _⟩ => ⟨S2x4608x8192, .fp8e4m3⟩
  | .hbm, ⟨9, _⟩ => ⟨S2x48x96x8192, .fp8e4m3⟩
  | .hbm, ⟨10, _⟩ => ⟨S9216x8192, .fp8e4m3⟩
  | .hbm, ⟨11, _⟩ => ⟨S_, .i8⟩
  | .hbm, ⟨12, _⟩ => ⟨S_, .fp8e4m3⟩
  | .hbm, ⟨13, _⟩ => ⟨S2x48x8192x96, .fp8e4m3⟩
  | .hbm, ⟨14, _⟩ => ⟨S2x48x8192x128, .fp8e4m3⟩
  | .hbm, ⟨15, _⟩ => ⟨S96, .f32⟩
  | .hbm, ⟨16, _⟩ => ⟨S96, .f32⟩
  | .hbm, ⟨17, _⟩ => ⟨S96, .f32⟩
  | .hbm, ⟨18, _⟩ => ⟨S2x8192x4608, .bf16⟩
  | .local _ .vmem, ⟨0, _⟩ => ⟨S1x384x512, .fp8e4m3⟩
  | .local _ .vmem, ⟨1, _⟩ => ⟨S1x384x512, .fp8e4m3⟩
  | .local _ .vmem, ⟨2, _⟩ => ⟨S1x4x8192x128, .fp8e4m3⟩
  | .local _ .vmem, ⟨3, _⟩ => ⟨S1x4x8192x128, .fp8e4m3⟩
  | .local _ .vmem, ⟨4, _⟩ => ⟨S192x8192, .fp8e4m3⟩
  | .local _ .vmem, ⟨5, _⟩ => ⟨S192x8192, .fp8e4m3⟩
  | .local _ .vmem, ⟨6, _⟩ => ⟨S192x8192, .fp8e4m3⟩
  | .local _ .vmem, ⟨7, _⟩ => ⟨S192x8192, .fp8e4m3⟩
  | .local _ .vmem, ⟨8, _⟩ => ⟨S4x256x128, .f32⟩
  | .local _ .vmem, ⟨9, _⟩ => ⟨S4x256x128, .f32⟩
  | .local _ .vmem, ⟨10, _⟩ => ⟨S1x512x384, .bf16⟩
  | .local _ .vmem, ⟨11, _⟩ => ⟨S1x512x384, .bf16⟩
  | .local _ .vmem, ⟨12, _⟩ => ⟨S8192x512, .f32⟩
  | .local _ .vmem, ⟨13, _⟩ => ⟨S8192x512, .f32⟩
  | .local _ .vmem, ⟨14, _⟩ => ⟨S128x512, .fp8e4m3⟩
  | .local _ .vmem, ⟨15, _⟩ => ⟨S256x128, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S384x512, .f32⟩
  | .local _ .smem, ⟨0, _⟩ => ⟨S96, .f32⟩
  | .local _ .smem, ⟨1, _⟩ => ⟨S96, .f32⟩
  | .local _ .smem, ⟨2, _⟩ => ⟨S96, .f32⟩
  | _, _ => ⟨S2x8192x48x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 25], ![false, false]⟩

def k0_off1 (i : grid0.Coords) (c0_i32 : BitVec 32) : Fin 1 → Nat :=
  let c95_i32 : BitVec 32 := 95#32
  let c0_i32_5 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v12 : BitVec 32 := Scalar.maxsi c0_i32_5 v1
  let v13 : BitVec 32 := Scalar.minsi c95_i32 v12
  let v14 : Index := Scalar.indexCast v13
  ![v14.toNat]
def k0_off2 (i : grid0.Coords) (c0_i32 : BitVec 32) (c1_i32 : BitVec 32) : Fin 1 → Nat :=
  let c95_i32_16 : BitVec 32 := 95#32
  let c0_i32_15 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v31 : BitVec 32 := Scalar.subi v1 c1_i32
  let v32 : BitVec 32 := Scalar.maxsi c0_i32_15 v31
  let v33 : BitVec 32 := Scalar.minsi c95_i32_16 v32
  let v34 : Index := Scalar.indexCast v33
  ![v34.toNat]
@[reducible] def k0_t1_loop (i : grid0.Coords) : Scf.Loop 32 :=
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let c1_i32_31 : BitVec 32 := 1#32
  ⟨c0_i32_28, v55, c1_i32_31⟩
def k0_mult1 (i : grid0.Coords) (k0_t1 : Fin (k0_t1_loop i).trips) : BitVec 32 :=
  let c0_i32_28 : BitVec 32 := 0#32
  let c1_i32_31 : BitVec 32 := 1#32
  let arg21 : BitVec 32 := Scf.iv c0_i32_28 c1_i32_31 k0_t1
  let c512_i32_840 : BitVec 32 := 512#32
  let v1526 : BitVec 32 := Scalar.muli arg21 c512_i32_840
  v1526
def k0_off3 (i : grid0.Coords) (k0_t1 : Fin (k0_t1_loop i).trips) : Fin 2 → Nat :=
  let c0_i32_28 : BitVec 32 := 0#32
  let c1_i32_31 : BitVec 32 := 1#32
  let arg21 : BitVec 32 := Scf.iv c0_i32_28 c1_i32_31 k0_t1
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off4 (i : grid0.Coords) (k0_t1 : Fin (k0_t1_loop i).trips) : Fin 2 → Nat :=
  let c0_846 : Index := 0#32
  let c0_i32_28 : BitVec 32 := 0#32
  let c1_i32_31 : BitVec 32 := 1#32
  let arg21 : BitVec 32 := Scf.iv c0_i32_28 c1_i32_31 k0_t1
  let c512_i32_840 : BitVec 32 := 512#32
  let v1526 : BitVec 32 := Scalar.muli arg21 c512_i32_840
  let v1527 : BitVec 32 := v1526
  let v1537 : Index := Scalar.indexCast v1527
  ![0, v1537.toNat]
def k0_off5 (i : grid0.Coords) (k0_t1 : Fin (k0_t1_loop i).trips) : Fin 4 → Nat :=
  let c0_852 : Index := 0#32
  let c0_853 : Index := 0#32
  let c0_i32_28 : BitVec 32 := 0#32
  let c1_i32_31 : BitVec 32 := 1#32
  let arg21 : BitVec 32 := Scf.iv c0_i32_28 c1_i32_31 k0_t1
  let c512_i32_840 : BitVec 32 := 512#32
  let v1526 : BitVec 32 := Scalar.muli arg21 c512_i32_840
  let v1527 : BitVec 32 := v1526
  let v1546 : Index := Scalar.indexCast v1527
  let c0_854 : Index := 0#32
  ![0, 0, v1546.toNat, 0]
@[reducible] def k0_t2_loop (i : grid0.Coords) : Scf.Loop 32 :=
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let v52 : BitVec 32 := Scalar.addi c0_i32_28 v51
  let c1_i32_32 : BitVec 32 := 1#32
  ⟨v55, v52, c1_i32_32⟩
def k0_mult2 (i : grid0.Coords) (k0_t2 : Fin (k0_t2_loop i).trips) : BitVec 32 :=
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let c1_i32_32 : BitVec 32 := 1#32
  let arg21 : BitVec 32 := Scf.iv v55 c1_i32_32 k0_t2
  let c512_i32_840 : BitVec 32 := 512#32
  let v1526 : BitVec 32 := Scalar.muli arg21 c512_i32_840
  v1526
def k0_off6 (i : grid0.Coords) (k0_t2 : Fin (k0_t2_loop i).trips) : Fin 2 → Nat :=
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let c1_i32_32 : BitVec 32 := 1#32
  let arg21 : BitVec 32 := Scf.iv v55 c1_i32_32 k0_t2
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off7 (i : grid0.Coords) (k0_t2 : Fin (k0_t2_loop i).trips) : Fin 2 → Nat :=
  let c0_846 : Index := 0#32
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let c1_i32_32 : BitVec 32 := 1#32
  let arg21 : BitVec 32 := Scf.iv v55 c1_i32_32 k0_t2
  let c512_i32_840 : BitVec 32 := 512#32
  let v1526 : BitVec 32 := Scalar.muli arg21 c512_i32_840
  let v1527 : BitVec 32 := v1526
  let v1537 : Index := Scalar.indexCast v1527
  ![0, v1537.toNat]
def k0_off8 (i : grid0.Coords) (k0_t2 : Fin (k0_t2_loop i).trips) : Fin 4 → Nat :=
  let c0_852 : Index := 0#32
  let c0_853 : Index := 0#32
  let c0_i32_28 : BitVec 32 := 0#32
  let arg0 : BitVec 32 := BitVec.ofNat 32 (i 0).val
  let c1_i32_27 : BitVec 32 := 1#32
  let v50 : BitVec 32 := Scalar.subi arg0 c1_i32_27
  let v51 : BitVec 32 := Scalar.subi v50 c0_i32_28
  let c1_i32_30 : BitVec 32 := 1#32
  let v53 : BitVec 32 := Scalar.divsi v51 c1_i32_30
  let v54 : BitVec 32 := Scalar.muli v53 c1_i32_30
  let v55 : BitVec 32 := Scalar.addi c0_i32_28 v54
  let c1_i32_32 : BitVec 32 := 1#32
  let arg21 : BitVec 32 := Scf.iv v55 c1_i32_32 k0_t2
  let c512_i32_840 : BitVec 32 := 512#32
  let v1526 : BitVec 32 := Scalar.muli arg21 c512_i32_840
  let v1527 : BitVec 32 := v1526
  let v1546 : Index := Scalar.indexCast v1527
  let c0_854 : Index := 0#32
  ![0, 0, v1546.toNat, 0]
def k0_cond1 (i : grid0.Coords) : BitVec 1 :=
  let arg0 : BitVec 32 := BitVec.ofNat 32 (i 0).val
  let c0_i32_33 : BitVec 32 := 0#32
  let v58 : BitVec 1 := Scalar.cmpi .sgt arg0 c0_i32_33
  let v59 : BitVec 32 := Scalar.extui v58
  let c0_i32_34 : BitVec 32 := 0#32
  let v60 : BitVec 1 := Scalar.cmpi .ne v59 c0_i32_34
  v60

def k0_mult3 (i : grid0.Coords) : BitVec 32 :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  v1527
def k0_off9 (i : grid0.Coords) : Fin 2 → Nat :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1529 : Index := Scalar.indexCast v1528
  let c0_842 : Index := 0#32
  ![v1529.toNat, 0]
def k0_off10 (i : grid0.Coords) : Fin 2 → Nat :=
  let c0_847 : Index := 0#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1538 : Index := Scalar.indexCast v1528
  ![0, v1538.toNat]
def k0_off11 (i : grid0.Coords) : Fin 4 → Nat :=
  let c0_853 : Index := 0#32
  let c0_854 : Index := 0#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1547 : Index := Scalar.indexCast v1528
  let c0_855 : Index := 0#32
  ![0, 0, v1547.toNat, 0]
def k0_mult4 (i : grid0.Coords) : BitVec 32 :=
  let arg0 : BitVec 32 := BitVec.ofNat 32 (i 0).val
  let c512_i32 : BitVec 32 := 512#32
  let v61 : BitVec 32 := Scalar.muli arg0 c512_i32
  v61
def k0_off12 (i : grid0.Coords) : Fin 2 → Nat :=
  let arg0 : BitVec 32 := BitVec.ofNat 32 (i 0).val
  let c512_i32 : BitVec 32 := 512#32
  let v61 : BitVec 32 := Scalar.muli arg0 c512_i32
  let v62 : BitVec 32 := v61
  let c0_i32_35 : BitVec 32 := 0#32
  let v63 : BitVec 32 := Scalar.addi v62 c0_i32_35
  let v64 : Index := Scalar.indexCast v63
  let c0_36 : Index := 0#32
  ![v64.toNat, 0]
def k0_off13 (i : grid0.Coords) (c0_i32_35 : BitVec 32) : Fin 2 → Nat :=
  let c0_40 : Index := 0#32
  let arg0 : BitVec 32 := BitVec.ofNat 32 (i 0).val
  let c512_i32 : BitVec 32 := 512#32
  let v61 : BitVec 32 := Scalar.muli arg0 c512_i32
  let v62 : BitVec 32 := v61
  let v63 : BitVec 32 := Scalar.addi v62 c0_i32_35
  let v73 : Index := Scalar.indexCast v63
  ![0, v73.toNat]
def k0_off14 (i : grid0.Coords) (c0_i32_35 : BitVec 32) : Fin 4 → Nat :=
  let c0_46 : Index := 0#32
  let c0_47 : Index := 0#32
  let arg0 : BitVec 32 := BitVec.ofNat 32 (i 0).val
  let c512_i32 : BitVec 32 := 512#32
  let v61 : BitVec 32 := Scalar.muli arg0 c512_i32
  let v62 : BitVec 32 := v61
  let v63 : BitVec 32 := Scalar.addi v62 c0_i32_35
  let v82 : Index := Scalar.indexCast v63
  let c0_48 : Index := 0#32
  ![0, 0, v82.toNat, 0]
def k0_off15 (i : grid0.Coords) : Fin 2 → Nat :=
  let arg0 : BitVec 32 := BitVec.ofNat 32 (i 0).val
  let c512_i32 : BitVec 32 := 512#32
  let v61 : BitVec 32 := Scalar.muli arg0 c512_i32
  let v62 : BitVec 32 := v61
  let c128_i32 : BitVec 32 := 128#32
  let v126 : BitVec 32 := Scalar.addi v62 c128_i32
  let v127 : Index := Scalar.indexCast v126
  let c128_68 : Index := 128#32
  ![v127.toNat, 128]
def k0_off16 (i : grid0.Coords) : Fin 2 → Nat :=
  let arg0 : BitVec 32 := BitVec.ofNat 32 (i 0).val
  let c512_i32 : BitVec 32 := 512#32
  let v61 : BitVec 32 := Scalar.muli arg0 c512_i32
  let v62 : BitVec 32 := v61
  let c256_i32 : BitVec 32 := 256#32
  let v191 : BitVec 32 := Scalar.addi v62 c256_i32
  let v192 : Index := Scalar.indexCast v191
  let c256 : Index := 256#32
  ![v192.toNat, 256]
def k0_off17 (i : grid0.Coords) : Fin 2 → Nat :=
  let arg0 : BitVec 32 := BitVec.ofNat 32 (i 0).val
  let c512_i32 : BitVec 32 := 512#32
  let v61 : BitVec 32 := Scalar.muli arg0 c512_i32
  let v62 : BitVec 32 := v61
  let c384_i32 : BitVec 32 := 384#32
  let v255 : BitVec 32 := Scalar.addi v62 c384_i32
  let v256 : Index := Scalar.indexCast v255
  let c384 : Index := 384#32
  ![v256.toNat, 384]
@[reducible] def k0_t3_loop (i : grid0.Coords) : Scf.Loop 32 :=
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let c1_i32_231 : BitVec 32 := 1#32
  ⟨c0_i32_228, v432, c1_i32_231⟩
def k0_mult5 (i : grid0.Coords) (k0_t3 : Fin (k0_t3_loop i).trips) : BitVec 32 :=
  let c0_i32_228 : BitVec 32 := 0#32
  let c1_i32_231 : BitVec 32 := 1#32
  let arg21 : BitVec 32 := Scf.iv c0_i32_228 c1_i32_231 k0_t3
  let c512_i32_840 : BitVec 32 := 512#32
  let v1526 : BitVec 32 := Scalar.muli arg21 c512_i32_840
  v1526
def k0_off18 (i : grid0.Coords) (k0_t3 : Fin (k0_t3_loop i).trips) : Fin 2 → Nat :=
  let c0_i32_228 : BitVec 32 := 0#32
  let c1_i32_231 : BitVec 32 := 1#32
  let arg21 : BitVec 32 := Scf.iv c0_i32_228 c1_i32_231 k0_t3
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off19 (i : grid0.Coords) (k0_t3 : Fin (k0_t3_loop i).trips) : Fin 2 → Nat :=
  let c96_846 : Index := 96#32
  let c0_i32_228 : BitVec 32 := 0#32
  let c1_i32_231 : BitVec 32 := 1#32
  let arg21 : BitVec 32 := Scf.iv c0_i32_228 c1_i32_231 k0_t3
  let c512_i32_840 : BitVec 32 := 512#32
  let v1526 : BitVec 32 := Scalar.muli arg21 c512_i32_840
  let v1527 : BitVec 32 := v1526
  let v1537 : Index := Scalar.indexCast v1527
  ![96, v1537.toNat]
def k0_off20 (i : grid0.Coords) (k0_t3 : Fin (k0_t3_loop i).trips) : Fin 4 → Nat :=
  let c0_852 : Index := 0#32
  let c1_853 : Index := 1#32
  let c0_i32_228 : BitVec 32 := 0#32
  let c1_i32_231 : BitVec 32 := 1#32
  let arg21 : BitVec 32 := Scf.iv c0_i32_228 c1_i32_231 k0_t3
  let c512_i32_840 : BitVec 32 := 512#32
  let v1526 : BitVec 32 := Scalar.muli arg21 c512_i32_840
  let v1527 : BitVec 32 := v1526
  let v1546 : Index := Scalar.indexCast v1527
  let c0_854 : Index := 0#32
  ![0, 1, v1546.toNat, 0]
@[reducible] def k0_t4_loop (i : grid0.Coords) : Scf.Loop 32 :=
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let v429 : BitVec 32 := Scalar.addi c0_i32_228 v428
  let c1_i32_232 : BitVec 32 := 1#32
  ⟨v432, v429, c1_i32_232⟩
def k0_mult6 (i : grid0.Coords) (k0_t4 : Fin (k0_t4_loop i).trips) : BitVec 32 :=
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let c1_i32_232 : BitVec 32 := 1#32
  let arg21 : BitVec 32 := Scf.iv v432 c1_i32_232 k0_t4
  let c512_i32_840 : BitVec 32 := 512#32
  let v1526 : BitVec 32 := Scalar.muli arg21 c512_i32_840
  v1526
def k0_off21 (i : grid0.Coords) (k0_t4 : Fin (k0_t4_loop i).trips) : Fin 2 → Nat :=
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let c1_i32_232 : BitVec 32 := 1#32
  let arg21 : BitVec 32 := Scf.iv v432 c1_i32_232 k0_t4
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off22 (i : grid0.Coords) (k0_t4 : Fin (k0_t4_loop i).trips) : Fin 2 → Nat :=
  let c96_846 : Index := 96#32
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let c1_i32_232 : BitVec 32 := 1#32
  let arg21 : BitVec 32 := Scf.iv v432 c1_i32_232 k0_t4
  let c512_i32_840 : BitVec 32 := 512#32
  let v1526 : BitVec 32 := Scalar.muli arg21 c512_i32_840
  let v1527 : BitVec 32 := v1526
  let v1537 : Index := Scalar.indexCast v1527
  ![96, v1537.toNat]
def k0_off23 (i : grid0.Coords) (k0_t4 : Fin (k0_t4_loop i).trips) : Fin 4 → Nat :=
  let c0_852 : Index := 0#32
  let c1_853 : Index := 1#32
  let c0_i32_228 : BitVec 32 := 0#32
  let arg0 : BitVec 32 := BitVec.ofNat 32 (i 0).val
  let c1_i32_227 : BitVec 32 := 1#32
  let v427 : BitVec 32 := Scalar.subi arg0 c1_i32_227
  let v428 : BitVec 32 := Scalar.subi v427 c0_i32_228
  let c1_i32_230 : BitVec 32 := 1#32
  let v430 : BitVec 32 := Scalar.divsi v428 c1_i32_230
  let v431 : BitVec 32 := Scalar.muli v430 c1_i32_230
  let v432 : BitVec 32 := Scalar.addi c0_i32_228 v431
  let c1_i32_232 : BitVec 32 := 1#32
  let arg21 : BitVec 32 := Scf.iv v432 c1_i32_232 k0_t4
  let c512_i32_840 : BitVec 32 := 512#32
  let v1526 : BitVec 32 := Scalar.muli arg21 c512_i32_840
  let v1527 : BitVec 32 := v1526
  let v1546 : Index := Scalar.indexCast v1527
  let c0_854 : Index := 0#32
  ![0, 1, v1546.toNat, 0]
def k0_cond2 (i : grid0.Coords) : BitVec 1 :=
  let arg0 : BitVec 32 := BitVec.ofNat 32 (i 0).val
  let c0_i32_233 : BitVec 32 := 0#32
  let v435 : BitVec 1 := Scalar.cmpi .sgt arg0 c0_i32_233
  let v436 : BitVec 32 := Scalar.extui v435
  let c0_i32_234 : BitVec 32 := 0#32
  let v437 : BitVec 1 := Scalar.cmpi .ne v436 c0_i32_234
  v437

def k0_mult7 (i : grid0.Coords) : BitVec 32 :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  v1527
def k0_off24 (i : grid0.Coords) : Fin 2 → Nat :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1529 : Index := Scalar.indexCast v1528
  let c0_842 : Index := 0#32
  ![v1529.toNat, 0]
def k0_off25 (i : grid0.Coords) : Fin 2 → Nat :=
  let c96_847 : Index := 96#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1538 : Index := Scalar.indexCast v1528
  ![96, v1538.toNat]
def k0_off26 (i : grid0.Coords) : Fin 4 → Nat :=
  let c0_853 : Index := 0#32
  let c1_854 : Index := 1#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1547 : Index := Scalar.indexCast v1528
  let c0_855 : Index := 0#32
  ![0, 1, v1547.toNat, 0]
def k0_mult8 (i : grid0.Coords) : BitVec 32 :=
  let arg0 : BitVec 32 := BitVec.ofNat 32 (i 0).val
  let c512_i32_235 : BitVec 32 := 512#32
  let v438 : BitVec 32 := Scalar.muli arg0 c512_i32_235
  v438
def k0_off27 (i : grid0.Coords) (c0_i32_236 : BitVec 32) : Fin 2 → Nat :=
  let c96_241 : Index := 96#32
  let arg0 : BitVec 32 := BitVec.ofNat 32 (i 0).val
  let c512_i32_235 : BitVec 32 := 512#32
  let v438 : BitVec 32 := Scalar.muli arg0 c512_i32_235
  let v439 : BitVec 32 := v438
  let v440 : BitVec 32 := Scalar.addi v439 c0_i32_236
  let v450 : Index := Scalar.indexCast v440
  ![96, v450.toNat]
def k0_off28 (i : grid0.Coords) (c0_i32_236 : BitVec 32) : Fin 4 → Nat :=
  let c0_247 : Index := 0#32
  let c1_248 : Index := 1#32
  let arg0 : BitVec 32 := BitVec.ofNat 32 (i 0).val
  let c512_i32_235 : BitVec 32 := 512#32
  let v438 : BitVec 32 := Scalar.muli arg0 c512_i32_235
  let v439 : BitVec 32 := v438
  let v440 : BitVec 32 := Scalar.addi v439 c0_i32_236
  let v459 : Index := Scalar.indexCast v440
  let c0_249 : Index := 0#32
  ![0, 1, v459.toNat, 0]
@[reducible] def k0_t5_loop (i : grid0.Coords) : Scf.Loop 32 :=
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let c1_i32_457 : BitVec 32 := 1#32
  ⟨c0_i32_454, v827, c1_i32_457⟩
def k0_mult9 (i : grid0.Coords) (k0_t5 : Fin (k0_t5_loop i).trips) : BitVec 32 :=
  let c0_i32_454 : BitVec 32 := 0#32
  let c1_i32_457 : BitVec 32 := 1#32
  let arg21 : BitVec 32 := Scf.iv c0_i32_454 c1_i32_457 k0_t5
  let c512_i32_840 : BitVec 32 := 512#32
  let v1526 : BitVec 32 := Scalar.muli arg21 c512_i32_840
  v1526
def k0_off29 (i : grid0.Coords) (k0_t5 : Fin (k0_t5_loop i).trips) : Fin 2 → Nat :=
  let c0_i32_454 : BitVec 32 := 0#32
  let c1_i32_457 : BitVec 32 := 1#32
  let arg21 : BitVec 32 := Scf.iv c0_i32_454 c1_i32_457 k0_t5
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off30 (i : grid0.Coords) (k0_t5 : Fin (k0_t5_loop i).trips) : Fin 2 → Nat :=
  let c0_846 : Index := 0#32
  let c0_i32_454 : BitVec 32 := 0#32
  let c1_i32_457 : BitVec 32 := 1#32
  let arg21 : BitVec 32 := Scf.iv c0_i32_454 c1_i32_457 k0_t5
  let c512_i32_840 : BitVec 32 := 512#32
  let v1526 : BitVec 32 := Scalar.muli arg21 c512_i32_840
  let v1527 : BitVec 32 := v1526
  let v1537 : Index := Scalar.indexCast v1527
  ![0, v1537.toNat]
def k0_off31 (i : grid0.Coords) (k0_t5 : Fin (k0_t5_loop i).trips) : Fin 4 → Nat :=
  let c0_852 : Index := 0#32
  let c2_853 : Index := 2#32
  let c0_i32_454 : BitVec 32 := 0#32
  let c1_i32_457 : BitVec 32 := 1#32
  let arg21 : BitVec 32 := Scf.iv c0_i32_454 c1_i32_457 k0_t5
  let c512_i32_840 : BitVec 32 := 512#32
  let v1526 : BitVec 32 := Scalar.muli arg21 c512_i32_840
  let v1527 : BitVec 32 := v1526
  let v1546 : Index := Scalar.indexCast v1527
  let c0_854 : Index := 0#32
  ![0, 2, v1546.toNat, 0]
@[reducible] def k0_t6_loop (i : grid0.Coords) : Scf.Loop 32 :=
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let v824 : BitVec 32 := Scalar.addi c0_i32_454 v823
  let c1_i32_458 : BitVec 32 := 1#32
  ⟨v827, v824, c1_i32_458⟩
def k0_mult10 (i : grid0.Coords) (k0_t6 : Fin (k0_t6_loop i).trips) : BitVec 32 :=
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let c1_i32_458 : BitVec 32 := 1#32
  let arg21 : BitVec 32 := Scf.iv v827 c1_i32_458 k0_t6
  let c512_i32_840 : BitVec 32 := 512#32
  let v1526 : BitVec 32 := Scalar.muli arg21 c512_i32_840
  v1526
def k0_off32 (i : grid0.Coords) (k0_t6 : Fin (k0_t6_loop i).trips) : Fin 2 → Nat :=
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let c1_i32_458 : BitVec 32 := 1#32
  let arg21 : BitVec 32 := Scf.iv v827 c1_i32_458 k0_t6
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off33 (i : grid0.Coords) (k0_t6 : Fin (k0_t6_loop i).trips) : Fin 2 → Nat :=
  let c0_846 : Index := 0#32
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let c1_i32_458 : BitVec 32 := 1#32
  let arg21 : BitVec 32 := Scf.iv v827 c1_i32_458 k0_t6
  let c512_i32_840 : BitVec 32 := 512#32
  let v1526 : BitVec 32 := Scalar.muli arg21 c512_i32_840
  let v1527 : BitVec 32 := v1526
  let v1537 : Index := Scalar.indexCast v1527
  ![0, v1537.toNat]
def k0_off34 (i : grid0.Coords) (k0_t6 : Fin (k0_t6_loop i).trips) : Fin 4 → Nat :=
  let c0_852 : Index := 0#32
  let c2_853 : Index := 2#32
  let c0_i32_454 : BitVec 32 := 0#32
  let arg0 : BitVec 32 := BitVec.ofNat 32 (i 0).val
  let c1_i32_453 : BitVec 32 := 1#32
  let v822 : BitVec 32 := Scalar.subi arg0 c1_i32_453
  let v823 : BitVec 32 := Scalar.subi v822 c0_i32_454
  let c1_i32_456 : BitVec 32 := 1#32
  let v825 : BitVec 32 := Scalar.divsi v823 c1_i32_456
  let v826 : BitVec 32 := Scalar.muli v825 c1_i32_456
  let v827 : BitVec 32 := Scalar.addi c0_i32_454 v826
  let c1_i32_458 : BitVec 32 := 1#32
  let arg21 : BitVec 32 := Scf.iv v827 c1_i32_458 k0_t6
  let c512_i32_840 : BitVec 32 := 512#32
  let v1526 : BitVec 32 := Scalar.muli arg21 c512_i32_840
  let v1527 : BitVec 32 := v1526
  let v1546 : Index := Scalar.indexCast v1527
  let c0_854 : Index := 0#32
  ![0, 2, v1546.toNat, 0]
def k0_cond3 (i : grid0.Coords) : BitVec 1 :=
  let arg0 : BitVec 32 := BitVec.ofNat 32 (i 0).val
  let c0_i32_459 : BitVec 32 := 0#32
  let v830 : BitVec 1 := Scalar.cmpi .sgt arg0 c0_i32_459
  let v831 : BitVec 32 := Scalar.extui v830
  let c0_i32_460 : BitVec 32 := 0#32
  let v832 : BitVec 1 := Scalar.cmpi .ne v831 c0_i32_460
  v832

def k0_mult11 (i : grid0.Coords) : BitVec 32 :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  v1527
def k0_off35 (i : grid0.Coords) : Fin 2 → Nat :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1529 : Index := Scalar.indexCast v1528
  let c0_842 : Index := 0#32
  ![v1529.toNat, 0]
def k0_off36 (i : grid0.Coords) : Fin 2 → Nat :=
  let c0_847 : Index := 0#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1538 : Index := Scalar.indexCast v1528
  ![0, v1538.toNat]
def k0_off37 (i : grid0.Coords) : Fin 4 → Nat :=
  let c0_853 : Index := 0#32
  let c2_854 : Index := 2#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1547 : Index := Scalar.indexCast v1528
  let c0_855 : Index := 0#32
  ![0, 2, v1547.toNat, 0]
def k0_mult12 (i : grid0.Coords) : BitVec 32 :=
  let arg0 : BitVec 32 := BitVec.ofNat 32 (i 0).val
  let c512_i32_461 : BitVec 32 := 512#32
  let v833 : BitVec 32 := Scalar.muli arg0 c512_i32_461
  v833
def k0_off38 (i : grid0.Coords) (c0_i32_462 : BitVec 32) : Fin 4 → Nat :=
  let c0_474 : Index := 0#32
  let c2_475 : Index := 2#32
  let arg0 : BitVec 32 := BitVec.ofNat 32 (i 0).val
  let c512_i32_461 : BitVec 32 := 512#32
  let v833 : BitVec 32 := Scalar.muli arg0 c512_i32_461
  let v834 : BitVec 32 := v833
  let v835 : BitVec 32 := Scalar.addi v834 c0_i32_462
  let v854 : Index := Scalar.indexCast v835
  let c0_476 : Index := 0#32
  ![0, 2, v854.toNat, 0]
@[reducible] def k0_t7_loop (i : grid0.Coords) : Scf.Loop 32 :=
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let c1_i32_668 : BitVec 32 := 1#32
  ⟨c0_i32_665, v1204, c1_i32_668⟩
def k0_mult13 (i : grid0.Coords) (k0_t7 : Fin (k0_t7_loop i).trips) : BitVec 32 :=
  let c0_i32_665 : BitVec 32 := 0#32
  let c1_i32_668 : BitVec 32 := 1#32
  let arg21 : BitVec 32 := Scf.iv c0_i32_665 c1_i32_668 k0_t7
  let c512_i32_840 : BitVec 32 := 512#32
  let v1526 : BitVec 32 := Scalar.muli arg21 c512_i32_840
  v1526
def k0_off39 (i : grid0.Coords) (k0_t7 : Fin (k0_t7_loop i).trips) : Fin 2 → Nat :=
  let c0_i32_665 : BitVec 32 := 0#32
  let c1_i32_668 : BitVec 32 := 1#32
  let arg21 : BitVec 32 := Scf.iv c0_i32_665 c1_i32_668 k0_t7
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off40 (i : grid0.Coords) (k0_t7 : Fin (k0_t7_loop i).trips) : Fin 2 → Nat :=
  let c96_846 : Index := 96#32
  let c0_i32_665 : BitVec 32 := 0#32
  let c1_i32_668 : BitVec 32 := 1#32
  let arg21 : BitVec 32 := Scf.iv c0_i32_665 c1_i32_668 k0_t7
  let c512_i32_840 : BitVec 32 := 512#32
  let v1526 : BitVec 32 := Scalar.muli arg21 c512_i32_840
  let v1527 : BitVec 32 := v1526
  let v1537 : Index := Scalar.indexCast v1527
  ![96, v1537.toNat]
def k0_off41 (i : grid0.Coords) (k0_t7 : Fin (k0_t7_loop i).trips) : Fin 4 → Nat :=
  let c0_852 : Index := 0#32
  let c3_853 : Index := 3#32
  let c0_i32_665 : BitVec 32 := 0#32
  let c1_i32_668 : BitVec 32 := 1#32
  let arg21 : BitVec 32 := Scf.iv c0_i32_665 c1_i32_668 k0_t7
  let c512_i32_840 : BitVec 32 := 512#32
  let v1526 : BitVec 32 := Scalar.muli arg21 c512_i32_840
  let v1527 : BitVec 32 := v1526
  let v1546 : Index := Scalar.indexCast v1527
  let c0_854 : Index := 0#32
  ![0, 3, v1546.toNat, 0]
@[reducible] def k0_t8_loop (i : grid0.Coords) : Scf.Loop 32 :=
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let v1201 : BitVec 32 := Scalar.addi c0_i32_665 v1200
  let c1_i32_669 : BitVec 32 := 1#32
  ⟨v1204, v1201, c1_i32_669⟩
def k0_mult14 (i : grid0.Coords) (k0_t8 : Fin (k0_t8_loop i).trips) : BitVec 32 :=
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let c1_i32_669 : BitVec 32 := 1#32
  let arg21 : BitVec 32 := Scf.iv v1204 c1_i32_669 k0_t8
  let c512_i32_840 : BitVec 32 := 512#32
  let v1526 : BitVec 32 := Scalar.muli arg21 c512_i32_840
  v1526
def k0_off42 (i : grid0.Coords) (k0_t8 : Fin (k0_t8_loop i).trips) : Fin 2 → Nat :=
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let c1_i32_669 : BitVec 32 := 1#32
  let arg21 : BitVec 32 := Scf.iv v1204 c1_i32_669 k0_t8
  let c512_i32_840 : BitVec 32 := 512#32
  let v1526 : BitVec 32 := Scalar.muli arg21 c512_i32_840
  let v1527 : BitVec 32 := v1526
  let v1528 : Index := Scalar.indexCast v1527
  let c0_841 : Index := 0#32
  ![v1528.toNat, 0]
def k0_off43 (i : grid0.Coords) (k0_t8 : Fin (k0_t8_loop i).trips) : Fin 2 → Nat :=
  let c96_846 : Index := 96#32
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let c1_i32_669 : BitVec 32 := 1#32
  let arg21 : BitVec 32 := Scf.iv v1204 c1_i32_669 k0_t8
  let c512_i32_840 : BitVec 32 := 512#32
  let v1526 : BitVec 32 := Scalar.muli arg21 c512_i32_840
  let v1527 : BitVec 32 := v1526
  let v1537 : Index := Scalar.indexCast v1527
  ![96, v1537.toNat]
def k0_off44 (i : grid0.Coords) (k0_t8 : Fin (k0_t8_loop i).trips) : Fin 4 → Nat :=
  let c0_852 : Index := 0#32
  let c3_853 : Index := 3#32
  let c0_i32_665 : BitVec 32 := 0#32
  let arg0 : BitVec 32 := BitVec.ofNat 32 (i 0).val
  let c1_i32_664 : BitVec 32 := 1#32
  let v1199 : BitVec 32 := Scalar.subi arg0 c1_i32_664
  let v1200 : BitVec 32 := Scalar.subi v1199 c0_i32_665
  let c1_i32_667 : BitVec 32 := 1#32
  let v1202 : BitVec 32 := Scalar.divsi v1200 c1_i32_667
  let v1203 : BitVec 32 := Scalar.muli v1202 c1_i32_667
  let v1204 : BitVec 32 := Scalar.addi c0_i32_665 v1203
  let c1_i32_669 : BitVec 32 := 1#32
  let arg21 : BitVec 32 := Scf.iv v1204 c1_i32_669 k0_t8
  let c512_i32_840 : BitVec 32 := 512#32
  let v1526 : BitVec 32 := Scalar.muli arg21 c512_i32_840
  let v1527 : BitVec 32 := v1526
  let v1546 : Index := Scalar.indexCast v1527
  let c0_854 : Index := 0#32
  ![0, 3, v1546.toNat, 0]
def k0_cond4 (i : grid0.Coords) : BitVec 1 :=
  let arg0 : BitVec 32 := BitVec.ofNat 32 (i 0).val
  let c0_i32_670 : BitVec 32 := 0#32
  let v1207 : BitVec 1 := Scalar.cmpi .sgt arg0 c0_i32_670
  let v1208 : BitVec 32 := Scalar.extui v1207
  let c0_i32_671 : BitVec 32 := 0#32
  let v1209 : BitVec 1 := Scalar.cmpi .ne v1208 c0_i32_671
  v1209

def k0_mult15 (i : grid0.Coords) : BitVec 32 :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  v1527
def k0_off45 (i : grid0.Coords) : Fin 2 → Nat :=
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1529 : Index := Scalar.indexCast v1528
  let c0_842 : Index := 0#32
  ![v1529.toNat, 0]
def k0_off46 (i : grid0.Coords) : Fin 2 → Nat :=
  let c96_847 : Index := 96#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1538 : Index := Scalar.indexCast v1528
  ![96, v1538.toNat]
def k0_off47 (i : grid0.Coords) : Fin 4 → Nat :=
  let c0_853 : Index := 0#32
  let c3_854 : Index := 3#32
  let arg0 : BitVec 32 := BitVec.ofNat 32 (i 0).val
  let c1_i32_840 : BitVec 32 := 1#32
  let v1526 : BitVec 32 := Scalar.subi arg0 c1_i32_840
  let c512_i32_841 : BitVec 32 := 512#32
  let v1527 : BitVec 32 := Scalar.muli v1526 c512_i32_841
  let v1528 : BitVec 32 := v1527
  let v1547 : Index := Scalar.indexCast v1528
  let c0_855 : Index := 0#32
  ![0, 3, v1547.toNat, 0]
def k0_mult16 (i : grid0.Coords) : BitVec 32 :=
  let arg0 : BitVec 32 := BitVec.ofNat 32 (i 0).val
  let c512_i32_672 : BitVec 32 := 512#32
  let v1210 : BitVec 32 := Scalar.muli arg0 c512_i32_672
  v1210
def k0_off48 (i : grid0.Coords) (c0_i32_673 : BitVec 32) : Fin 4 → Nat :=
  let c0_684 : Index := 0#32
  let c3_685 : Index := 3#32
  let arg0 : BitVec 32 := BitVec.ofNat 32 (i 0).val
  let c512_i32_672 : BitVec 32 := 512#32
  let v1210 : BitVec 32 := Scalar.muli arg0 c512_i32_672
  let v1211 : BitVec 32 := v1210
  let v1212 : BitVec 32 := Scalar.addi v1211 c0_i32_673
  let v1231 : Index := Scalar.indexCast v1212
  let c0_686 : Index := 0#32
  ![0, 3, v1231.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat, arg0.toNat]

def cc0_transform_4 (i : grid0.Coords) : Fin 4 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c47_i32 : BitVec 32 := 47#32
  let v1 : BitVec 32 := Scalar.minsi v0 c47_i32
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v27.toNat, c0_i32_10.toNat, c0_i32_11.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c23_i32 : BitVec 32 := 23#32
  let v2 : BitVec 32 := Scalar.minsi v1 c23_i32
  let c12_i32 : BitVec 32 := 12#32
  let v3 : BitVec 32 := Scalar.divsi v2 c12_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c12_i32 c0_i32_2
  let v10 : BitVec 32 := Scalar.extui v9
  let c0_i32_3 : BitVec 32 := 0#32
  let v11 : BitVec 1 := Scalar.cmpi .slt c12_i32 c0_i32_3
  let v12 : BitVec 32 := Scalar.extui v11
  let v13 : BitVec 32 := Scalar.subi v10 v12
  let v14 : BitVec 1 := Scalar.cmpi .ne v8 v13
  let v15 : BitVec 32 := Scalar.remsi v2 c12_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c12_i32_6 : BitVec 32 := 12#32
  let c0_i32_7 : BitVec 32 := 0#32
  let v20 : BitVec 1 := Scalar.cmpi .eq c12_i32_6 c0_i32_7
  let c1_i32_8 : BitVec 32 := 1#32
  let v21 : BitVec 32 := Scalar.select v20 c1_i32_8 c12_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, arg0.toNat, v29.toNat]

abbrev stage0_0 : Fin 1 → Memref sig .tc .smem S96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x384x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S192x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S192x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
variable {F : FTy → Type} [FloatOps F] [Named F]
def κ : String → Option EReal := fun
  | "log2e" => some (((Real.log 2)⁻¹ : ℝ) : EReal)
  | _ => none
-- ==== Reference.lean ====
abbrev S2x8192x48x96 : Shape := ⟨4, ![2, 8192, 48, 96]⟩
abbrev S2x48 : Shape := ⟨2, ![2, 48]⟩
abbrev S48x256x128 : Shape := ⟨3, ![48, 256, 128]⟩
abbrev S2x48x8192x96 : Shape := ⟨4, ![2, 48, 8192, 96]⟩
abbrev S96x8192x96 : Shape := ⟨3, ![96, 8192, 96]⟩
abbrev S96x1x1 : Shape := ⟨3, ![96, 1, 1]⟩
abbrev S48x128x128 : Shape := ⟨3, ![48, 128, 128]⟩
abbrev S48x1x128x1x128 : Shape := ⟨5, ![48, 1, 128, 1, 128]⟩
abbrev S1x64x1x64x1 : Shape := ⟨5, ![1, 64, 1, 64, 1]⟩
abbrev S48x64x128x64x128 : Shape := ⟨5, ![48, 64, 128, 64, 128]⟩
abbrev S_ : Shape := ⟨0, ![]⟩
abbrev S48x8192x8192 : Shape := ⟨3, ![48, 8192, 8192]⟩
abbrev S1x48x8192x8192 : Shape := ⟨4, ![1, 48, 8192, 8192]⟩
abbrev S2x48x8192x8192 : Shape := ⟨4, ![2, 48, 8192, 8192]⟩
abbrev S96x8192x8192 : Shape := ⟨3, ![96, 8192, 8192]⟩
abbrev S2x8192x4608 : Shape := ⟨3, ![2, 8192, 4608]⟩
abbrev S96x8192 : Shape := ⟨2, ![96, 8192]⟩
abbrev S96x8192x1 : Shape := ⟨3, ![96, 8192, 1]⟩

abbrev nBuf : Space → Nat
  | .hbm => 48
  | .vmem => 7
  | .smem => 0
  | _ => 0

abbrev bufTy : (tb : Table) → Fin (tcTables nBuf tb) → BufTy
  | .hbm, ⟨0, _⟩ => ⟨S2x8192x48x96, .fp8e4m3⟩
  | .hbm, ⟨1, _⟩ => ⟨S2x8192x48x96, .fp8e4m3⟩
  | .hbm, ⟨2, _⟩ => ⟨S2x8192x48x96, .fp8e4m3⟩
  | .hbm, ⟨3, _⟩ => ⟨S2x48, .f32⟩
  | .hbm, ⟨4, _⟩ => ⟨S2x48, .f32⟩
  | .hbm, ⟨5, _⟩ => ⟨S2x48, .f32⟩
  | .hbm, ⟨6, _⟩ => ⟨S48x256x128, .f32⟩
  | .hbm, ⟨7, _⟩ => ⟨S2x48x8192x96, .fp8e4m3⟩
  | .hbm, ⟨8, _⟩ => ⟨S96x8192x96, .fp8e4m3⟩
  | .hbm, ⟨9, _⟩ => ⟨S2x48x8192x96, .fp8e4m3⟩
  | .hbm, ⟨10, _⟩ => ⟨S96x8192x96, .fp8e4m3⟩
  | .hbm, ⟨11, _⟩ => ⟨S2x48x8192x96, .fp8e4m3⟩
  | .hbm, ⟨12, _⟩ => ⟨S96x8192x96, .fp8e4m3⟩
  | .hbm, ⟨13, _⟩ => ⟨S2x48, .f32⟩
  | .hbm, ⟨14, _⟩ => ⟨S96x1x1, .f32⟩
  | .hbm, ⟨15, _⟩ => ⟨S48x128x128, .f32⟩
  | .hbm, ⟨16, _⟩ => ⟨S48x128x128, .f32⟩
  | .hbm, ⟨17, _⟩ => ⟨S48x1x128x1x128, .f32⟩
  | .hbm, ⟨18, _⟩ => ⟨S48x128x128, .f32⟩
  | .hbm, ⟨19, _⟩ => ⟨S48x128x128, .f32⟩
  | .hbm, ⟨20, _⟩ => ⟨S48x1x128x1x128, .f32⟩
  | .hbm, ⟨21, _⟩ => ⟨S1x64x1x64x1, .i32⟩
  | .hbm, ⟨22, _⟩ => ⟨S1x64x1x64x1, .i32⟩
  | .hbm, ⟨23, _⟩ => ⟨S1x64x1x64x1, .i1⟩
  | .hbm, ⟨24, _⟩ => ⟨S48x64x128x64x128, .i1⟩
  | .hbm, ⟨25, _⟩ => ⟨S48x64x128x64x128, .f32⟩
  | .hbm, ⟨26, _⟩ => ⟨S_, .i32⟩
  | .hbm, ⟨27, _⟩ => ⟨S1x64x1x64x1, .i32⟩
  | .hbm, ⟨28, _⟩ => ⟨S1x64x1x64x1, .i32⟩
  | .hbm, ⟨29, _⟩ => ⟨S1x64x1x64x1, .i1⟩
  | .hbm, ⟨30, _⟩ => ⟨S48x64x128x64x128, .i1⟩
  | .hbm, ⟨31, _⟩ => ⟨S48x64x128x64x128, .f32⟩
  | .hbm, ⟨32, _⟩ => ⟨S_, .f32⟩
  | .hbm, ⟨33, _⟩ => ⟨S48x64x128x64x128, .f32⟩
  | .hbm, ⟨34, _⟩ => ⟨S48x64x128x64x128, .f32⟩
  | .hbm, ⟨35, _⟩ => ⟨S48x64x128x64x128, .f32⟩
  | .hbm, ⟨36, _⟩ => ⟨S48x8192x8192, .f32⟩
  | .hbm, ⟨37, _⟩ => ⟨S48x8192x8192, .i32⟩
  | .hbm, ⟨38, _⟩ => ⟨S48x8192x8192, .i32⟩
  | .hbm, ⟨39, _⟩ => ⟨S48x8192x8192, .i1⟩
  | .hbm, ⟨40, _⟩ => ⟨S_, .f32⟩
  | .hbm, ⟨41, _⟩ => ⟨S48x8192x8192, .f32⟩
  | .hbm, ⟨42, _⟩ => ⟨S48x8192x8192, .f32⟩
  | .hbm, ⟨43, _⟩ => ⟨S1x48x8192x8192, .f32⟩
  | .hbm, ⟨44, _⟩ => ⟨S2x48x8192x8192, .f32⟩
  | .hbm, ⟨45, _⟩ => ⟨S96x8192x8192, .f32⟩
  | .hbm, ⟨46, _⟩ => ⟨S96x1x1, .f32⟩
  | .hbm, ⟨47, _⟩ => ⟨S2x8192x4608, .bf16⟩
  | .local _ .vmem, ⟨0, _⟩ => ⟨S96x8192x96, .fp8e4m3⟩
  | .local _ .vmem, ⟨1, _⟩ => ⟨S96x8192x96, .fp8e4m3⟩
  | .local _ .vmem, ⟨2, _⟩ => ⟨S96x8192x96, .fp8e4m3⟩
  | .local _ .vmem, ⟨3, _⟩ => ⟨S96x1x1, .f32⟩
  | .local _ .vmem, ⟨4, _⟩ => ⟨S96x1x1, .f32⟩
  | .local _ .vmem, ⟨5, _⟩ => ⟨S96x8192x8192, .f32⟩
  | .local _ .vmem, ⟨6, _⟩ => ⟨S2x8192x4608, .bf16⟩
  | _, _ => ⟨S2x8192x48x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S96x8192x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x8192x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x8192x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x8192x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c` held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body at a grid point, from every buffer it touches held whole, runs to its return; the operands it only reads
    keep their contents. -/
theorem bodyRun (c : Dev nD) (i : grid0.Coords) (arg2 : Memref sig .tc .smem S96 .f32) (harg2 : arg2.IsWhole) (arg3 : Memref sig .tc .smem S96 .f32) (harg3 : arg3.IsWhole) (arg4 : Memref sig .tc .smem S96 .f32) (harg4 : arg4.IsWhole) (arg5 : Memref sig .tc .vmem S1x384x512 .fp8e4m3) (harg5 : arg5.IsWhole) (arg6 : Memref sig .tc .vmem S1x4x8192x128 .fp8e4m3) (harg6 : arg6.IsWhole) (arg7 : Memref sig .tc .vmem S192x8192 .fp8e4m3) (harg7 : arg7.IsWhole) (arg8 : Memref sig .tc .vmem S192x8192 .fp8e4m3) (harg8 : arg8.IsWhole) (arg9 : Memref sig .tc .vmem S4x256x128 .f32) (harg9 : arg9.IsWhole) (arg10 : Memref sig .tc .vmem S1x512x384 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S128x512 .fp8e4m3) (harg13 : arg13.IsWhole) (arg14 : Memref sig .tc .vmem S256x128 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S8x512 .f32) (harg19 : arg19.IsWhole) (arg20 : Memref sig .tc .vmem S384x512 .f32) (harg20 : arg20.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc00 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc01 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc10 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc11 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc20 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc21 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc30 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc31 ⟨H6, H8, ⟨%f13, H13⟩, ⟨%f11, H11⟩, ⟨%f12, H12⟩, ⟨%f15, H15⟩, ⟨%f16, H16⟩, ⟨%f20, H20⟩⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.Kernel.Hand

end
-- ==== Proof.KernelFrame.lean ====
module

public import proofs.«01_k».proof.Proof.Gen.Kernel.Frame
public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)

/-- The window forgotten: the output, which no frame claim reads. -/
def forgets : Fin 9 → Bool := fun w => decide (w = 8)

/-- The proof data on core `c`: every input's block left in place, the output unnamed, the scratch held at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m _ (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m _ (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m _ (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m _ (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m _ (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m _ (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m _ (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m _ (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))
/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

set_option maxHeartbeats 1600000 in
/-- The body at the point, from the inputs' blocks and any scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl]
  simp only [before_0, before_1, before_2, before_3, before_4, before_5, before_6, before_7, after_0, after_1, after_2, after_3, after_4, after_5, after_6, after_7]
  rw [owns_eq_pt c (ms0 t) (hs0 t), owns_eq_pt c (ms1 t) (hs1 t), owns_eq_pt c (ms2 t) (hs2 t), owns_eq_pt c (ms3 t) (hs3 t), owns_eq_pt c (ms4 t) (hs4 t), owns_eq_pt c (ms5 t) (hs5 t), owns_eq_pt c (ms6 t) (hs6 t), owns_eq_pt c (ms7 t) (hs7 t)]
  simp only [owns_eq_pt c (ms8 t) (hs8 t)]
  iintro ⟨⟨⟨HS0, HS1, HS2, HS3, HS4, HS5, HS6, HS7, HS8, HS9⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  iapply (bodyRun c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f0 f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [HW]; · iexact HW
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  icases H8 with ⟨%g8, H8⟩
  iexists _, _; isplitr; swap; · iexact H8
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch runs to the frame's post, the output forgotten, with every semaphore counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hΦ := fun _ _ => rfl)

/-- The frame: the run terminates without fault, the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    (by
      have h7 := (h.1 c).1 7
      rw [Pipeline.RDat.ArrAt_in _ _ rfl] at h7
      exact h7.trans (V_main_arg6 m c))⟩, h.2⟩) (run_main m ρ)

end Cert.Kernel.Hand

end
-- ==== Proof.KernelIdealBody.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref's buffer on core `c` held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body at a grid point, from every buffer it touches held whole, runs to its return; the operands it only reads
    keep their contents. -/
theorem bodyRun (c : Dev nD) (i : grid0.Coords) (arg2 : Memref sig .tc .smem S96 .f32) (harg2 : arg2.IsWhole) (arg3 : Memref sig .tc .smem S96 .f32) (harg3 : arg3.IsWhole) (arg4 : Memref sig .tc .smem S96 .f32) (harg4 : arg4.IsWhole) (arg5 : Memref sig .tc .vmem S1x384x512 .fp8e4m3) (harg5 : arg5.IsWhole) (arg6 : Memref sig .tc .vmem S1x4x8192x128 .fp8e4m3) (harg6 : arg6.IsWhole) (arg7 : Memref sig .tc .vmem S192x8192 .fp8e4m3) (harg7 : arg7.IsWhole) (arg8 : Memref sig .tc .vmem S192x8192 .fp8e4m3) (harg8 : arg8.IsWhole) (arg9 : Memref sig .tc .vmem S4x256x128 .f32) (harg9 : arg9.IsWhole) (arg10 : Memref sig .tc .vmem S1x512x384 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S128x512 .fp8e4m3) (harg13 : arg13.IsWhole) (arg14 : Memref sig .tc .vmem S256x128 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S8x512 .f32) (harg19 : arg19.IsWhole) (arg20 : Memref sig .tc .vmem S384x512 .f32) (harg20 : arg20.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)
      ∗ (iprop(pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
    ⊢ wp frame (wpE (defs₀ (F := F)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, Hk⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc00 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc01 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc10 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg7 f7 ∗ (∃ f, pt c arg13 f) ∗ (∃ f, pt c arg11 f) ∗ (∃ f, pt c arg12 f) ∗ (∃ f, pt c arg15 f) ∗ (∃ f, pt c arg16 f) ∗ (∃ f, pt c arg20 f))) $$ [H6 H7 H13 H11 H12 H15 H16 H20]
  · intro k acc
    iintro ⟨H6, H7, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H7]; · iexact H7
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc11 ⟨H6, H7, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc20 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc21 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc30 ⟨H6, H8, ⟨%f13, H13⟩, ⟨%f11, H11⟩, ⟨%f12, H12⟩, ⟨%f15, H15⟩, ⟨%f16, H16⟩, ⟨%f20, H20⟩⟩
  sl_exec
  sl_for (fun _ _ => iprop(pt c arg6 f6 ∗ pt c arg8 f8 ∗ (∃ f, pt c arg13 f) ∗ (∃ f, pt c arg11 f) ∗ (∃ f, pt c arg12 f) ∗ (∃ f, pt c arg15 f) ∗ (∃ f, pt c arg16 f) ∗ (∃ f, pt c arg20 f))) $$ [H6 H8 H13 H11 H12 H15 H16 H20]
  · intro k acc
    iintro ⟨H6, H8, ⟨%f13, H13⟩, ⟨%f11, H11⟩, ⟨%f12, H12⟩, ⟨%f15, H15⟩, ⟨%f16, H16⟩, ⟨%f20, H20⟩⟩
    sl_exec
    sl_step
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  ·
    isplitl [H6]; · iexact H6
    isplitl [H8]; · iexact H8
    isplitl [H13]; · iexists _; iexact H13
    isplitl [H11]; · iexists _; iexact H11
    isplitl [H12]; · iexists _; iexact H12
    isplitl [H15]; · iexists _; iexact H15
    isplitl [H16]; · iexists _; iexact H16
    iexists _; iexact H20
  iintro %acc31 ⟨H6, H8, ⟨%f13, H13⟩, ⟨%f11, H11⟩, ⟨%f12, H12⟩, ⟨%f15, H15⟩, ⟨%f16, H16⟩, ⟨%f20, H20⟩⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Hand

end
-- ==== Proof.KernelIdealFrame.lean ====
module

public import proofs.«01_k».proof.Proof.Gen.KernelIdeal.Frame
public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)

/-- The window forgotten: the output, which no frame claim reads. -/
def forgets : Fin 9 → Bool := fun w => decide (w = 8)

/-- The proof data on core `c`: every input's block left in place, the output unnamed, the scratch held at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m _ (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m _ (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m _ (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m _ (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m _ (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m _ (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m _ (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m _ (A_eq m c 7) (after_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))
/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

set_option maxHeartbeats 1600000 in
/-- The body at the point, from the inputs' blocks and any scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl]
  simp only [before_0, before_1, before_2, before_3, before_4, before_5, before_6, before_7, after_0, after_1, after_2, after_3, after_4, after_5, after_6, after_7]
  rw [owns_eq_pt c (ms0 t) (hs0 t), owns_eq_pt c (ms1 t) (hs1 t), owns_eq_pt c (ms2 t) (hs2 t), owns_eq_pt c (ms3 t) (hs3 t), owns_eq_pt c (ms4 t) (hs4 t), owns_eq_pt c (ms5 t) (hs5 t), owns_eq_pt c (ms6 t) (hs6 t), owns_eq_pt c (ms7 t) (hs7 t)]
  simp only [owns_eq_pt c (ms8 t) (hs8 t)]
  iintro ⟨⟨⟨HS0, HS1, HS2, HS3, HS4, HS5, HS6, HS7, HS8, HS9⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  iapply (bodyRun c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f0 f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [HW]; · iexact HW
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  icases H8 with ⟨%g8, H8⟩
  iexists _, _; isplitr; swap; · iexact H8
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch runs to the frame's post, the output forgotten, with every semaphore counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hΦ := fun _ _ => rfl)

/-- The frame: the run terminates without fault, the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    (by
      have h7 := (h.1 c).1 7
      rw [Pipeline.RDat.ArrAt_in _ _ rfl] at h7
      exact h7.trans (V_main_arg6 m c))⟩, h.2⟩) (run_main m ρ)

end Cert.KernelIdeal.Hand

end
-- ==== Proof.ValueViews.lean ====
module

public import proofs.«01_k».proof.Proof.Gen.KernelIdeal.Frame
public import proofs.«01_k».proof.Proof.Gen.KernelIdeal.Skeleton
public import Idealize.ShloMosaic.Lib.Pointwise
public import Idealize.ShloMosaic.Lib.VecWindow
public import Idealize.ShloMosaic.Lib.WritesUnit

@[expose] public section

set_option maxRecDepth 16384

noncomputable section

namespace Cert.KernelIdeal.Hand

open Idealize.ShloMosaic Idealize.ShloMosaic.Tactic

/-! Buffers as functions of natural-number coordinates, and what loads and stores do to them. -/

/-- A function of one coordinate as a rank-1 array. -/
def mk1 {α : Type} {a : ℕ} (f : ℕ → α) : (⟨1, ![a]⟩ : Shape).Idx → α := fun y => f (y 0).val
/-- A function of two coordinates as a rank-2 array. -/
def mk2 {α : Type} {a b : ℕ} (f : ℕ → ℕ → α) : (⟨2, ![a, b]⟩ : Shape).Idx → α := fun y => f (y 0).val (y 1).val
/-- A function of three coordinates as a rank-3 array. -/
def mk3 {α : Type} {a b c : ℕ} (f : ℕ → ℕ → ℕ → α) : (⟨3, ![a, b, c]⟩ : Shape).Idx → α := fun y => f (y 0).val (y 1).val (y 2).val
/-- A function of four coordinates as a rank-4 array. -/
def mk4 {α : Type} {a b c d : ℕ} (f : ℕ → ℕ → ℕ → ℕ → α) : (⟨4, ![a, b, c, d]⟩ : Shape).Idx → α :=
  fun y => f (y 0).val (y 1).val (y 2).val (y 3).val

/-- A rank-2 array as a function of two natural numbers. -/
def un2 {α : Type} [Inhabited α] {a b : ℕ} (X : (⟨2, ![a, b]⟩ : Shape).Idx → α) : ℕ → ℕ → α :=
  fun i j => if h : i < a ∧ j < b then X (ix2 ⟨i, h.1⟩ ⟨j, h.2⟩) else default
/-- Every rank-2 array is given by a function of two coordinates. -/
theorem mk2_un2 {α : Type} [Inhabited α] {a b : ℕ} (X : (⟨2, ![a, b]⟩ : Shape).Idx → α) : mk2 (un2 X) = X := by
  funext y
  have h : (y 0).val < a ∧ (y 1).val < b := ⟨(y 0).isLt, (y 1).isLt⟩
  show (if h : (y 0).val < a ∧ (y 1).val < b then X (ix2 ⟨(y 0).val, h.1⟩ ⟨(y 1).val, h.2⟩) else default) = X y
  rw [dif_pos h]
  congr 1
  funext a; apply Fin.ext
  match a with
  | ⟨0, _⟩ => rfl
  | ⟨1, _⟩ => rfl

section Loads
variable {Val : EltTy → Type} {sig : RefSig} {κ : Kind} {sp : Space} {e : EltTy}

/-- A load of a whole rank-1 memref through a unit-stride rectangle. -/
theorem ra1 {a : ℕ} {M : Memref sig κ sp ⟨1, ![a]⟩ e} (h : M.IsWhole) (f : ℕ → Val e) {off size : Fin 1 → ℕ} (inb)
    (y : (Rect.unit (s := ⟨1, ![a]⟩) off size inb).shape.Idx) :
    M.view.readAt Val (Rect.unit (s := ⟨1, ![a]⟩) off size inb).toLoadRect (h.unread (mk1 f)) y = f (off 0 + (y 0).val) := by
  rw [View.readAt_unit M.view _ inb rfl inb, h.read_unread]
  show f (off 0 + 1 * (y 0).val) = _
  rw [Nat.one_mul]
/-- A load of a whole rank-2 memref through a unit-stride rectangle. -/
theorem ra2 {a b : ℕ} {M : Memref sig κ sp ⟨2, ![a, b]⟩ e} (h : M.IsWhole) (f : ℕ → ℕ → Val e) {off size : Fin 2 → ℕ} (inb)
    (y : (Rect.unit (s := ⟨2, ![a, b]⟩) off size inb).shape.Idx) :
    M.view.readAt Val (Rect.unit (s := ⟨2, ![a, b]⟩) off size inb).toLoadRect (h.unread (mk2 f)) y
      = f (off 0 + (y 0).val) (off 1 + (y 1).val) := by
  rw [View.readAt_unit M.view _ inb rfl inb, h.read_unread]
  show f (off 0 + 1 * (y 0).val) (off 1 + 1 * (y 1).val) = _
  rw [Nat.one_mul, Nat.one_mul]
/-- A load of a whole rank-3 memref through a unit-stride rectangle. -/
theorem ra3 {a b c : ℕ} {M : Memref sig κ sp ⟨3, ![a, b, c]⟩ e} (h : M.IsWhole) (f : ℕ → ℕ → ℕ → Val e) {off size : Fin 3 → ℕ} (inb)
    (y : (Rect.unit (s := ⟨3, ![a, b, c]⟩) off size inb).shape.Idx) :
    M.view.readAt Val (Rect.unit (s := ⟨3, ![a, b, c]⟩) off size inb).toLoadRect (h.unread (mk3 f)) y
      = f (off 0 + (y 0).val) (off 1 + (y 1).val) (off 2 + (y 2).val) := by
  rw [View.readAt_unit M.view _ inb rfl inb, h.read_unread]
  show f (off 0 + 1 * (y 0).val) (off 1 + 1 * (y 1).val) (off 2 + 1 * (y 2).val) = _
  rw [Nat.one_mul, Nat.one_mul, Nat.one_mul]
/-- A load of a whole rank-4 memref through a unit-stride rectangle. -/
theorem ra4 {a b c d : ℕ} {M : Memref sig κ sp ⟨4, ![a, b, c, d]⟩ e} (h : M.IsWhole) (f : ℕ → ℕ → ℕ → ℕ → Val e) {off size : Fin 4 → ℕ} (inb)
    (y : (Rect.unit (s := ⟨4, ![a, b, c, d]⟩) off size inb).shape.Idx) :
    M.view.readAt Val (Rect.unit (s := ⟨4, ![a, b, c, d]⟩) off size inb).toLoadRect (h.unread (mk4 f)) y
      = f (off 0 + (y 0).val) (off 1 + (y 1).val) (off 2 + (y 2).val) (off 3 + (y 3).val) := by
  rw [View.readAt_unit M.view _ inb rfl inb, h.read_unread]
  show f (off 0 + 1 * (y 0).val) (off 1 + 1 * (y 1).val) (off 2 + 1 * (y 2).val) (off 3 + 1 * (y 3).val) = _
  rw [Nat.one_mul, Nat.one_mul, Nat.one_mul, Nat.one_mul]
/-- A load of a whole rank-2 memref through a slice. -/
theorem raw2 {a b : ℕ} {M : Memref sig κ sp ⟨2, ![a, b]⟩ e} (h : M.IsWhole) (f : ℕ → ℕ → Val e) {off size : Fin 2 → ℕ} (inb)
    {off2 size2 : Fin 2 → ℕ} (inb2) (h₀ : ∀ x, (Rect.unit (s := ⟨2, ![a, b]⟩) off size inb).stride x = 1)
    (y : (Rect.unit (s := (Rect.unit (s := ⟨2, ![a, b]⟩) off size inb).shape) off2 size2 inb2).shape.Idx) :
    M.view.readAt Val ((Rect.unit (s := ⟨2, ![a, b]⟩) off size inb).withinL
        (Rect.unit (s := (Rect.unit (s := ⟨2, ![a, b]⟩) off size inb).shape) off2 size2 inb2).toLoadRect h₀) (h.unread (mk2 f)) y
      = f (off 0 + (off2 0 + (y 0).val)) (off 1 + (off2 1 + (y 1).val)) := by
  show M.view.read Val (h.unread (mk2 f)) (((Rect.unit (s := ⟨2, ![a, b]⟩) off size inb).withinL
    (Rect.unit (s := (Rect.unit (s := ⟨2, ![a, b]⟩) off size inb).shape) off2 size2 inb2).toLoadRect h₀).idx y) = _
  rw [h.read_unread, Rect.idx_withinL]
  show f (off 0 + 1 * (off2 0 + 1 * (y 0).val)) (off 1 + 1 * (off2 1 + 1 * (y 1).val)) = _
  simp only [Nat.one_mul]

/-- The reading of a rank-2 memref after one store through a unit-stride rectangle. -/
theorem read_store_mk2 {a b : ℕ} {M : Memref sig κ sp ⟨2, ![a, b]⟩ e} (g : M.view.ty.Contents Val) (f f' : ℕ → ℕ → Val e)
    (hg : M.view.read Val g = mk2 f) {off : Fin 2 → ℕ} {n0 n1 : ℕ} (inb) (o0 o1 : ℕ) (hoff : off = ![o0, o1])
    (w : (Rect.unit (s := ⟨2, ![a, b]⟩) off (⟨2, ![n0, n1]⟩ : Shape).size inb).shape.Idx → Val e)
    (hin : ∀ (r : Fin n0) (c : Fin n1), w (ix2 r c) = f' (o0 + r.val) (o1 + c.val))
    (hout : ∀ j c, j < a → c < b → ¬ (o0 ≤ j ∧ j < o0 + n0 ∧ o1 ≤ c ∧ c < o1 + n1) → f' j c = f j c) :
    M.view.read Val (M.view.writes Val g [⟨Rect.unit (s := ⟨2, ![a, b]⟩) off (⟨2, ![n0, n1]⟩ : Shape).size inb, w⟩]) = mk2 f' := by
  funext y
  rw [View.read_writes_cons_unit M.view _ inb w [] y hoff, View.writes_nil, hg]
  by_cases hy : ∀ x : Fin 2, (![o0, o1] : Fin 2 → ℕ) x ≤ (y x).val ∧ (y x).val < (![o0, o1] : Fin 2 → ℕ) x + (![n0, n1] : Fin 2 → ℕ) x
  · rw [dif_pos hy]
    have h0 := hy 0; have h1 := hy 1
    simp only [Matrix.cons_val_zero, Matrix.cons_val_one] at h0 h1
    have := hin ⟨(y 0).val - o0, by omega⟩ ⟨(y 1).val - o1, by omega⟩
    refine Eq.trans (congrArg w (a₂ := ix2 ⟨(y 0).val - o0, by omega⟩ ⟨(y 1).val - o1, by omega⟩) ?_) (this.trans ?_)
    · funext x; apply Fin.ext
      match x with
      | ⟨0, _⟩ => rfl
      | ⟨1, _⟩ => rfl
    · show f' (o0 + ((y 0).val - o0)) (o1 + ((y 1).val - o1)) = f' (y 0).val (y 1).val
      congr 1 <;> omega
  · rw [dif_neg hy]
    refine (hout _ _ (y 0).isLt (y 1).isLt fun h => hy ?_).symm
    exact Fin.forall_fin_two.mpr ⟨⟨h.1, h.2.1⟩, ⟨h.2.2.1, h.2.2.2⟩⟩

/-- The reading of a rank-2 memref after one store through a slice. -/
theorem read_store_within_mk2 {a b : ℕ} {M : Memref sig κ sp ⟨2, ![a, b]⟩ e} (g : M.view.ty.Contents Val) (f f' : ℕ → ℕ → Val e)
    (hg : M.view.read Val g = mk2 f) {off size : Fin 2 → ℕ} (inb) {off2 : Fin 2 → ℕ} {n0 n1 : ℕ} (inb2) (o0 o1 : ℕ)
    (h0 : off 0 + off2 0 = o0) (h1 : off 1 + off2 1 = o1) (h₀)
    (w : (Rect.unit (s := (Rect.unit (s := ⟨2, ![a, b]⟩) off size inb).shape) off2 (⟨2, ![n0, n1]⟩ : Shape).size inb2).shape.Idx → Val e)
    (hin : ∀ (r : Fin n0) (c : Fin n1), w (ix2 r c) = f' (o0 + r.val) (o1 + c.val))
    (hout : ∀ j c, j < a → c < b → ¬ (o0 ≤ j ∧ j < o0 + n0 ∧ o1 ≤ c ∧ c < o1 + n1) → f' j c = f j c) :
    M.view.read Val (M.view.writes Val g [⟨(Rect.unit (s := ⟨2, ![a, b]⟩) off size inb).within
      (Rect.unit (s := (Rect.unit (s := ⟨2, ![a, b]⟩) off size inb).shape) off2 (⟨2, ![n0, n1]⟩ : Shape).size inb2) h₀, w⟩]) = mk2 f' := by
  have inb' : ∀ x : Fin 2, off x + off2 x + (![n0, n1] : Fin 2 → ℕ) x ≤ (![a, b] : Fin 2 → ℕ) x := fun x => by
    have i1 := inb x; have i2 := inb2 x
    have e1 : (Rect.unit (s := ⟨2, ![a, b]⟩) off size inb).shape.size x = size x := rfl
    rw [e1] at i2
    have e2 : (⟨2, ![n0, n1]⟩ : Shape).size x = (![n0, n1] : Fin 2 → ℕ) x := rfl
    have e3 : (⟨2, ![a, b]⟩ : Shape).size x = (![a, b] : Fin 2 → ℕ) x := rfl
    omega
  exact read_store_mk2 g f f' hg (off := fun x => off x + off2 x) inb' o0 o1
    (by funext x; match x with
        | ⟨0, _⟩ => exact h0
        | ⟨1, _⟩ => exact h1) w hin hout

/-- The reading of a rank-2 memref after a store over all of it. -/
theorem read_whole_mk2 {a b : ℕ} {M : Memref sig κ sp ⟨2, ![a, b]⟩ e} (g : M.view.ty.Contents Val) (f' : ℕ → ℕ → Val e)
    {off : Fin 2 → ℕ} (inb) (L)
    (w : (Rect.unit (s := ⟨2, ![a, b]⟩) off (⟨2, ![a, b]⟩ : Shape).size inb).shape.Idx → Val e)
    (hin : ∀ (r : Fin a) (c : Fin b), w (ix2 r c) = f' r.val c.val) :
    M.view.read Val (M.view.writes Val g (⟨Rect.unit (s := ⟨2, ![a, b]⟩) off (⟨2, ![a, b]⟩ : Shape).size inb, w⟩ :: L)) = mk2 f' := by
  rw [View.read_writes_full]
  funext y
  have e : y = ix2 (n0 := a) (n1 := b) (y 0) (y 1) := by
    funext x; apply Fin.ext
    match x with
    | ⟨0, _⟩ => rfl
    | ⟨1, _⟩ => rfl
  rw [e]; exact hin _ _

/-- The reading of a rank-2 memref after two stores of row blocks that cover it. -/
theorem read_rows2_mk2 {a b n m : ℕ} {M : Memref sig κ sp ⟨2, ![a, b]⟩ e} (g : M.view.ty.Contents Val) (f' : ℕ → ℕ → Val e)
    (inb inb2) (hnm : n + m = a)
    (w : (Rect.unit (s := ⟨2, ![a, b]⟩) ![0, 0] (⟨2, ![n, b]⟩ : Shape).size inb).shape.Idx → Val e)
    (w2 : (Rect.unit (s := ⟨2, ![a, b]⟩) ![n, 0] (⟨2, ![m, b]⟩ : Shape).size inb2).shape.Idx → Val e)
    (hin : ∀ (r : Fin n) (c : Fin b), w (ix2 r c) = f' r.val c.val)
    (hin2 : ∀ (r : Fin m) (c : Fin b), w2 (ix2 r c) = f' (n + r.val) c.val) :
    M.view.read Val (M.view.writes Val g [⟨Rect.unit (s := ⟨2, ![a, b]⟩) ![n, 0] (⟨2, ![m, b]⟩ : Shape).size inb2, w2⟩,
      ⟨Rect.unit (s := ⟨2, ![a, b]⟩) ![0, 0] (⟨2, ![n, b]⟩ : Shape).size inb, w⟩]) = mk2 f' := by
  funext y
  have hy1 : (y 1).val < b := (y 1).isLt
  have hy0 : (y 0).val < a := (y 0).isLt
  by_cases hy : (y 0).val < n
  · rw [View.read_writes_cons_unit_of_not_mem M.view g inb2 w2 _ y rfl 0 (.inl hy)]
    rw [View.read_writes_cons_unit_of_mem M.view g inb w [] y (ix2 (n0 := n) (n1 := b) ⟨(y 0).val, hy⟩ ⟨(y 1).val, hy1⟩) rfl
      (Fin.forall_fin_two.mpr ⟨(Nat.zero_add _).symm, (Nat.zero_add _).symm⟩)]
    exact hin _ _
  · rw [View.read_writes_cons_unit_of_mem M.view g inb2 w2 _ y
      (ix2 (n0 := m) (n1 := b) ⟨(y 0).val - n, by omega⟩ ⟨(y 1).val, hy1⟩) rfl
      (Fin.forall_fin_two.mpr ⟨by show (y 0).val = n + ((y 0).val - n); omega, (Nat.zero_add _).symm⟩)]
    rw [hin2]
    show f' (n + ((y 0).val - n)) (y 1).val = f' (y 0).val (y 1).val
    congr 1; omega

end Loads

end Cert.KernelIdeal.Hand

end
-- ==== Proof.ValueSteps.lean ====
module

public import proofs.«01_k».proof.Proof.ValueViews

@[expose] public section

set_option maxRecDepth 16384

noncomputable section

namespace Cert.KernelIdeal.Hand

open Idealize.ShloMosaic Idealize.ShloMosaic.Tactic
open Finset (range)

/-! The stages of the attention body as functions of natural-number coordinates. `A` is the buffer whose scores are being
    replaced (it holds the exponentials of two heads ago), `B` the buffer holding the scores of the head before. A vector
    `T` gives, for each query column, how many keys have been gone through. -/

/-- What one head step reads: the query block `qi`, keys, queries (padded), the scaled bias tiles, values and their first
    output row, the factor of the exponent, the value scale. -/
structure HP where
  qi : ℕ
  K : ℕ → ℕ → EReal
  Q : ℕ → ℕ → EReal
  Ti : ℕ → ℕ → EReal
  V : ℕ → ℕ → EReal
  row : ℕ
  cb : EReal
  vs : EReal

/-- What head `h` of the group step `t` reads for query block `qi`, from the scales, the query, key and value blocks and
    the bias tiles. -/
def hp (qi t h : ℕ) (qs ks vs : ℕ → EReal) (fq : ℕ → ℕ → ℕ → EReal) (fk : ℕ → ℕ → ℕ → ℕ → EReal) (va vb : ℕ → ℕ → EReal)
    (fb : ℕ → ℕ → ℕ → EReal) : HP where
  qi := qi
  K := fun j d => fk 0 h j d
  Q := fun d c => if d < 96 then fq 0 (96 * h + d) c else 0
  Ti := fun r c => fb h r c * Ideal.div 1 (qs (min 95 (4 * t + h)) * ks (min 95 (4 * t + h)))
  V := fun d j => if h < 2 then va (96 * (h % 2) + d) j else vb (96 * (h % 2) + d) j
  row := 96 * ((h + 2) % 4)
  cb := qs (min 95 (4 * t + h - 1)) * ks (min 95 (4 * t + h - 1)) * Named.named (F := Ideal) (φ := .f32) Cert.KernelIdeal.κ "log2e" 1069066811#32
  vs := vs (min 95 (4 * t + h - 2))

/-- The contents of the scratch buffers that live across head steps. -/
structure HS where
  A : ℕ → ℕ → EReal
  B : ℕ → ℕ → EReal
  mx : ℕ → ℕ → EReal
  r : ℕ → ℕ → EReal
  ps : ℕ → ℕ → EReal
  ot : ℕ → ℕ → EReal

/-- The dot product of key `j` with query column `c`. -/
def dotp (p : HP) (j c : ℕ) : EReal := ∑ x : Fin 128, p.K j x.val * p.Q x.val c
/-- The score of key `j` for query column `c`: the tile is added in the query's own key block and in the one before. -/
def sc (p : HP) (j c : ℕ) : EReal :=
  if j / 128 = 4 * p.qi + c / 128 then dotp p j c + p.Ti (128 + j % 128) (c % 128)
  else if j / 128 + 1 = 4 * p.qi + c / 128 then dotp p j c + p.Ti (j % 128) (c % 128)
  else dotp p j c
/-- The exponential of key `j`'s score against the stored row maximum. -/
def ee (p : HP) (s : HS) (j c : ℕ) : EReal := FloatOps.exp2 (F := Ideal) (φ := .f32) ((s.B j c - s.mx 0 c) * p.cb)
/-- Buffer `A` after the keys below `T` are scored. -/
def stA (p : HP) (s : HS) (T : ℕ → ℕ) (j c : ℕ) : EReal := if j < T c then sc p j c else s.A j c
/-- Buffer `B` after the scores of the keys below `T` are exponentiated. -/
def stB (p : HP) (s : HS) (T : ℕ → ℕ) (j c : ℕ) : EReal := if j < T c then ee p s j c else s.B j c
/-- The running maximum of sublane `x`. -/
def mac (p : HP) (T : ℕ → ℕ) (x c : ℕ) : EReal := (range (T c / 8)).sup fun a => sc p (8 * a + x) c
/-- The running sum of sublane `x`. -/
def lac (p : HP) (s : HS) (T : ℕ → ℕ) (x c : ℕ) : EReal := ∑ a ∈ range (T c / 8), ee p s (8 * a + x) c
/-- The output rows of this step after the keys below `T` are weighted. -/
def otT (p : HP) (s : HS) (T : ℕ → ℕ) (j c : ℕ) : EReal :=
  if p.row ≤ j ∧ j < p.row + 96 then ∑ k ∈ range (T c), p.V (j - p.row) k * (s.A k c * s.r 0 c) else s.ot j c

/-- After `k` full blocks. -/
def Tl (k : ℕ) : ℕ → ℕ := fun _ => 512 * k
/-- After `kt` blocks of the diagonal. -/
def Td (qi kt : ℕ) : ℕ → ℕ := fun c => 512 * qi + 128 * min kt (c / 128 + 1)

/-- No diagonal block done is all full blocks done. -/
theorem Td_zero (qi : ℕ) : Td qi 0 = Tl qi := by
  funext c; simp [Td, Tl]

/-- A running maximum extended by a block of rows. -/
theorem sup_step (n m : ℕ) (g : ℕ → EReal) (h : Fin m → EReal) (hh : ∀ x, h x = g (n + x.val)) :
    max ((range n).sup g) (Finset.fold max (Ideal.ofBits FTy.f32 4286578688#32) h Finset.univ) = (range (n + m)).sup g := by
  have hb : Ideal.ofBits FTy.f32 4286578688#32 = (⊥ : EReal) := by
    simp [Ideal.ofBits, Ideal.ieee]
  rw [hb]
  have e : Finset.fold max (⊥ : EReal) h Finset.univ = Finset.univ.sup h := rfl
  rw [e, Finset.range_eq_Ico, Finset.range_eq_Ico, ← Finset.Ico_union_Ico_eq_Ico (Nat.zero_le n) (Nat.le_add_right n m),
    Finset.sup_union]
  congr 1
  apply le_antisymm
  · refine Finset.sup_le fun x _ => ?_
    rw [hh]; exact Finset.le_sup (f := g) (by simp)
  · refine Finset.sup_le fun a ha => ?_
    rw [Finset.mem_Ico] at ha
    have := hh ⟨a - n, by omega⟩
    rw [show n + (a - n) = a by omega] at this
    rw [← this]; exact Finset.le_sup (f := h) (Finset.mem_univ _)

/-- A running sum extended by a block of rows. -/
theorem sum_step (n m : ℕ) (g : ℕ → EReal) (h : Fin m → EReal) (hh : ∀ x, h x = g (n + x.val)) :
    (∑ a ∈ range n, g a) + ∑ x, h x = ∑ a ∈ range (n + m), g a := by
  rw [Finset.sum_range_add]
  congr 1
  rw [← Fin.sum_univ_eq_sum_range (fun x => g (n + x)) m]
  exact Finset.sum_congr rfl fun x _ => hh x

open Cert.KernelIdeal (κ)

/-- The exponent field nearest to the logarithm of the scaled largest weight `1 / l`. -/
def nearF (l : EReal) : BitVec 32 :=
  IntOp.addi (FloatOps.fptosi (F := Ideal) (φ := .f32) 32 (Ideal.liftRound Ideal.roundHalfEven
    (Ideal.log (Ideal.div 1 l * Ideal.ofBits FTy.f32 991054117#32) * Named.named (F := Ideal) (φ := .f32) κ "log2e" 1069066811#32))) 127#32
/-- The exponent field of the scale of the weights' codes. -/
def fieldF (l : EReal) : BitVec 32 :=
  IntOp.addi (if Ideal.div 1 l * Ideal.ofBits FTy.f32 991054117#32 < Ideal.ofBits FTy.f32 (IntOp.shli ArithUnit.vector (nearF l) 23#32)
    then IntOp.subi (nearF l) 1#32 else nearF l) 1#32
/-- The scale of the weights' codes, from the row sum `l`. -/
def pscF (l : EReal) : EReal := Ideal.ofBits FTy.f32 (IntOp.shli ArithUnit.vector (fieldF l) 23#32)
/-- The factor that turns an exponential into a code, from the row sum `l`. -/
def rrF (l : EReal) : EReal := Ideal.div 1 l * Ideal.ofBits FTy.f32 (IntOp.shli ArithUnit.vector (IntOp.subi 254#32 (fieldF l)) 23#32)

/-- The row sum over the sublanes. -/
def lsum (p : HP) (s : HS) (c : ℕ) : EReal := ∑ x : Fin 8, lac p s (Td p.qi 4) x.val c
/-- The row maximum over the sublanes. -/
def mtop (p : HP) (c : ℕ) : EReal :=
  Finset.fold max (Ideal.ofBits FTy.f32 4286578688#32) (fun x : Fin 8 => mac p (Td p.qi 4) x.val c) Finset.univ

/-- What one head step makes of the scratch buffers; the two score buffers change places. -/
def step (p : HP) (s : HS) : HS where
  A := stB p s (Td p.qi 4)
  B := stA p s (Td p.qi 4)
  mx := fun _ c => mtop p c
  r := fun _ c => rrF (lsum p s c)
  ps := fun _ c => pscF (lsum p s c)
  ot := fun j c => if p.row ≤ j ∧ j < p.row + 96 then otT p s (Td p.qi 4) j c * (s.ps 0 c * p.vs) else s.ot j c

/-- The dot product in the form the body computes it. -/
theorem fold_dotp (p : HP) (j c : ℕ) : (∑ x : Fin 128, p.K j x.val * p.Q x.val c) = dotp p j c := rfl
/-- Equal coordinates give equal dot products. -/
theorem dotp_congr (p : HP) {j j' c c' : ℕ} (hj : j = j') (hc : c = c') : dotp p j c = dotp p j' c' := by rw [hj, hc]
/-- Equal coordinates give equal biased dot products. -/
theorem dotb_congr (p : HP) {j j' c c' a a' b b' : ℕ} (hj : j = j') (hc : c = c') (ha : a = a') (hb : b = b') :
    dotp p j c + p.Ti a b = dotp p j' c' + p.Ti a' b' := by rw [hj, hc, ha, hb]
/-- Minus infinity's bits are the bottom element. -/
theorem ninf_bits : Ideal.ofBits FTy.f32 4286578688#32 = (⊥ : EReal) := by simp [Ideal.ofBits, Ideal.ieee]
/-- A zero code is zero. -/
theorem zero_code : Ideal.ofBits FTy.fp8e4m3 0#8 = (0 : EReal) := Ideal.ofBits_zero .fp8e4m3

/-- Nothing is gone through at the start: scores. -/
theorem stA_zero (p : HP) (s : HS) : stA p s (Tl 0) = s.A := by
  funext j c; simp [stA, Tl]
/-- Nothing is gone through at the start: exponentials. -/
theorem stB_zero (p : HP) (s : HS) : stB p s (Tl 0) = s.B := by
  funext j c; simp [stB, Tl]
/-- Nothing is gone through at the start: maxima. -/
theorem mac_zero (p : HP) (x c : ℕ) : mac p (Tl 0) x c = ⊥ := by simp [mac, Tl]
/-- Nothing is gone through at the start: sums. -/
theorem lac_zero (p : HP) (s : HS) (x c : ℕ) : lac p s (Tl 0) x c = 0 := by simp [lac, Tl]
/-- Nothing is gone through at the start: output rows. -/
theorem otT_zero_in (p : HP) (s : HS) {j c : ℕ} (h : p.row ≤ j ∧ j < p.row + 96) : otT p s (Tl 0) j c = 0 := by simp [otT, Tl, h]
/-- Other output rows are untouched. -/
theorem otT_out (p : HP) (s : HS) (T : ℕ → ℕ) {j c : ℕ} (h : ¬ (p.row ≤ j ∧ j < p.row + 96)) : otT p s T j c = s.ot j c := by
  rw [otT, if_neg h]

/-- A key gone through has its score. -/
theorem stA_lt (p : HP) (s : HS) {T : ℕ → ℕ} {j c : ℕ} (h : j < T c) : stA p s T j c = sc p j c := if_pos h
/-- A key not gone through keeps its old entry. -/
theorem stA_ge (p : HP) (s : HS) {T : ℕ → ℕ} {j c : ℕ} (h : T c ≤ j) : stA p s T j c = s.A j c := if_neg (Nat.not_lt.mpr h)
/-- A key gone through has its exponential. -/
theorem stB_lt (p : HP) (s : HS) {T : ℕ → ℕ} {j c : ℕ} (h : j < T c) : stB p s T j c = ee p s j c := if_pos h
/-- A key on the same side of both counts has the same entry among the scores. -/
theorem stA_out (p : HP) (s : HS) {T T' : ℕ → ℕ} {j c : ℕ} (h : j < T' c ↔ j < T c) : stA p s T' j c = stA p s T j c := by
  unfold stA; simp only [h]
/-- A key on the same side of both counts has the same entry among the exponentials. -/
theorem stB_out (p : HP) (s : HS) {T T' : ℕ → ℕ} {j c : ℕ} (h : j < T' c ↔ j < T c) : stB p s T' j c = stB p s T j c := by
  unfold stB; simp only [h]
/-- The exponential of a score not gone through. -/
theorem ee_of (p : HP) (s : HS) {T : ℕ → ℕ} {j j' c : ℕ} (hj : j = j') (h : T c ≤ j) :
    FloatOps.exp2 (F := Ideal) (φ := .f32) ((stB p s T j c - s.mx 0 c) * p.cb) = ee p s j' c := by
  subst hj; rw [stB, if_neg (Nat.not_lt.mpr h)]; rfl

/-- One block of the running maximum. -/
theorem mac_step (p : HP) {T T' : ℕ → ℕ} {r c m : ℕ} (a : ℕ) (ha : T c = 8 * a) (hb : T' c = 8 * (a + m)) (G : Fin m → EReal)
    (hG : ∀ x, G x = sc p (8 * a + (x.val * 8 + r)) c) :
    max (mac p T r c) (Finset.fold max (Ideal.ofBits FTy.f32 4286578688#32) G Finset.univ) = mac p T' r c := by
  unfold mac
  rw [ha, hb, Nat.mul_div_cancel_left _ (by norm_num), Nat.mul_div_cancel_left _ (by norm_num)]
  refine sup_step a m (fun a => sc p (8 * a + r) c) G fun x => (hG x).trans ?_
  show sc p (8 * a + (x.val * 8 + r)) c = sc p (8 * (a + x.val) + r) c
  congr 1; omega
/-- One block of the running sum. -/
theorem lac_step (p : HP) (s : HS) {T T' : ℕ → ℕ} {r c m : ℕ} (a : ℕ) (ha : T c = 8 * a) (hb : T' c = 8 * (a + m)) (G : Fin m → EReal)
    (hG : ∀ x, G x = ee p s (8 * a + (x.val * 8 + r)) c) :
    lac p s T r c + ∑ x, G x = lac p s T' r c := by
  unfold lac
  rw [ha, hb, Nat.mul_div_cancel_left _ (by norm_num), Nat.mul_div_cancel_left _ (by norm_num)]
  refine sum_step a m (fun a => ee p s (8 * a + r) c) G fun x => (hG x).trans ?_
  show ee p s (8 * a + (x.val * 8 + r)) c = ee p s (8 * (a + x.val) + r) c
  congr 1; omega
/-- One block of the output rows. -/
theorem ot_step (p : HP) (s : HS) {T T' : ℕ → ℕ} {j r c m : ℕ} (hj : j = p.row + r) (hr : r < 96) (k : ℕ) (ha : T c = k) (hb : T' c = k + m)
    (G : Fin m → EReal) (hG : ∀ x, G x = p.V r (k + x.val) * (s.A (k + x.val) c * s.r 0 c)) :
    otT p s T j c + ∑ x, G x = otT p s T' j c := by
  subst hj
  unfold otT
  rw [if_pos ⟨Nat.le_add_right _ _, by omega⟩, if_pos ⟨Nat.le_add_right _ _, by omega⟩, ha, hb, Nat.add_sub_cancel_left]
  exact sum_step k m (fun k => p.V r k * (s.A k c * s.r 0 c)) G hG
/-- The term of a block of the output rows, in the form the body computes it. -/
theorem ot_term (p : HP) (s : HS) {T : ℕ → ℕ} {r j j' k c : ℕ} (hj : j = k) (hj' : j' = k) (h : T c ≤ k) :
    p.V r j * (stA p s T j' c * s.r 0 c) = p.V r k * (s.A k c * s.r 0 c) := by
  subst hj; subst hj'; rw [stA_ge p s h]

end Cert.KernelIdeal.Hand

end
-- ==== Proof.ValueRows.lean ====
module

public import proofs.«01_k».proof.Proof.ValueSteps

@[expose] public section

set_option maxRecDepth 16384

noncomputable section

namespace Cert.KernelIdeal.Hand

open Idealize.ShloMosaic Idealize.ShloMosaic.Tactic
open Finset (range)
open Cert.KernelIdeal (κ)

/-! One query row: what the attention call computes of the row's scores in base two with a scale read off an exponent field,
    and what the plain softmax with its quantiser computes, are the same extended real. -/

/-- The constant both programs multiply the largest weight by: the reciprocal of the largest code, as it is written. -/
abbrev cI : ℝ := 9586981 * (2:ℝ) ^ (-32 : ℤ)
/-- Its bits. -/
theorem cI_bits : Ideal.ofBits FTy.f32 991054117#32 = ((cI : ℝ) : EReal) := by
  have e1 : ((991054117#32).extractLsb' 23 8).toNat = 118 := by decide
  have e2 : ((991054117#32).extractLsb' 0 23).toNat = 1198373 := by decide
  have e3 : ((991054117#32).extractLsb' 31 1 == 1#1) = false := by decide
  simp only [Ideal.ofBits, Ideal.ieee, e1, e2, e3]
  norm_num
/-- It is positive. -/
theorem cI_pos : 0 < cI := by unfold cI; positivity
/-- The largest code. -/
theorem max_bits : Ideal.ofBits FTy.f32 1138753536#32 = ((448 : ℝ) : EReal) := by
  have e1 : ((1138753536#32).extractLsb' 23 8).toNat = 135 := by decide
  have e2 : ((1138753536#32).extractLsb' 0 23).toNat = 6291456 := by decide
  have e3 : ((1138753536#32).extractLsb' 31 1 == 1#1) = false := by decide
  simp only [Ideal.ofBits, Ideal.ieee, e1, e2, e3]
  norm_num
/-- The negative of the largest code. -/
theorem min_bits : Ideal.ofBits FTy.f32 3286237184#32 = ((-448 : ℝ) : EReal) := by
  have e1 : ((3286237184#32).extractLsb' 23 8).toNat = 135 := by decide
  have e2 : ((3286237184#32).extractLsb' 0 23).toNat = 6291456 := by decide
  have e3 : ((3286237184#32).extractLsb' 31 1 == 1#1) = true := by decide
  simp only [Ideal.ofBits, Ideal.ieee, e1, e2, e3]
  norm_num

/-- The base-two logarithm's constant. -/
theorem named_log2e : Named.named (F := Ideal) (φ := .f32) κ "log2e" 1069066811#32 = (((Real.log 2)⁻¹ : ℝ) : EReal) :=
  IdealRules.named_const.ideal_named_scalar _ _ _ _ rfl

/-- The three bit fields of an exponent field shifted into place. -/
theorem field_bits : ∀ n : Fin 255, 0 < n.val → (((BitVec.ofNat 32 n.val) <<< 23).extractLsb' 31 1 == 1#1) = false
    ∧ (((BitVec.ofNat 32 n.val) <<< 23).extractLsb' 23 8).toNat = n.val ∧ (((BitVec.ofNat 32 n.val) <<< 23).extractLsb' 0 23).toNat = 0 := by
  decide +kernel

/-- A field between its two extremes as a power of two. -/
theorem ieee_of_field (b : BitVec 32) (n : ℕ) (k : ℤ) (h0 : 0 < n) (h1 : n < 255) (hk : (n : ℤ) = k + 127)
    (f1 : (b.extractLsb' 31 1 == 1#1) = false) (f2 : (b.extractLsb' 23 8).toNat = n) (f3 : (b.extractLsb' 0 23).toNat = 0) :
    Ideal.ofBits FTy.f32 b = (((2:ℝ) ^ k : ℝ) : EReal) := by
  show Ideal.ieee 8 23 b = _
  unfold Ideal.ieee
  dsimp only
  rw [show 8 + 23 = 31 from rfl, f1, f2, f3, if_neg (by omega), if_neg (by omega)]
  have e : ((n : ℤ) - (2 ^ (8 - 1) - 1) - ((23 : ℕ) : ℤ) : ℤ) = k - 23 := by
    have : ((2:ℤ) ^ (8 - 1) - 1) = 127 := by norm_num
    omega
  rw [e, zpow_sub₀ (by norm_num : (2:ℝ) ≠ 0)]
  congr 1
  simp only [Bool.false_eq_true, if_false]
  have : (2:ℝ) ^ (23 : ℤ) = 8388608 := by norm_num
  rw [this]; push_cast; ring

/-- An exponent field shifted into place is that power of two. -/
theorem pow_of_field (k : ℤ) (h1 : -126 ≤ k) (h2 : k ≤ 127) :
    Ideal.ofBits FTy.f32 (IntOp.shli ArithUnit.vector (BitVec.ofInt 32 (k + 127)) 23#32) = (((2:ℝ) ^ k : ℝ) : EReal) := by
  obtain ⟨n, hn⟩ : ∃ n : ℕ, (n : ℤ) = k + 127 := ⟨(k + 127).toNat, by omega⟩
  have hlt : n < 255 := by omega
  have hpos : 0 < n := by omega
  obtain ⟨f1, f2, f3⟩ := field_bits ⟨n, hlt⟩ hpos
  have e : IntOp.shli ArithUnit.vector (BitVec.ofInt 32 (k + 127)) 23#32 = (BitVec.ofNat 32 n) <<< 23 := by
    rw [← hn, BitVec.ofInt_natCast]; rfl
  rw [e]
  exact ieee_of_field _ n k hpos hlt hn f1 f2 f3

/-- The nearest integer and the floor: they differ by one when the number lies under its nearest integer. -/
theorem floor_of_round (x : ℝ) : ⌊x⌋ = if x < (Ideal.roundHalfEven x : ℤ) then Ideal.roundHalfEven x - 1 else Ideal.roundHalfEven x := by
  have h1 := Int.floor_le x
  have h2 := Int.lt_floor_add_one x
  have e1 : Ideal.roundHalfEven x = ⌊x⌋ ∨ Ideal.roundHalfEven x = ⌊x⌋ + 1 := by
    unfold Ideal.roundHalfEven; dsimp only; split_ifs <;> simp
  rcases e1 with e | e <;> rw [e]
  · rw [if_neg (not_lt.mpr h1)]
  · rw [if_pos (by push_cast; exact h2)]; ring

/-- Maxima over eight interleaved sublanes are one maximum. -/
theorem sup_sublanes (S : ℕ → EReal) (a : ℕ) :
    Finset.fold max (Ideal.ofBits FTy.f32 4286578688#32) (fun x : Fin 8 => (range a).sup fun k => S (8 * k + x.val)) Finset.univ = (range (8 * a)).sup S := by
  rw [ninf_bits]
  have e : ∀ g : Fin 8 → EReal, Finset.fold max (⊥ : EReal) g Finset.univ = Finset.univ.sup g := fun _ => rfl
  rw [e]
  apply le_antisymm
  · refine Finset.sup_le fun x _ => Finset.sup_le fun k hk => ?_
    have := x.isLt; rw [Finset.mem_range] at hk
    exact Finset.le_sup (f := S) (Finset.mem_range.mpr (by omega))
  · refine Finset.sup_le fun j hj => ?_
    rw [Finset.mem_range] at hj
    refine le_trans ?_ (Finset.le_sup (f := fun x : Fin 8 => (range a).sup fun k => S (8 * k + x.val)) (Finset.mem_univ ⟨j % 8, by omega⟩))
    refine le_trans ?_ (Finset.le_sup (f := fun k => S (8 * k + j % 8)) (Finset.mem_range.mpr (show j / 8 < a by omega)))
    rw [show 8 * (j / 8) + j % 8 = j by omega]

/-- Sums over eight interleaved sublanes are one sum. -/
theorem sum_sublanes (g : ℕ → EReal) (a : ℕ) : ∑ x : Fin 8, ∑ k ∈ range a, g (8 * k + x.val) = ∑ j ∈ range (8 * a), g j := by
  induction a with
  | zero => simp
  | succ a ih =>
    simp only [Finset.sum_range_succ, Finset.sum_add_distrib, ih]
    rw [show 8 * (a + 1) = 8 * a + 8 by ring, Finset.sum_range_add, Fin.sum_univ_eq_sum_range (fun x => g (8 * a + x)) 8]

/-! The two sides of a row. `n` is the number of keys the kernel goes through, `S` their scores. -/

/-- The kernel's row maximum. -/
def kM (S : ℕ → EReal) (n : ℕ) : EReal := (range n).sup S
/-- The kernel's exponentials. -/
def kE (S : ℕ → EReal) (n : ℕ) (cb : EReal) (j : ℕ) : EReal := FloatOps.exp2 (F := Ideal) (φ := .f32) ((S j - kM S n) * cb)
/-- The kernel's row sum. -/
def kL (S : ℕ → EReal) (n : ℕ) (cb : EReal) : EReal := ∑ j ∈ range n, kE S n cb j
/-- The kernel's output element. -/
def kOut (S V : ℕ → EReal) (n : ℕ) (cb vs : EReal) : EReal :=
  (∑ k ∈ range n, V k * (kE S n cb k * rrF (kL S n cb))) * (pscF (kL S n cb) * vs)

/-- The reference's exponentials of the scores `s`. -/
def rE (s : Fin 8192 → EReal) (j : Fin 8192) : EReal :=
  Ideal.exp (s j - Finset.fold max (Ideal.ofBits FTy.f32 4286578688#32) s Finset.univ)
/-- The reference's weights. -/
def rP (s : Fin 8192 → EReal) (j : Fin 8192) : EReal := Ideal.div (rE s j) (∑ j, rE s j)
/-- The exponent of the scale of the reference's weight codes. -/
def rX (s : Fin 8192 → EReal) : EReal :=
  Ideal.liftRound Int.floor (Ideal.log (Finset.fold max (Ideal.ofBits FTy.f32 4286578688#32) (rP s) Finset.univ * Ideal.ofBits FTy.f32 991054117#32)
    * Named.named (F := Ideal) (φ := .f32) κ "log2e" 1069066811#32) + 1
/-- The reference's weight codes. -/
def rC (s : Fin 8192 → EReal) (j : Fin 8192) : EReal :=
  min (Ideal.ofBits FTy.f32 1138753536#32) (max (Ideal.ofBits FTy.f32 3286237184#32) (rP s j * Ideal.exp2 (0 - rX s)))
/-- The reference's output element. -/
def rOut (s : Fin 8192 → EReal) (V : ℕ → EReal) (vs : EReal) : EReal :=
  (∑ j, rC s j * V j.val) * (Ideal.exp2 (rX s) * vs)

/-- The reference's scores: the kernel's scaled, and minus infinity past them. -/
def scaled (S : ℕ → EReal) (n : ℕ) (D : ℝ) (j : Fin 8192) : EReal := if j.val < n then S j.val * (D : EReal) else ⊥

/-- A fold of maxima from minus infinity is a supremum. -/
theorem fold_sup {m : ℕ} (g : Fin m → EReal) : Finset.fold max (Ideal.ofBits FTy.f32 4286578688#32) g Finset.univ = Finset.univ.sup g := by
  rw [ninf_bits]; rfl

/-- A row whose exponentials are all zero gives zero in the kernel. -/
theorem kOut_zero (S V : ℕ → EReal) (n : ℕ) (cb vs : EReal) (h : ∀ j < n, kE S n cb j = 0) : kOut S V n cb vs = 0 := by
  unfold kOut
  rw [Finset.sum_eq_zero, zero_mul]
  intro k hk
  rw [h k (Finset.mem_range.mp hk), zero_mul, mul_zero]

/-- A row whose exponentials are all zero gives zero in the reference. -/
theorem rOut_zero (s : Fin 8192 → EReal) (V : ℕ → EReal) (vs : EReal) (h : ∀ j, rE s j = 0) : rOut s V vs = 0 := by
  have hP : ∀ j, rP s j = ⊥ := by
    intro j
    unfold rP
    rw [h j, Finset.sum_eq_zero fun x _ => h x]
    unfold Ideal.div
    simp
  have hX : rX s = ⊥ := by
    unfold rX
    rw [fold_sup, named_log2e, cI_bits]
    have e : Finset.univ.sup (rP s) = ⊥ := by
      rw [Finset.sup_eq_bot_iff]; intro j _; exact hP j
    rw [e, EReal.bot_mul_coe_of_pos cI_pos, Ideal.log_bot, EReal.bot_mul_coe_of_pos (by positivity)]
    show (⊥ : EReal) + 1 = ⊥
    exact EReal.bot_add _
  unfold rOut
  rw [hX, Ideal.exp2_bot, zero_mul, mul_zero]

/-- Bounds of the scaled largest weight. -/
theorem cI_bounds {L : ℝ} (h1 : 1 ≤ L) (h2 : L ≤ 8192) : (2:ℝ) ^ (-22 : ℤ) ≤ L⁻¹ * cI ∧ L⁻¹ * cI < (2:ℝ) ^ (-8 : ℤ) := by
  have hL : 0 < L := by linarith
  have hi : L⁻¹ ≤ 1 := inv_le_one_of_one_le₀ h1
  have hj : (8192:ℝ)⁻¹ ≤ L⁻¹ := inv_anti₀ hL h2
  have hc := cI_pos
  constructor
  · calc (2:ℝ) ^ (-22 : ℤ) ≤ (8192:ℝ)⁻¹ * cI := by unfold cI; norm_num
      _ ≤ _ := mul_le_mul_of_nonneg_right hj hc.le
  · calc L⁻¹ * cI ≤ 1 * cI := mul_le_mul_of_nonneg_right hi hc.le
      _ < _ := by unfold cI; norm_num

/-- Comparing with a power of two is comparing base-two logarithms. -/
theorem lt_zpow_iff {x : ℝ} (hx : 0 < x) (k : ℤ) : x < (2:ℝ) ^ k ↔ Real.log x * (Real.log 2)⁻¹ < k := by
  have hl : 0 < Real.log 2 := Real.log_pos (by norm_num)
  rw [← div_eq_mul_inv, div_lt_iff₀ hl, ← Real.log_zpow, Real.log_lt_log_iff hx (by positivity)]
/-- The same, the other way round. -/
theorem zpow_le_iff {x : ℝ} (hx : 0 < x) (k : ℤ) : (2:ℝ) ^ k ≤ x ↔ (k:ℝ) ≤ Real.log x * (Real.log 2)⁻¹ := by
  have := lt_zpow_iff hx k
  rw [← not_lt, this, not_lt]

/-- Differences of words of integers. -/
theorem ofInt_subi (a b : ℤ) : IntOp.subi (BitVec.ofInt 32 a) (BitVec.ofInt 32 b) = BitVec.ofInt 32 (a - b) := by
  show BitVec.ofInt 32 a - BitVec.ofInt 32 b = _
  rw [sub_eq_add_neg, BitVec.ofInt_add, BitVec.ofInt_neg, BitVec.sub_eq_add_neg]
/-- Sums of words of integers. -/
theorem ofInt_addi (a b : ℤ) : IntOp.addi (BitVec.ofInt 32 a) (BitVec.ofInt 32 b) = BitVec.ofInt 32 (a + b) := by
  rw [BitVec.ofInt_add]; rfl

/-- The kernel's two scale factors in terms of the reference's exponent. -/
theorem scales_real {L : ℝ} (h1 : 1 ≤ L) (h2 : L ≤ 8192) :
    pscF (L : EReal) = (((2:ℝ) ^ (⌊Real.log (L⁻¹ * cI) * (Real.log 2)⁻¹⌋ + 1) : ℝ) : EReal)
    ∧ rrF (L : EReal) = ((L⁻¹ * (2:ℝ) ^ (-(⌊Real.log (L⁻¹ * cI) * (Real.log 2)⁻¹⌋ + 1)) : ℝ) : EReal) := by
  obtain ⟨hb1, hb2⟩ := cI_bounds h1 h2
  have hL : 0 < L := by linarith
  have hx : 0 < L⁻¹ * cI := mul_pos (inv_pos.mpr hL) cI_pos
  rw [zpow_le_iff hx] at hb1
  rw [lt_zpow_iff hx] at hb2
  have hdiv : Ideal.div 1 (L : EReal) = ((L⁻¹ : ℝ) : EReal) := by
    unfold Ideal.div
    rw [if_neg (by exact_mod_cast hL.ne'), one_mul, EReal.coe_inv]
  set y := Real.log (L⁻¹ * cI) * (Real.log 2)⁻¹ with hy
  set R := Ideal.roundHalfEven y with hR
  have hfl := floor_of_round y
  rw [← hR] at hfl
  have hf1 : (-22 : ℤ) ≤ ⌊y⌋ := by rw [Int.le_floor]; exact hb1
  have hf2 : ⌊y⌋ < (-8 : ℤ) := by rw [Int.floor_lt]; exact hb2
  have hRb : -22 ≤ R ∧ R ≤ -8 := by split_ifs at hfl <;> omega
  have hlog : Ideal.log (((L⁻¹ : ℝ) : EReal) * ((cI : ℝ) : EReal)) = ((Real.log (L⁻¹ * cI) : ℝ) : EReal) := by
    rw [← EReal.coe_mul, Ideal.log_coe, if_neg (not_le.mpr hx)]
  have hnear : nearF (L : EReal) = BitVec.ofInt 32 (R + 127) := by
    unfold nearF
    rw [hdiv, cI_bits, named_log2e, hlog, ← EReal.coe_mul, ← hy]
    show IntOp.addi (BitVec.ofInt 32 (Ideal.toIntClamped _ _ ((R : ℝ) : EReal))) 127#32 = _
    rw [show ∀ lo hi : ℤ, Ideal.toIntClamped lo hi ((R : ℝ) : EReal) = max lo (min hi (if (0:ℝ) ≤ (R:ℝ) then ⌊(R:ℝ)⌋ else ⌈(R:ℝ)⌉)) from fun _ _ => rfl]
    have e : (if (0:ℝ) ≤ (R:ℝ) then ⌊(R:ℝ)⌋ else ⌈(R:ℝ)⌉) = R := by split_ifs <;> simp
    rw [e]
    have e2 : max (-((2 ^ (32 - 1) : ℕ) : ℤ)) (min (((2 ^ (32 - 1) : ℕ) : ℤ) - 1) R) = R := by
      have : ((2 ^ (32 - 1) : ℕ) : ℤ) = 2147483648 := by norm_num
      rw [this]; omega
    rw [e2, BitVec.ofInt_add]; rfl
  have hfield : fieldF (L : EReal) = BitVec.ofInt 32 (⌊y⌋ + 1 + 127) := by
    unfold fieldF
    rw [hnear, pow_of_field R (by omega) (by omega), hdiv, cI_bits, ← EReal.coe_mul]
    have e : (((L⁻¹ * cI : ℝ) : EReal) < (((2:ℝ) ^ R : ℝ) : EReal)) ↔ y < (R:ℝ) := by
      rw [EReal.coe_lt_coe_iff, lt_zpow_iff hx]
    simp only [e]
    rw [hfl]
    split_ifs
    · exact (congrArg (fun z => IntOp.addi z (BitVec.ofInt 32 1)) (ofInt_subi (R + 127) 1)).trans ((ofInt_addi _ 1).trans (by congr 1; ring))
    · exact (ofInt_addi _ 1).trans (by congr 1; ring)
  constructor
  · unfold pscF
    rw [hfield, pow_of_field _ (by omega) (by omega)]
  · unfold rrF
    rw [hfield, hdiv]
    have e : IntOp.subi 254#32 (BitVec.ofInt 32 (⌊y⌋ + 1 + 127)) = BitVec.ofInt 32 (-(⌊y⌋ + 1) + 127) := by
      exact (ofInt_subi 254 _).trans (by congr 1; ring)
    rw [e, pow_of_field _ (by omega) (by omega), ← EReal.coe_mul]

set_option maxHeartbeats 1000000 in
/-- A row with a finite maximum, the two sides being given as reals. -/
theorem row_real (S V : ℕ → EReal) (n : ℕ) (hn : n ≤ 8192) (cb vs : EReal) (s : Fin 8192 → EReal) (ef : ℕ → ℝ)
    (h0 : ∀ j, 0 ≤ ef j) (h1 : ∀ j, ef j ≤ 1) (j0 : ℕ) (hj0 : j0 < n) (hone : ef j0 = 1)
    (hk : ∀ j < n, kE S n cb j = (ef j : EReal)) (hr : ∀ j, rE s j = ((if j.val < n then ef j.val else 0 : ℝ) : EReal)) :
    kOut S V n cb vs = rOut s V vs := by
  set L : ℝ := ∑ j ∈ range n, ef j with hL
  have hcs : ∀ g : ℕ → ℝ, ∀ m, ((∑ j ∈ range m, g j : ℝ) : EReal) = ∑ j ∈ range m, (g j : EReal) := by
    intro g m
    induction m with
    | zero => simp
    | succ m ih => rw [Finset.sum_range_succ, Finset.sum_range_succ, EReal.coe_add, ih]
  have hL1 : 1 ≤ L := by
    rw [← hone]; exact Finset.single_le_sum (f := ef) (fun j _ => h0 j) (Finset.mem_range.mpr hj0)
  have hL2 : L ≤ 8192 := by
    calc L ≤ ∑ j ∈ range n, (1:ℝ) := Finset.sum_le_sum fun j _ => h1 j
      _ = n := by simp
      _ ≤ 8192 := by exact_mod_cast hn
  have hLp : 0 < L := by linarith
  have hkL : kL S n cb = (L : EReal) := by
    unfold kL; rw [hcs]
    exact Finset.sum_congr rfl fun j hj => hk j (Finset.mem_range.mp hj)
  have hsub : ∀ g : ℕ → EReal, (∀ j, n ≤ j → g j = 0) → ∑ j : Fin 8192, g j.val = ∑ j ∈ range n, g j := by
    intro g hg
    rw [Fin.sum_univ_eq_sum_range g 8192]
    symm
    refine Finset.sum_subset (Finset.range_mono hn) fun j _ hj => hg j ?_
    rw [Finset.mem_range] at hj; omega
  have hrL : ∑ j, rE s j = (L : EReal) := by
    rw [hcs]
    refine (Finset.sum_congr rfl fun j _ => hr j).trans ((hsub (fun j : ℕ => ((if j < n then ef j else 0 : ℝ) : EReal)) fun j hj => by
      rw [if_neg (Nat.not_lt.mpr hj), EReal.coe_zero]).trans ?_)
    exact Finset.sum_congr rfl fun j hj => by rw [if_pos (Finset.mem_range.mp hj)]
  have hrP : ∀ j, rP s j = (((if j.val < n then ef j.val else 0) * L⁻¹ : ℝ) : EReal) := by
    intro j
    unfold rP
    rw [hrL, hr]
    unfold Ideal.div
    rw [if_neg (by exact_mod_cast hLp.ne'), ← EReal.coe_inv, ← EReal.coe_mul]
  have hef : ∀ j : ℕ, (if j < n then ef j else 0) ≤ 1 := by intro j; split_ifs; exacts [h1 j, zero_le_one]
  have hef0 : ∀ j : ℕ, 0 ≤ (if j < n then ef j else 0) := by intro j; split_ifs; exacts [h0 j, le_rfl]
  have hLi : 0 < L⁻¹ := inv_pos.mpr hLp
  have hmax : Finset.univ.sup (rP s) = ((L⁻¹ : ℝ) : EReal) := by
    apply le_antisymm
    · refine Finset.sup_le fun j _ => ?_
      rw [hrP, EReal.coe_le_coe_iff]
      calc _ ≤ 1 * L⁻¹ := mul_le_mul_of_nonneg_right (hef _) hLi.le
        _ = _ := one_mul _
    · refine le_trans (le_of_eq ?_) (Finset.le_sup (f := rP s) (Finset.mem_univ ⟨j0, by omega⟩))
      rw [hrP]; simp only [hj0, if_true, hone, one_mul]
  have hx : 0 < L⁻¹ * cI := mul_pos hLi cI_pos
  obtain ⟨hp, hq⟩ := scales_real hL1 hL2
  set f := ⌊Real.log (L⁻¹ * cI) * (Real.log 2)⁻¹⌋ with hf
  have hX : rX s = (((f + 1 : ℤ) : ℝ) : EReal) := by
    unfold rX
    rw [fold_sup, hmax, cI_bits, named_log2e, ← EReal.coe_mul, Ideal.log_coe, if_neg (not_le.mpr hx), ← EReal.coe_mul]
    show (((⌊_⌋ : ℤ) : ℝ) : EReal) + 1 = _
    rw [← hf]; push_cast; rfl
  have hE1 : Ideal.exp2 (rX s) = (((2:ℝ) ^ (f + 1) : ℝ) : EReal) := by
    rw [hX, Ideal.exp2_coe]; congr 1; exact Real.rpow_intCast _ _
  have hE2 : Ideal.exp2 (0 - rX s) = (((2:ℝ) ^ (-(f + 1)) : ℝ) : EReal) := by
    rw [hX, ← EReal.coe_zero, ← EReal.coe_sub, Ideal.exp2_coe, zero_sub]; congr 1
    rw [← Int.cast_neg]; exact Real.rpow_intCast _ _
  have hlt : L⁻¹ * cI < (2:ℝ) ^ (f + 1) := by
    rw [lt_zpow_iff hx]; push_cast; exact Int.lt_floor_add_one _
  have hclip : L⁻¹ * (2:ℝ) ^ (-(f + 1)) ≤ 448 := by
    have hz : 0 < (2:ℝ) ^ (f + 1) := by positivity
    rw [zpow_neg, ← div_eq_mul_inv, div_le_iff₀ hz]
    have hc : 1 ≤ 448 * cI := by unfold cI; norm_num
    nlinarith
  have hz : 0 < (2:ℝ) ^ (-(f + 1)) := by positivity
  have hC : ∀ j, rC s j = (((if j.val < n then ef j.val else 0) * (L⁻¹ * (2:ℝ) ^ (-(f + 1))) : ℝ) : EReal) := by
    intro j
    unfold rC
    rw [hrP, hE2, max_bits, min_bits, ← EReal.coe_mul, mul_assoc]
    have g1 : 0 ≤ (if j.val < n then ef j.val else 0) * (L⁻¹ * (2:ℝ) ^ (-(f + 1))) := mul_nonneg (hef0 _) (by positivity)
    have g2 : (if j.val < n then ef j.val else 0) * (L⁻¹ * (2:ℝ) ^ (-(f + 1))) ≤ 448 := by
      calc _ ≤ 1 * (L⁻¹ * (2:ℝ) ^ (-(f + 1))) := mul_le_mul_of_nonneg_right (hef _) (by positivity)
        _ ≤ 448 := by rw [one_mul]; exact hclip
    rw [max_eq_right (EReal.coe_le_coe_iff.mpr (by linarith)), min_eq_right (EReal.coe_le_coe_iff.mpr g2)]
  unfold kOut rOut
  rw [hkL, hp, hq, hE1]
  congr 1
  symm
  refine (Finset.sum_congr rfl fun j _ => by rw [hC]).trans ((hsub (fun j : ℕ => ((((if j < n then ef j else 0) * (L⁻¹ * (2:ℝ) ^ (-(f + 1))) : ℝ) : EReal)) * V j) fun j hj => by
    rw [if_neg (Nat.not_lt.mpr hj), zero_mul, EReal.coe_zero, zero_mul]).trans ?_)
  refine Finset.sum_congr rfl fun j hj => ?_
  rw [if_pos (Finset.mem_range.mp hj), hk j (Finset.mem_range.mp hj), ← EReal.coe_mul, mul_comm]

/-- A row: the kernel's output element is the reference's. -/
theorem row_eq (S V : ℕ → EReal) (n : ℕ) (hpos : 0 < n) (hn : n ≤ 8192) (D : ℝ) (hD : 0 < D) (vs : EReal) :
    kOut S V n ((D : EReal) * Named.named (F := Ideal) (φ := .f32) κ "log2e" 1069066811#32) vs = rOut (scaled S n D) V vs := by
  have hl : 0 < Real.log 2 := Real.log_pos (by norm_num)
  have hcb : (D : EReal) * Named.named (F := Ideal) (φ := .f32) κ "log2e" 1069066811#32 = ((D * (Real.log 2)⁻¹ : ℝ) : EReal) := by
    rw [named_log2e, ← EReal.coe_mul]
  rw [hcb]
  have hc0 : 0 < D * (Real.log 2)⁻¹ := by positivity
  obtain ⟨j0, hj0, hm⟩ := Finset.exists_mem_eq_sup (range n) ⟨0, Finset.mem_range.mpr hpos⟩ S
  rw [Finset.mem_range] at hj0
  have hle : ∀ j < n, S j ≤ S j0 := fun j hj => by rw [← hm]; exact Finset.le_sup (f := S) (Finset.mem_range.mpr hj)
  have hM : kM S n = S j0 := hm
  have hsm : Finset.univ.sup (scaled S n D) = S j0 * (D : EReal) := by
    apply le_antisymm
    · refine Finset.sup_le fun j _ => ?_
      unfold scaled
      split_ifs with h
      · exact mul_le_mul_of_nonneg_right (hle _ h) (EReal.coe_nonneg.mpr hD.le)
      · exact bot_le
    · refine le_trans (le_of_eq ?_) (Finset.le_sup (f := scaled S n D) (Finset.mem_univ ⟨j0, by omega⟩))
      unfold scaled; simp only [hj0, if_true]
  have hrE : ∀ j, rE (scaled S n D) j = Ideal.exp (scaled S n D j - S j0 * (D : EReal)) := by
    intro j; unfold rE; rw [fold_sup, hsm]
  induction hS : S j0 using EReal.rec with
  | bot =>
    have hall : ∀ j < n, S j = ⊥ := fun j hj => le_bot_iff.mp (hS ▸ hle j hj)
    rw [kOut_zero, rOut_zero]
    · intro j
      rw [hrE, hS, EReal.bot_mul_coe_of_pos hD]
      have : scaled S n D j = ⊥ := by
        unfold scaled; split_ifs with h
        · rw [hall _ h, EReal.bot_mul_coe_of_pos hD]
        · rfl
      rw [this]; rfl
    · intro j hj
      unfold kE
      rw [hM, hS, hall j hj]
      show Ideal.exp2 ((⊥ - ⊥ : EReal) * _) = 0
      rw [show (⊥ - ⊥ : EReal) = ⊥ from rfl, EReal.bot_mul_coe_of_pos hc0]; rfl
  | top =>
    rw [kOut_zero, rOut_zero]
    · intro j
      rw [hrE, hS, EReal.top_mul_coe_of_pos hD, EReal.sub_top]; rfl
    · intro j hj
      unfold kE
      rw [hM, hS, EReal.sub_top]
      show Ideal.exp2 (⊥ * _) = 0
      rw [EReal.bot_mul_coe_of_pos hc0]; rfl
  | coe μ =>
    have hcase : ∀ j < n, S j = ⊥ ∨ ∃ x : ℝ, S j = (x : EReal) ∧ x ≤ μ := by
      intro j hj
      have := hle j hj
      rw [hS] at this
      induction hx : S j using EReal.rec with
      | bot => exact Or.inl rfl
      | top => rw [hx] at this; exact absurd this (not_le.mpr (EReal.coe_lt_top μ))
      | coe x => rw [hx] at this; exact Or.inr ⟨x, rfl, EReal.coe_le_coe_iff.mp this⟩
    refine row_real S V n hn _ vs _ (fun j => if S j = ⊥ ∨ n ≤ j then 0 else Real.exp (((S j).toReal - μ) * D)) ?_ ?_ j0 hj0 ?_ ?_ ?_
    · intro j; split_ifs; exacts [le_rfl, (Real.exp_pos _).le]
    · intro j
      split_ifs with h
      · exact zero_le_one
      · rw [not_or, not_le] at h
        rcases hcase j h.2 with hb | ⟨x, hx, hxl⟩
        · exact absurd hb h.1
        · rw [hx, EReal.toReal_coe, Real.exp_le_one_iff]
          exact mul_nonpos_of_nonpos_of_nonneg (by linarith) hD.le
    · rw [if_neg (by rw [not_or, not_le]; exact ⟨by rw [hS]; exact EReal.coe_ne_bot μ, hj0⟩), hS, EReal.toReal_coe, sub_self, zero_mul, Real.exp_zero]
    · intro j hj
      unfold kE
      rw [hM, hS]
      rcases hcase j hj with hb | ⟨x, hx, hxl⟩
      · rw [if_pos (Or.inl hb), hb]
        show Ideal.exp2 (((⊥ : EReal) - (μ : EReal)) * _) = _
        rw [EReal.bot_sub, EReal.bot_mul_coe_of_pos hc0]; rfl
      · rw [if_neg (by rw [not_or, not_le]; exact ⟨by rw [hx]; exact EReal.coe_ne_bot x, hj⟩), hx, EReal.toReal_coe]
        show Ideal.exp2 (((x : EReal) - (μ : EReal)) * _) = _
        rw [← EReal.coe_sub, ← EReal.coe_mul, Ideal.exp2_coe]
        congr 1
        show (2:ℝ) ^ ((x - μ) * (D * (Real.log 2)⁻¹) : ℝ) = _
        rw [Real.rpow_def_of_pos (by norm_num)]
        congr 1; field_simp
    · intro j
      rw [hrE, hS]
      unfold scaled
      split_ifs with h h' h'
      · rcases h' with hb | h'
        · rw [hb, EReal.bot_mul_coe_of_pos hD, ← EReal.coe_mul, EReal.bot_sub]; rfl
        · omega
      · rw [not_or] at h'
        rcases hcase _ h with hb | ⟨x, hx, hxl⟩
        · exact absurd hb h'.1
        · rw [hx, EReal.toReal_coe, ← EReal.coe_mul, ← EReal.coe_mul, ← EReal.coe_sub, Ideal.exp_coe, sub_mul]
      · rw [← EReal.coe_mul, EReal.bot_sub]; rfl

end Cert.KernelIdeal.Hand

end
-- ==== Proof.ValueIter.lean ====
module

public import proofs.«01_k».proof.Proof.ValueRows

@[expose] public section

set_option maxRecDepth 16384

noncomputable section

namespace Cert.KernelIdeal.Hand

open Idealize.ShloMosaic Idealize.ShloMosaic.Tactic
open Finset (range)
open Cert.KernelIdeal (κ)

/-! The head steps one after another: what the output rows hold after the second step of a group. -/

/-- The scratch contents after `u` head steps. -/
def iter (P : ℕ → HP) (s0 : HS) : ℕ → HS
  | 0 => s0
  | u + 1 => step (P u) (iter P s0 u)

/-- The number of keys gone through for query column `c`. -/
def nk (qi c : ℕ) : ℕ := 512 * qi + 128 * min 4 (c / 128 + 1)

section
variable (P : ℕ → HP) (qi : ℕ) (hqi : ∀ u, (P u).qi = qi) (s0 : HS)
include hqi

/-- The row maximum of a step. -/
theorem mtop_eq (u c : ℕ) : mtop (P u) c = kM (fun j => sc (P u) j c) (nk qi c) := by
  have e : Td (P u).qi 4 c = 8 * (nk qi c / 8) := by rw [hqi]; simp only [Td, nk]; omega
  unfold mtop mac kM
  rw [e, Nat.mul_div_cancel_left _ (by norm_num), sup_sublanes (fun j => sc (P u) j c)]
  congr 2; unfold nk; omega

/-- The scores a step leaves. -/
theorem iter_B (u j c : ℕ) (hj : j < nk qi c) : (iter P s0 (u + 1)).B j c = sc (P u) j c := by
  show stA (P u) _ (Td (P u).qi 4) j c = _
  exact stA_lt _ _ (by rw [hqi]; exact hj)

/-- The exponentials of the step after. -/
theorem ee_eq (u j c : ℕ) (hj : j < nk qi c) :
    ee (P (u + 1)) (iter P s0 (u + 1)) j c = kE (fun j => sc (P u) j c) (nk qi c) (P (u + 1)).cb j := by
  unfold ee kE
  rw [iter_B P qi hqi s0 u j c hj, show (iter P s0 (u + 1)).mx 0 c = mtop (P u) c from rfl, mtop_eq P qi hqi]

/-- The exponentials the step after leaves. -/
theorem iter_A (u j c : ℕ) (hj : j < nk qi c) :
    (iter P s0 (u + 2)).A j c = kE (fun j => sc (P u) j c) (nk qi c) (P (u + 1)).cb j := by
  show stB (P (u + 1)) (iter P s0 (u + 1)) (Td (P (u + 1)).qi 4) j c = _
  rw [stB_lt _ _ (by rw [hqi]; exact hj), ee_eq P qi hqi s0 u j c hj]

/-- The row sum of the step after. -/
theorem lsum_eq (u c : ℕ) : lsum (P (u + 1)) (iter P s0 (u + 1)) c = kL (fun j => sc (P u) j c) (nk qi c) (P (u + 1)).cb := by
  have e : Td (P (u + 1)).qi 4 c = 8 * (nk qi c / 8) := by rw [hqi]; simp only [Td, nk]; omega
  have e2 : 8 * (nk qi c / 8) = nk qi c := by unfold nk; omega
  unfold lsum lac kL
  rw [e, Nat.mul_div_cancel_left _ (by norm_num), sum_sublanes (fun j => ee (P (u + 1)) (iter P s0 (u + 1)) j c), e2]
  exact Finset.sum_congr rfl fun j hj => ee_eq P qi hqi s0 u j c (Finset.mem_range.mp hj)

/-- The output rows two steps after. -/
theorem iter_ot (u d c : ℕ) (hd : d < 96) :
    (iter P s0 (u + 3)).ot ((P (u + 2)).row + d) c
      = kOut (fun j => sc (P u) j c) ((P (u + 2)).V d) (nk qi c) (P (u + 1)).cb (P (u + 2)).vs := by
  have h1 : (P (u + 2)).row ≤ (P (u + 2)).row + d ∧ (P (u + 2)).row + d < (P (u + 2)).row + 96 := ⟨by omega, by omega⟩
  have e0 : (iter P s0 (u + 3)).ot ((P (u + 2)).row + d) c
      = otT (P (u + 2)) (iter P s0 (u + 2)) (Td (P (u + 2)).qi 4) ((P (u + 2)).row + d) c * ((iter P s0 (u + 2)).ps 0 c * (P (u + 2)).vs) := if_pos h1
  have e1 : (iter P s0 (u + 2)).r 0 c = rrF (lsum (P (u + 1)) (iter P s0 (u + 1)) c) := rfl
  have e2 : (iter P s0 (u + 2)).ps 0 c = pscF (lsum (P (u + 1)) (iter P s0 (u + 1)) c) := rfl
  rw [e0]
  unfold otT kOut
  rw [if_pos h1, e2, lsum_eq P qi hqi, Nat.add_sub_cancel_left, show Td (P (u + 2)).qi 4 c = nk qi c by rw [hqi]; rfl]
  congr 1
  refine Finset.sum_congr rfl fun k hk => ?_
  rw [iter_A P qi hqi s0 u k c (Finset.mem_range.mp hk), e1, lsum_eq P qi hqi]

omit hqi in
/-- Rows outside a step's are untouched. -/
theorem iter_ot_keep (v j c : ℕ) (h : ¬ ((P v).row ≤ j ∧ j < (P v).row + 96)) : (iter P s0 (v + 1)).ot j c = (iter P s0 v).ot j c := if_neg h

/-- The output rows after the second step of group `t + 1`: the four heads of group `t`. -/
theorem iter_out (hrow : ∀ u, (P u).row = 96 * ((u % 4 + 2) % 4)) (t w c : ℕ) (hw : w < 384) :
    (iter P s0 (4 * (t + 1) + 2)).ot w c
      = kOut (fun j => sc (P (4 * t + w / 96)) j c) ((P (4 * t + w / 96 + 2)).V (w % 96)) (nk qi c) (P (4 * t + w / 96 + 1)).cb (P (4 * t + w / 96 + 2)).vs := by
  obtain ⟨h, hh⟩ : ∃ h, h = w / 96 := ⟨_, rfl⟩
  obtain ⟨d, hd⟩ : ∃ d, d = w % 96 := ⟨_, rfl⟩
  have hw' : w = 96 * h + d := by omega
  have hd' : d < 96 := by omega
  have hh' : h < 4 := by omega
  rw [← hh, ← hd, ← iter_ot P qi hqi s0 (4 * t + h) d c hd', hrow]
  have er : 96 * (((4 * t + h + 2) % 4 + 2) % 4) + d = w := by omega
  rw [er]
  have keep : ∀ k, h + k ≤ 3 → (iter P s0 (4 * t + h + 3 + k)).ot w c = (iter P s0 (4 * t + h + 3)).ot w c := by
    intro k
    induction k with
    | zero => intro _; rfl
    | succ k ih =>
      intro hk
      rw [show 4 * t + h + 3 + (k + 1) = (4 * t + h + 3 + k) + 1 by ring, iter_ot_keep, ih (by omega)]
      rw [hrow]; omega
  rw [← keep (3 - h) (by omega)]
  congr 2; omega
end

/-! The heads' parameters from the arrays. -/

/-- The parameters of head step `u` at query block `qi`: `q3` the transposed query codes, `k4` the padded key codes, `v2` the
    value codes by unit and dimension, `b3` the bias tiles. -/
def pp (qs ks vs : ℕ → EReal) (q3 : ℕ → ℕ → ℕ → EReal) (k4 : ℕ → ℕ → ℕ → ℕ → EReal) (v2 : ℕ → ℕ → EReal) (b3 : ℕ → ℕ → ℕ → EReal) (qi u : ℕ) : HP :=
  hp qi (u / 4) (u % 4) qs ks vs (fun a r x => q3 (min (u / 4) 23 / 12 + a) (min (u / 4) 23 % 12 * 384 + r) (qi * 512 + x))
    (fun a h j d => k4 (min (u / 4) 23 / 12 + a) (min (u / 4) 23 % 12 * 4 + h) j d) (fun r j => v2 ((2 * (u / 4) - 1) * 192 + r) j)
    (fun r j => v2 (min (2 * (u / 4)) 47 * 192 + r) j) (fun h r x => b3 (min (u / 4) 23 % 12 * 4 + h) r x)

/-- The kernel's score of key `j` for query column `c` in query block `qi`, head unit `u`. -/
def uS (qs ks : ℕ → EReal) (q3 : ℕ → ℕ → ℕ → EReal) (k4 : ℕ → ℕ → ℕ → ℕ → EReal) (b3 : ℕ → ℕ → ℕ → EReal) (qi u c j : ℕ) : EReal :=
  let dd := ∑ x : Fin 128, k4 (u / 48) (u % 48) j x.val * (if x.val < 96 then q3 (u / 48) (96 * (u % 48) + x.val) (512 * qi + c) else 0)
  if j / 128 = 4 * qi + c / 128 then dd + b3 (u % 48) (128 + j % 128) (c % 128) * Ideal.div 1 (qs u * ks u)
  else if j / 128 + 1 = 4 * qi + c / 128 then dd + b3 (u % 48) (j % 128) (c % 128) * Ideal.div 1 (qs u * ks u)
  else dd

section
variable (qs ks vs : ℕ → EReal) (q3 : ℕ → ℕ → ℕ → EReal) (k4 : ℕ → ℕ → ℕ → ℕ → EReal) (v2 : ℕ → ℕ → EReal) (b3 : ℕ → ℕ → ℕ → EReal) (qi : ℕ)

theorem pp_sc (u : ℕ) (hu : u < 96) (j c : ℕ) : sc (pp qs ks vs q3 k4 v2 b3 qi u) j c = uS qs ks q3 k4 b3 qi u c j := by
  have e1 : min (u / 4) 23 / 12 + 0 = u / 48 := by omega
  have e2 : min (u / 4) 23 % 12 * 4 + u % 4 = u % 48 := by omega
  have e3 : ∀ x, min (u / 4) 23 % 12 * 384 + (96 * (u % 4) + x) = 96 * (u % 48) + x := by intro x; omega
  have e4 : min 95 (4 * (u / 4) + u % 4) = u := by omega
  have ed : dotp (pp qs ks vs q3 k4 v2 b3 qi u) j c
      = ∑ x : Fin 128, k4 (u / 48) (u % 48) j x.val * (if x.val < 96 then q3 (u / 48) (96 * (u % 48) + x.val) (512 * qi + c) else 0) := by
    unfold dotp pp hp
    dsimp only
    refine Finset.sum_congr rfl fun x _ => ?_
    rw [e1, e2, e3, mul_comm qi 512]
  unfold sc uS
  rw [ed]
  unfold pp hp
  dsimp only
  rw [e2, e4]

theorem pp_cb (u : ℕ) (hu : u < 96) :
    (pp qs ks vs q3 k4 v2 b3 qi (u + 1)).cb = qs u * ks u * Named.named (F := Ideal) (φ := .f32) Cert.KernelIdeal.κ "log2e" 1069066811#32 := by
  unfold pp hp
  dsimp only
  rw [show min 95 (4 * ((u + 1) / 4) + (u + 1) % 4 - 1) = u by omega]

theorem pp_vs (u : ℕ) (hu : u < 96) : (pp qs ks vs q3 k4 v2 b3 qi (u + 2)).vs = vs u := by
  unfold pp hp
  dsimp only
  rw [show min 95 (4 * ((u + 2) / 4) + (u + 2) % 4 - 2) = u by omega]

theorem pp_V (u : ℕ) (hu : u < 96) (d j : ℕ) : (pp qs ks vs q3 k4 v2 b3 qi (u + 2)).V d j = v2 (96 * u + d) j := by
  unfold pp hp
  dsimp only
  split_ifs with h
  · congr 1; omega
  · congr 1; omega

/-- The output rows after the second step of group `t + 1`, from the arrays. -/
theorem pp_out (s0 : HS) (t w c : ℕ) (ht : t < 24) (hw : w < 384) :
    (iter (pp qs ks vs q3 k4 v2 b3 qi) s0 (4 * (t + 1) + 2)).ot w c
      = kOut (uS qs ks q3 k4 b3 qi (4 * t + w / 96) c) (fun j => v2 (96 * (4 * t + w / 96) + w % 96) j) (nk qi c)
          (qs (4 * t + w / 96) * ks (4 * t + w / 96) * Named.named (F := Ideal) (φ := .f32) Cert.KernelIdeal.κ "log2e" 1069066811#32) (vs (4 * t + w / 96)) := by
  rw [iter_out (pp qs ks vs q3 k4 v2 b3 qi) qi (fun _ => rfl) s0 (fun _ => rfl) t w c hw]
  have hu : 4 * t + w / 96 < 96 := by omega
  rw [pp_cb _ _ _ _ _ _ _ _ _ hu, pp_vs _ _ _ _ _ _ _ _ _ hu]
  congr 1
  · funext j; exact pp_sc _ _ _ _ _ _ _ _ _ hu j c
  · funext j; exact pp_V _ _ _ _ _ _ _ _ _ hu _ j
end

end Cert.KernelIdeal.Hand

end
-- ==== Proof.ValueBlocks.lean ====
module

public import proofs.«01_k».proof.Proof.KernelIdealFrame
public import proofs.«01_k».proof.Proof.ValueIter
public import Idealize.ShloMosaic.Lib.Pipeline.ValueKit
public import Idealize.ShloMosaic.Lib.Pipeline.ArrRel
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

local notation "𝕄" => MT nD τ sig Unit (Elt Ideal) ℕ (UR sig nD τ) ℕ

/-! ## The arrays at natural-number coordinates, and the blocks of them that a grid point reads -/

/-- A rank-1 array as a function of a natural number. -/
def un1 {a : ℕ} (X : (⟨1, ![a]⟩ : Shape).Idx → EReal) : ℕ → EReal := fun i => if h : i < a then X (ix1 ⟨i, h⟩) else 0
/-- A rank-2 array as a function of two natural numbers. -/
def ur2 {a b : ℕ} (X : (⟨2, ![a, b]⟩ : Shape).Idx → EReal) : ℕ → ℕ → EReal :=
  fun i j => if h : i < a ∧ j < b then X (ix2 ⟨i, h.1⟩ ⟨j, h.2⟩) else 0
/-- A rank-3 array as a function of three natural numbers. -/
def un3 {a b c : ℕ} (X : (⟨3, ![a, b, c]⟩ : Shape).Idx → EReal) : ℕ → ℕ → ℕ → EReal :=
  fun i j k => if h : i < a ∧ j < b ∧ k < c then X (ix3 ⟨i, h.1⟩ ⟨j, h.2.1⟩ ⟨k, h.2.2⟩) else 0
/-- A rank-4 array as a function of four natural numbers. -/
def un4 {a b c d : ℕ} (X : (⟨4, ![a, b, c, d]⟩ : Shape).Idx → EReal) : ℕ → ℕ → ℕ → ℕ → EReal :=
  fun i j k l => if h : i < a ∧ j < b ∧ k < c ∧ l < d then X (ix4 ⟨i, h.1⟩ ⟨j, h.2.1⟩ ⟨k, h.2.2.1⟩ ⟨l, h.2.2.2⟩) else 0

theorem un1_of {a : ℕ} (X : (⟨1, ![a]⟩ : Shape).Idx → EReal) (y : (⟨1, ![a]⟩ : Shape).Idx) (i : ℕ) (h0 : (y 0).val = i) : X y = un1 X i := by
  subst h0
  have h : (y 0).val < a := (y 0).isLt
  unfold un1; rw [dif_pos h]; congr 1; funext k; apply Fin.ext
  match k with
  | ⟨0, _⟩ => rfl
theorem ur2_of {a b : ℕ} (X : (⟨2, ![a, b]⟩ : Shape).Idx → EReal) (y : (⟨2, ![a, b]⟩ : Shape).Idx) (i j : ℕ)
    (h0 : (y 0).val = i) (h1 : (y 1).val = j) : X y = ur2 X i j := by
  subst h0 h1
  have h : (y 0).val < a ∧ (y 1).val < b := ⟨(y 0).isLt, (y 1).isLt⟩
  unfold ur2; rw [dif_pos h]; congr 1; funext k; apply Fin.ext
  match k with
  | ⟨0, _⟩ => rfl
  | ⟨1, _⟩ => rfl
theorem un3_of {a b c : ℕ} (X : (⟨3, ![a, b, c]⟩ : Shape).Idx → EReal) (y : (⟨3, ![a, b, c]⟩ : Shape).Idx) (i j k : ℕ)
    (h0 : (y 0).val = i) (h1 : (y 1).val = j) (h2 : (y 2).val = k) : X y = un3 X i j k := by
  subst h0 h1 h2
  have h : (y 0).val < a ∧ (y 1).val < b ∧ (y 2).val < c := ⟨(y 0).isLt, (y 1).isLt, (y 2).isLt⟩
  unfold un3; rw [dif_pos h]; congr 1; funext k; apply Fin.ext
  match k with
  | ⟨0, _⟩ => rfl
  | ⟨1, _⟩ => rfl
  | ⟨2, _⟩ => rfl
theorem un4_of {a b c d : ℕ} (X : (⟨4, ![a, b, c, d]⟩ : Shape).Idx → EReal) (y : (⟨4, ![a, b, c, d]⟩ : Shape).Idx) (i j k l : ℕ)
    (h0 : (y 0).val = i) (h1 : (y 1).val = j) (h2 : (y 2).val = k) (h3 : (y 3).val = l) : X y = un4 X i j k l := by
  subst h0 h1 h2 h3
  have h : (y 0).val < a ∧ (y 1).val < b ∧ (y 2).val < c ∧ (y 3).val < d := ⟨(y 0).isLt, (y 1).isLt, (y 2).isLt, (y 3).isLt⟩
  unfold un4; rw [dif_pos h]; congr 1; funext k; apply Fin.ext
  match k with
  | ⟨0, _⟩ => rfl
  | ⟨1, _⟩ => rfl
  | ⟨2, _⟩ => rfl
  | ⟨3, _⟩ => rfl

theorem ei0 : ∀ t : Fin cfg0.N, win0_0.index t = ![0] := (by decide +kernel : ∀ t : Fin grid0.N, win0_0.index t = ![0])
theorem ei1 : ∀ t : Fin cfg0.N, win0_1.index t = ![0] := (by decide +kernel : ∀ t : Fin grid0.N, win0_1.index t = ![0])
theorem ei2 : ∀ t : Fin cfg0.N, win0_2.index t = ![0] := (by decide +kernel : ∀ t : Fin grid0.N, win0_2.index t = ![0])
theorem ei3 : ∀ t : Fin cfg0.N, win0_3.index t = ![min (t.val % 25) 23 / 12, min (t.val % 25) 23 % 12, t.val / 25] :=
  (by decide +kernel : ∀ t : Fin grid0.N, win0_3.index t = ![min (t.val % 25) 23 / 12, min (t.val % 25) 23 % 12, t.val / 25])
theorem ei4 : ∀ t : Fin cfg0.N, win0_4.index t = ![min (t.val % 25) 23 / 12, min (t.val % 25) 23 % 12, 0, 0] :=
  (by decide +kernel : ∀ t : Fin grid0.N, win0_4.index t = ![min (t.val % 25) 23 / 12, min (t.val % 25) 23 % 12, 0, 0])
theorem ei5 : ∀ t : Fin cfg0.N, win0_5.index t = ![2 * (t.val % 25) - 1, 0] :=
  (by decide +kernel : ∀ t : Fin grid0.N, win0_5.index t = ![2 * (t.val % 25) - 1, 0])
theorem ei6 : ∀ t : Fin cfg0.N, win0_6.index t = ![min (2 * (t.val % 25)) 47, 0] :=
  (by decide +kernel : ∀ t : Fin grid0.N, win0_6.index t = ![min (2 * (t.val % 25)) 47, 0])
theorem ei7 : ∀ t : Fin cfg0.N, win0_7.index t = ![min (t.val % 25) 23 % 12, 0, 0] :=
  (by decide +kernel : ∀ t : Fin grid0.N, win0_7.index t = ![min (t.val % 25) 23 % 12, 0, 0])
theorem ei8 : ∀ t : Fin cfg0.N, win0_8.index t = ![(t.val % 25 - 1) / 12, t.val / 25, (t.val % 25 - 1) % 12] :=
  (by decide +kernel : ∀ t : Fin grid0.N, win0_8.index t = ![(t.val % 25 - 1) / 12, t.val / 25, (t.val % 25 - 1) % 12])
theorem co0 : ∀ t : Fin cfg0.N, (grid0.coords t 0).val = t.val / 25 := (by decide +kernel : ∀ t : Fin grid0.N, (grid0.coords t 0).val = t.val / 25)
theorem co1 : ∀ t : Fin cfg0.N, (grid0.coords t 1).val = t.val % 25 := (by decide +kernel : ∀ t : Fin grid0.N, (grid0.coords t 1).val = t.val % 25)
/-- The output block is written back at every point but the first of each query block. -/
theorem flush8 : ∀ t : Fin cfg0.N, (cfg0.win 8).flush t = true → t.val % 25 ≠ 0 :=
  (by decide +kernel : ∀ t : Fin grid0.N, win0_8.flush t = true → t.val % 25 ≠ 0)

variable (m : (ℓ : Loc nD τ sig) → Buf (Elt Ideal) ℓ) (ρ : Dev nD → PrngReg)

/-- The scales of the queries, by head unit. -/
def gqs (c : Dev nD) : ℕ → EReal := un1 (a := 96) (V m c main_v7)
/-- The scales of the keys, by head unit. -/
def gks (c : Dev nD) : ℕ → EReal := un1 (a := 96) (V m c main_v8)
/-- The scales of the values, by head unit. -/
def gvs (c : Dev nD) : ℕ → EReal := un1 (a := 96) (V m c main_v9)
/-- The queries as the kernel is handed them. -/
def gq (c : Dev nD) : ℕ → ℕ → ℕ → EReal := un3 (a := 2) (b := 4608) (c := 8192) (V m c main_v1)
/-- The keys as the kernel is handed them. -/
def gk (c : Dev nD) : ℕ → ℕ → ℕ → ℕ → EReal := un4 (a := 2) (b := 48) (c := 8192) (d := 128) (V m c main_v6)
/-- The values as the kernel is handed them. -/
def gv (c : Dev nD) : ℕ → ℕ → EReal := ur2 (a := 9216) (b := 8192) (V m c main_v3)
/-- The bias tiles. -/
def gb (c : Dev nD) : ℕ → ℕ → ℕ → EReal := un3 (a := 48) (b := 256) (c := 128) (V m c main_arg6)

theorem iblk_0 (c : Dev nD) (t : Fin cfg0.N) : iblk m c 0 t = mk1 (gqs m c) := by
  funext y; unfold mk1 gqs; refine Eq.trans ?_ (un1_of (a := 96) (V m c main_v7) ((win0_0.blk t).view.emb y) _ ?_)
  · blk_simp [iblk]
  · blk_simp [ei0]
theorem iblk_1 (c : Dev nD) (t : Fin cfg0.N) : iblk m c 1 t = mk1 (gks m c) := by
  funext y; unfold mk1 gks; refine Eq.trans ?_ (un1_of (a := 96) (V m c main_v8) ((win0_1.blk t).view.emb y) _ ?_)
  · blk_simp [iblk]
  · blk_simp [ei1]
theorem iblk_2 (c : Dev nD) (t : Fin cfg0.N) : iblk m c 2 t = mk1 (gvs m c) := by
  funext y; unfold mk1 gvs; refine Eq.trans ?_ (un1_of (a := 96) (V m c main_v9) ((win0_2.blk t).view.emb y) _ ?_)
  · blk_simp [iblk]
  · blk_simp [ei2]
theorem iblk_3 (c : Dev nD) (t : Fin cfg0.N) : iblk m c 3 t
    = mk3 (fun a r x => gq m c (min (t.val % 25) 23 / 12 + a) (min (t.val % 25) 23 % 12 * 384 + r) (t.val / 25 * 512 + x)) := by
  funext y; unfold mk3 gq; refine Eq.trans ?_ (un3_of (a := 2) (b := 4608) (c := 8192) (V m c main_v1) ((win0_3.blk t).view.emb y) _ _ _ ?_ ?_ ?_)
  · blk_simp [iblk]
  all_goals blk_simp [ei3]
theorem iblk_4 (c : Dev nD) (t : Fin cfg0.N) : iblk m c 4 t
    = mk4 (fun a h j d => gk m c (min (t.val % 25) 23 / 12 + a) (min (t.val % 25) 23 % 12 * 4 + h) j d) := by
  funext y; unfold mk4 gk
  refine Eq.trans ?_ (un4_of (a := 2) (b := 48) (c := 8192) (d := 128) (V m c main_v6) ((win0_4.blk t).view.emb y) _ _ _ _ ?_ ?_ ?_ ?_)
  · blk_simp [iblk]
  all_goals blk_simp [ei4]
theorem iblk_5 (c : Dev nD) (t : Fin cfg0.N) : iblk m c 5 t = mk2 (fun r j => gv m c ((2 * (t.val % 25) - 1) * 192 + r) j) := by
  funext y; unfold mk2 gv; refine Eq.trans ?_ (ur2_of (a := 9216) (b := 8192) (V m c main_v3) ((win0_5.blk t).view.emb y) _ _ ?_ ?_)
  · blk_simp [iblk]
  all_goals blk_simp [ei5]
theorem iblk_6 (c : Dev nD) (t : Fin cfg0.N) : iblk m c 6 t = mk2 (fun r j => gv m c (min (2 * (t.val % 25)) 47 * 192 + r) j) := by
  funext y; unfold mk2 gv; refine Eq.trans ?_ (ur2_of (a := 9216) (b := 8192) (V m c main_v3) ((win0_6.blk t).view.emb y) _ _ ?_ ?_)
  · blk_simp [iblk]
  all_goals blk_simp [ei6]
theorem iblk_7 (c : Dev nD) (t : Fin cfg0.N) : iblk m c 7 t = mk3 (fun h r x => gb m c (min (t.val % 25) 23 % 12 * 4 + h) r x) := by
  funext y; unfold mk3 gb; refine Eq.trans ?_ (un3_of (a := 48) (b := 256) (c := 128) (V m c main_arg6) ((win0_7.blk t).view.emb y) _ _ _ ?_ ?_ ?_)
  · blk_simp [iblk]
  all_goals blk_simp [ei7]

/-! ## The steps of one query block -/

/-- What head unit `u` of query block `qi` reads. -/
def PP (c : Dev nD) (qi u : ℕ) : HP := pp (gqs m c) (gks m c) (gvs m c) (gq m c) (gk m c) (gv m c) (gb m c) qi u

/-- What the kernel leaves in its result at batch `b`, query `I` and output column `W`. -/
def og (c : Dev nD) (b I W : ℕ) : EReal :=
  kOut (uS (gqs m c) (gks m c) (gq m c) (gk m c) (gb m c) (I / 512) (48 * b + W / 96) (I % 512)) (fun j => gv m c (96 * (48 * b + W / 96) + W % 96) j)
    (nk (I / 512) (I % 512)) (gqs m c (48 * b + W / 96) * gks m c (48 * b + W / 96) * Named.named (F := Ideal) (φ := .f32) Cert.KernelIdeal.κ "log2e" 1069066811#32)
    (gvs m c (48 * b + W / 96))

/-- The blocks at a grid point are what `PP` reads. -/
theorem PP_eq (c : Dev nD) (qi tt h : ℕ) (hh : h < 4) : PP m c qi (4 * tt + h) = hp qi tt h (gqs m c) (gks m c) (gvs m c)
    (fun a r x => gq m c (min tt 23 / 12 + a) (min tt 23 % 12 * 384 + r) (qi * 512 + x)) (fun a h j d => gk m c (min tt 23 / 12 + a) (min tt 23 % 12 * 4 + h) j d)
    (fun r j => gv m c ((2 * tt - 1) * 192 + r) j) (fun r j => gv m c (min (2 * tt) 47 * 192 + r) j)
    (fun h r x => gb m c (min tt 23 % 12 * 4 + h) r x) := by
  unfold PP pp
  rw [show (4 * tt + h) / 4 = tt by omega, show (4 * tt + h) % 4 = h by omega]

/-- The output block after the second step of a group is the kernel's result. -/
theorem og_eq (c : Dev nD) (qi : ℕ) (s0 : HS) (tt w x : ℕ) (h0 : tt ≠ 0) (ht : tt < 25) (hw : w < 384) (hx : x < 512) :
    (iter (PP m c qi) s0 (4 * tt + 2)).ot w x = og m c ((tt - 1) / 12) (512 * qi + x) (384 * ((tt - 1) % 12) + w) := by
  have h := pp_out (gqs m c) (gks m c) (gvs m c) (gq m c) (gk m c) (gv m c) (gb m c) qi s0 (tt - 1) w x (by omega) hw
  rw [show tt - 1 + 1 = tt by omega] at h
  refine h.trans ?_
  unfold og
  rw [show (512 * qi + x) / 512 = qi by omega, show (512 * qi + x) % 512 = x by omega,
    show 48 * ((tt - 1) / 12) + (384 * ((tt - 1) % 12) + w) / 96 = 4 * (tt - 1) + w / 96 by omega,
    show (384 * ((tt - 1) % 12) + w) % 96 = w % 96 by omega]

end Cert.KernelIdeal.Hand

end
-- ==== Proof.ValueOffsets.lean ====
module

public import proofs.«01_k».proof.Proof.ValueSteps

@[expose] public section

set_option maxRecDepth 16384

noncomputable section

namespace Cert.KernelIdeal.Hand

open Cert.KernelIdeal Cert.KernelIdeal.Gen
open Idealize.ShloMosaic Idealize.ShloMosaic.Tactic

/-! The offsets of the body's loads and stores in closed form. -/

/-- `k0_off2` in closed form. -/
theorem v_off2 : ∀ i : grid0.Coords, ∀ (r₁ : Fin 4) (r₂ : Fin 2), k0_off2 i (BitVec.ofNat 32 r₁.val) (BitVec.ofNat 32 (1 + r₂.val)) = ![min 95 (4 * (i 1).val + r₁.val - (1 + r₂.val))] := by
  intro i r₁ r₂
  have r_r₁ : r₁.val < 4 := r₁.isLt
  have h_c0_i32 : Affine.IsInt (BitVec.ofNat 32 r₁.val) ((r₁.val : Int)) := Affine.ofNat _ (by omega)
  have r_r₂ : r₂.val < 2 := r₂.isLt
  have h_c1_i32 : Affine.IsInt (BitVec.ofNat 32 (1 + r₂.val)) ((r₂.val : Int) + 1) := Affine.ofNat _ (by omega)
  have h_c95_i32_16 : Affine.IsInt 95#32 (95) := Affine.ofNat _ (by omega)
  have h_c0_i32_15 : Affine.IsInt 0#32 (0) := Affine.ofNat _ (by omega)
  have r_i1 : (i 1).val < 25 := (i 1).isLt
  have h_arg1 : Affine.IsInt (BitVec.ofNat 32 (i 1).val) (((i 1).val : Int)) := Affine.ofNat _ (by omega)
  have h_c4_i32 : Affine.IsInt 4#32 (4) := Affine.ofNat _ (by omega)
  have h_v0 : Affine.IsInt _ (4 * ((i 1).val : Int)) := Affine.muli h_arg1 h_c4_i32 (by omega)
  have h_v1 : Affine.IsInt _ (4 * ((i 1).val : Int) + (r₁.val : Int)) := Affine.addi h_v0 h_c0_i32 (by omega)
  have h_v31 : Affine.IsInt _ (4 * ((i 1).val : Int) + (r₁.val : Int) - (r₂.val : Int) - 1) := Affine.subi h_v1 h_c1_i32 (by omega)
  have h_v32 : Affine.IsInt _ ((max 0 (4 * ((i 1).val : Int) + (r₁.val : Int) - (r₂.val : Int) - 1))) := Affine.maxsi h_c0_i32_15 h_v31 (by omega)
  have h_v33 : Affine.IsInt _ ((min 95 (max 0 (4 * ((i 1).val : Int) + (r₁.val : Int) - (r₂.val : Int) - 1)))) := Affine.minsi h_c95_i32_16 h_v32 (by omega)
  have h_v34 : Affine.IsInt _ ((min 95 (max 0 (4 * ((i 1).val : Int) + (r₁.val : Int) - (r₂.val : Int) - 1)))) := Affine.indexCast h_v33
  exact Affine.vec_cons h_v34 (by omega) <| Affine.vec_nil
/-- `k0_off3` in closed form. -/
theorem v_off3 : ∀ (i : grid0.Coords) (k0_t1 : Fin (k0_t1_loop i).trips), k0_off3 i k0_t1 = ![512 * k0_t1.val, 0] := by
  intro i k0_t1
  have h_c0_i32_28 : Affine.IsInt 0#32 (0) := Affine.ofNat _ (by omega)
  have h_c1_i32_31 : Affine.IsInt 1#32 (1) := Affine.ofNat _ (by omega)
  have r_k0_t1 : k0_t1.val < 14 := Nat.lt_of_lt_of_le k0_t1.isLt (k0_t1_abs i).2.1
  have h_arg21 : Affine.IsInt _ ((k0_t1.val : Int)) := Affine.iv h_c0_i32_28 h_c1_i32_31 k0_t1.val (by omega)
  have c_arg21 : (k0_t1.val : Int) ≤ 14 - 1 := Affine.iv_lt (k0_t1_abs i).1 k0_t1.isLt (k0_t1_abs i).2.2 h_arg21
  have h_c512_i32_840 : Affine.IsInt 512#32 (512) := Affine.ofNat _ (by omega)
  have h_v1526 : Affine.IsInt _ (512 * (k0_t1.val : Int)) := Affine.muli h_arg21 h_c512_i32_840 (by omega)
  have h_v1528 : Affine.IsInt _ (512 * (k0_t1.val : Int)) := Affine.indexCast h_v1526
  have h_c0_841 : Affine.IsInt 0#32 (0) := Affine.ofNat _ (by omega)
  exact Affine.vec_cons h_v1528 (by omega) <| Affine.vec_cons (Affine.ofNat 0 (by omega) : Affine.IsInt 0#32 0) (by omega) <| Affine.vec_nil
/-- `k0_off4` in closed form. -/
theorem v_off4 : ∀ (i : grid0.Coords) (k0_t1 : Fin (k0_t1_loop i).trips), k0_off4 i k0_t1 = ![0, 512 * k0_t1.val] := by
  intro i k0_t1
  have h_c0_846 : Affine.IsInt 0#32 (0) := Affine.ofNat _ (by omega)
  have h_c0_i32_28 : Affine.IsInt 0#32 (0) := Affine.ofNat _ (by omega)
  have h_c1_i32_31 : Affine.IsInt 1#32 (1) := Affine.ofNat _ (by omega)
  have r_k0_t1 : k0_t1.val < 14 := Nat.lt_of_lt_of_le k0_t1.isLt (k0_t1_abs i).2.1
  have h_arg21 : Affine.IsInt _ ((k0_t1.val : Int)) := Affine.iv h_c0_i32_28 h_c1_i32_31 k0_t1.val (by omega)
  have c_arg21 : (k0_t1.val : Int) ≤ 14 - 1 := Affine.iv_lt (k0_t1_abs i).1 k0_t1.isLt (k0_t1_abs i).2.2 h_arg21
  have h_c512_i32_840 : Affine.IsInt 512#32 (512) := Affine.ofNat _ (by omega)
  have h_v1526 : Affine.IsInt _ (512 * (k0_t1.val : Int)) := Affine.muli h_arg21 h_c512_i32_840 (by omega)
  have h_v1537 : Affine.IsInt _ (512 * (k0_t1.val : Int)) := Affine.indexCast h_v1526
  exact Affine.vec_cons (Affine.ofNat 0 (by omega) : Affine.IsInt 0#32 0) (by omega) <| Affine.vec_cons h_v1537 (by omega) <| Affine.vec_nil
/-- `k0_off5` in closed form. -/
theorem v_off5 : ∀ (i : grid0.Coords) (k0_t1 : Fin (k0_t1_loop i).trips), k0_off5 i k0_t1 = ![0, 0, 512 * k0_t1.val, 0] := by
  intro i k0_t1
  have h_c0_852 : Affine.IsInt 0#32 (0) := Affine.ofNat _ (by omega)
  have h_c0_853 : Affine.IsInt 0#32 (0) := Affine.ofNat _ (by omega)
  have h_c0_i32_28 : Affine.IsInt 0#32 (0) := Affine.ofNat _ (by omega)
  have h_c1_i32_31 : Affine.IsInt 1#32 (1) := Affine.ofNat _ (by omega)
  have r_k0_t1 : k0_t1.val < 14 := Nat.lt_of_lt_of_le k0_t1.isLt (k0_t1_abs i).2.1
  have h_arg21 : Affine.IsInt _ ((k0_t1.val : Int)) := Affine.iv h_c0_i32_28 h_c1_i32_31 k0_t1.val (by omega)
  have c_arg21 : (k0_t1.val : Int) ≤ 14 - 1 := Affine.iv_lt (k0_t1_abs i).1 k0_t1.isLt (k0_t1_abs i).2.2 h_arg21
  have h_c512_i32_840 : Affine.IsInt 512#32 (512) := Affine.ofNat _ (by omega)
  have h_v1526 : Affine.IsInt _ (512 * (k0_t1.val : Int)) := Affine.muli h_arg21 h_c512_i32_840 (by omega)
  have h_v1546 : Affine.IsInt _ (512 * (k0_t1.val : Int)) := Affine.indexCast h_v1526
  have h_c0_854 : Affine.IsInt 0#32 (0) := Affine.ofNat _ (by omega)
  exact Affine.vec_cons (Affine.ofNat 0 (by omega) : Affine.IsInt 0#32 0) (by omega) <| Affine.vec_cons (Affine.ofNat 0 (by omega) : Affine.IsInt 0#32 0) (by omega) <| Affine.vec_cons h_v1546 (by omega) <| Affine.vec_cons (Affine.ofNat 0 (by omega) : Affine.IsInt 0#32 0) (by omega) <| Affine.vec_nil
/-- The full block before the diagonal exists exactly when the query block is not the first. -/
theorem v_cond1 : ∀ i : grid0.Coords, k0_cond1 i = 1#1 ↔ 0 < (i 0).val := by decide +kernel
/-- The number of full blocks the loop goes through. -/
theorem v_trips1 : ∀ i : grid0.Coords, Scf.trips (k0_t1_loop i).lb (k0_t1_loop i).ub (k0_t1_loop i).st = (i 0).val - 1 := by decide +kernel
/-- `k0_off9` in closed form. -/
theorem v_off9 : ∀ i : grid0.Coords, k0_cond1 i = 1#1 → k0_off9 i = ![512 * ((i 0).val - 1), 0] := by decide +kernel
/-- `k0_off10` in closed form. -/
theorem v_off10 : ∀ i : grid0.Coords, k0_cond1 i = 1#1 → k0_off10 i = ![0, 512 * ((i 0).val - 1)] := by decide +kernel
/-- `k0_off11` in closed form. -/
theorem v_off11 : ∀ i : grid0.Coords, k0_cond1 i = 1#1 → k0_off11 i = ![0, 0, 512 * ((i 0).val - 1), 0] := by decide +kernel
/-- `k0_off18` in closed form. -/
theorem v_off18 : ∀ (i : grid0.Coords) (k0_t3 : Fin (k0_t3_loop i).trips), k0_off18 i k0_t3 = ![512 * k0_t3.val, 0] := by
  intro i k0_t3
  have h_c0_i32_228 : Affine.IsInt 0#32 (0) := Affine.ofNat _ (by omega)
  have h_c1_i32_231 : Affine.IsInt 1#32 (1) := Affine.ofNat _ (by omega)
  have r_k0_t3 : k0_t3.val < 14 := Nat.lt_of_lt_of_le k0_t3.isLt (k0_t3_abs i).2.1
  have h_arg21 : Affine.IsInt _ ((k0_t3.val : Int)) := Affine.iv h_c0_i32_228 h_c1_i32_231 k0_t3.val (by omega)
  have c_arg21 : (k0_t3.val : Int) ≤ 14 - 1 := Affine.iv_lt (k0_t3_abs i).1 k0_t3.isLt (k0_t3_abs i).2.2 h_arg21
  have h_c512_i32_840 : Affine.IsInt 512#32 (512) := Affine.ofNat _ (by omega)
  have h_v1526 : Affine.IsInt _ (512 * (k0_t3.val : Int)) := Affine.muli h_arg21 h_c512_i32_840 (by omega)
  have h_v1528 : Affine.IsInt _ (512 * (k0_t3.val : Int)) := Affine.indexCast h_v1526
  have h_c0_841 : Affine.IsInt 0#32 (0) := Affine.ofNat _ (by omega)
  exact Affine.vec_cons h_v1528 (by omega) <| Affine.vec_cons (Affine.ofNat 0 (by omega) : Affine.IsInt 0#32 0) (by omega) <| Affine.vec_nil
/-- `k0_off19` in closed form. -/
theorem v_off19 : ∀ (i : grid0.Coords) (k0_t3 : Fin (k0_t3_loop i).trips), k0_off19 i k0_t3 = ![96, 512 * k0_t3.val] := by
  intro i k0_t3
  have h_c96_846 : Affine.IsInt 96#32 (96) := Affine.ofNat _ (by omega)
  have h_c0_i32_228 : Affine.IsInt 0#32 (0) := Affine.ofNat _ (by omega)
  have h_c1_i32_231 : Affine.IsInt 1#32 (1) := Affine.ofNat _ (by omega)
  have r_k0_t3 : k0_t3.val < 14 := Nat.lt_of_lt_of_le k0_t3.isLt (k0_t3_abs i).2.1
  have h_arg21 : Affine.IsInt _ ((k0_t3.val : Int)) := Affine.iv h_c0_i32_228 h_c1_i32_231 k0_t3.val (by omega)
  have c_arg21 : (k0_t3.val : Int) ≤ 14 - 1 := Affine.iv_lt (k0_t3_abs i).1 k0_t3.isLt (k0_t3_abs i).2.2 h_arg21
  have h_c512_i32_840 : Affine.IsInt 512#32 (512) := Affine.ofNat _ (by omega)
  have h_v1526 : Affine.IsInt _ (512 * (k0_t3.val : Int)) := Affine.muli h_arg21 h_c512_i32_840 (by omega)
  have h_v1537 : Affine.IsInt _ (512 * (k0_t3.val : Int)) := Affine.indexCast h_v1526
  exact Affine.vec_cons (Affine.ofNat 96 (by omega) : Affine.IsInt 96#32 96) (by omega) <| Affine.vec_cons h_v1537 (by omega) <| Affine.vec_nil
/-- `k0_off20` in closed form. -/
theorem v_off20 : ∀ (i : grid0.Coords) (k0_t3 : Fin (k0_t3_loop i).trips), k0_off20 i k0_t3 = ![0, 1, 512 * k0_t3.val, 0] := by
  intro i k0_t3
  have h_c0_852 : Affine.IsInt 0#32 (0) := Affine.ofNat _ (by omega)
  have h_c1_853 : Affine.IsInt 1#32 (1) := Affine.ofNat _ (by omega)
  have h_c0_i32_228 : Affine.IsInt 0#32 (0) := Affine.ofNat _ (by omega)
  have h_c1_i32_231 : Affine.IsInt 1#32 (1) := Affine.ofNat _ (by omega)
  have r_k0_t3 : k0_t3.val < 14 := Nat.lt_of_lt_of_le k0_t3.isLt (k0_t3_abs i).2.1
  have h_arg21 : Affine.IsInt _ ((k0_t3.val : Int)) := Affine.iv h_c0_i32_228 h_c1_i32_231 k0_t3.val (by omega)
  have c_arg21 : (k0_t3.val : Int) ≤ 14 - 1 := Affine.iv_lt (k0_t3_abs i).1 k0_t3.isLt (k0_t3_abs i).2.2 h_arg21
  have h_c512_i32_840 : Affine.IsInt 512#32 (512) := Affine.ofNat _ (by omega)
  have h_v1526 : Affine.IsInt _ (512 * (k0_t3.val : Int)) := Affine.muli h_arg21 h_c512_i32_840 (by omega)
  have h_v1546 : Affine.IsInt _ (512 * (k0_t3.val : Int)) := Affine.indexCast h_v1526
  have h_c0_854 : Affine.IsInt 0#32 (0) := Affine.ofNat _ (by omega)
  exact Affine.vec_cons (Affine.ofNat 0 (by omega) : Affine.IsInt 0#32 0) (by omega) <| Affine.vec_cons (Affine.ofNat 1 (by omega) : Affine.IsInt 1#32 1) (by omega) <| Affine.vec_cons h_v1546 (by omega) <| Affine.vec_cons (Affine.ofNat 0 (by omega) : Affine.IsInt 0#32 0) (by omega) <| Affine.vec_nil
/-- The full block before the diagonal exists exactly when the query block is not the first. -/
theorem v_cond2 : ∀ i : grid0.Coords, k0_cond2 i = 1#1 ↔ 0 < (i 0).val := by decide +kernel
/-- The number of full blocks the loop goes through. -/
theorem v_trips3 : ∀ i : grid0.Coords, Scf.trips (k0_t3_loop i).lb (k0_t3_loop i).ub (k0_t3_loop i).st = (i 0).val - 1 := by decide +kernel
/-- `k0_off24` in closed form. -/
theorem v_off24 : ∀ i : grid0.Coords, k0_cond2 i = 1#1 → k0_off24 i = ![512 * ((i 0).val - 1), 0] := by decide +kernel
/-- `k0_off25` in closed form. -/
theorem v_off25 : ∀ i : grid0.Coords, k0_cond2 i = 1#1 → k0_off25 i = ![96, 512 * ((i 0).val - 1)] := by decide +kernel
/-- `k0_off26` in closed form. -/
theorem v_off26 : ∀ i : grid0.Coords, k0_cond2 i = 1#1 → k0_off26 i = ![0, 1, 512 * ((i 0).val - 1), 0] := by decide +kernel
/-- `k0_off29` in closed form. -/
theorem v_off29 : ∀ (i : grid0.Coords) (k0_t5 : Fin (k0_t5_loop i).trips), k0_off29 i k0_t5 = ![512 * k0_t5.val, 0] := by
  intro i k0_t5
  have h_c0_i32_454 : Affine.IsInt 0#32 (0) := Affine.ofNat _ (by omega)
  have h_c1_i32_457 : Affine.IsInt 1#32 (1) := Affine.ofNat _ (by omega)
  have r_k0_t5 : k0_t5.val < 14 := Nat.lt_of_lt_of_le k0_t5.isLt (k0_t5_abs i).2.1
  have h_arg21 : Affine.IsInt _ ((k0_t5.val : Int)) := Affine.iv h_c0_i32_454 h_c1_i32_457 k0_t5.val (by omega)
  have c_arg21 : (k0_t5.val : Int) ≤ 14 - 1 := Affine.iv_lt (k0_t5_abs i).1 k0_t5.isLt (k0_t5_abs i).2.2 h_arg21
  have h_c512_i32_840 : Affine.IsInt 512#32 (512) := Affine.ofNat _ (by omega)
  have h_v1526 : Affine.IsInt _ (512 * (k0_t5.val : Int)) := Affine.muli h_arg21 h_c512_i32_840 (by omega)
  have h_v1528 : Affine.IsInt _ (512 * (k0_t5.val : Int)) := Affine.indexCast h_v1526
  have h_c0_841 : Affine.IsInt 0#32 (0) := Affine.ofNat _ (by omega)
  exact Affine.vec_cons h_v1528 (by omega) <| Affine.vec_cons (Affine.ofNat 0 (by omega) : Affine.IsInt 0#32 0) (by omega) <| Affine.vec_nil
/-- `k0_off30` in closed form. -/
theorem v_off30 : ∀ (i : grid0.Coords) (k0_t5 : Fin (k0_t5_loop i).trips), k0_off30 i k0_t5 = ![0, 512 * k0_t5.val] := by
  intro i k0_t5
  have h_c0_846 : Affine.IsInt 0#32 (0) := Affine.ofNat _ (by omega)
  have h_c0_i32_454 : Affine.IsInt 0#32 (0) := Affine.ofNat _ (by omega)
  have h_c1_i32_457 : Affine.IsInt 1#32 (1) := Affine.ofNat _ (by omega)
  have r_k0_t5 : k0_t5.val < 14 := Nat.lt_of_lt_of_le k0_t5.isLt (k0_t5_abs i).2.1
  have h_arg21 : Affine.IsInt _ ((k0_t5.val : Int)) := Affine.iv h_c0_i32_454 h_c1_i32_457 k0_t5.val (by omega)
  have c_arg21 : (k0_t5.val : Int) ≤ 14 - 1 := Affine.iv_lt (k0_t5_abs i).1 k0_t5.isLt (k0_t5_abs i).2.2 h_arg21
  have h_c512_i32_840 : Affine.IsInt 512#32 (512) := Affine.ofNat _ (by omega)
  have h_v1526 : Affine.IsInt _ (512 * (k0_t5.val : Int)) := Affine.muli h_arg21 h_c512_i32_840 (by omega)
  have h_v1537 : Affine.IsInt _ (512 * (k0_t5.val : Int)) := Affine.indexCast h_v1526
  exact Affine.vec_cons (Affine.ofNat 0 (by omega) : Affine.IsInt 0#32 0) (by omega) <| Affine.vec_cons h_v1537 (by omega) <| Affine.vec_nil
/-- `k0_off31` in closed form. -/
theorem v_off31 : ∀ (i : grid0.Coords) (k0_t5 : Fin (k0_t5_loop i).trips), k0_off31 i k0_t5 = ![0, 2, 512 * k0_t5.val, 0] := by
  intro i k0_t5
  have h_c0_852 : Affine.IsInt 0#32 (0) := Affine.ofNat _ (by omega)
  have h_c2_853 : Affine.IsInt 2#32 (2) := Affine.ofNat _ (by omega)
  have h_c0_i32_454 : Affine.IsInt 0#32 (0) := Affine.ofNat _ (by omega)
  have h_c1_i32_457 : Affine.IsInt 1#32 (1) := Affine.ofNat _ (by omega)
  have r_k0_t5 : k0_t5.val < 14 := Nat.lt_of_lt_of_le k0_t5.isLt (k0_t5_abs i).2.1
  have h_arg21 : Affine.IsInt _ ((k0_t5.val : Int)) := Affine.iv h_c0_i32_454 h_c1_i32_457 k0_t5.val (by omega)
  have c_arg21 : (k0_t5.val : Int) ≤ 14 - 1 := Affine.iv_lt (k0_t5_abs i).1 k0_t5.isLt (k0_t5_abs i).2.2 h_arg21
  have h_c512_i32_840 : Affine.IsInt 512#32 (512) := Affine.ofNat _ (by omega)
  have h_v1526 : Affine.IsInt _ (512 * (k0_t5.val : Int)) := Affine.muli h_arg21 h_c512_i32_840 (by omega)
  have h_v1546 : Affine.IsInt _ (512 * (k0_t5.val : Int)) := Affine.indexCast h_v1526
  have h_c0_854 : Affine.IsInt 0#32 (0) := Affine.ofNat _ (by omega)
  exact Affine.vec_cons (Affine.ofNat 0 (by omega) : Affine.IsInt 0#32 0) (by omega) <| Affine.vec_cons (Affine.ofNat 2 (by omega) : Affine.IsInt 2#32 2) (by omega) <| Affine.vec_cons h_v1546 (by omega) <| Affine.vec_cons (Affine.ofNat 0 (by omega) : Affine.IsInt 0#32 0) (by omega) <| Affine.vec_nil
/-- The full block before the diagonal exists exactly when the query block is not the first. -/
theorem v_cond3 : ∀ i : grid0.Coords, k0_cond3 i = 1#1 ↔ 0 < (i 0).val := by decide +kernel
/-- The number of full blocks the loop goes through. -/
theorem v_trips5 : ∀ i : grid0.Coords, Scf.trips (k0_t5_loop i).lb (k0_t5_loop i).ub (k0_t5_loop i).st = (i 0).val - 1 := by decide +kernel
/-- `k0_off35` in closed form. -/
theorem v_off35 : ∀ i : grid0.Coords, k0_cond3 i = 1#1 → k0_off35 i = ![512 * ((i 0).val - 1), 0] := by decide +kernel
/-- `k0_off36` in closed form. -/
theorem v_off36 : ∀ i : grid0.Coords, k0_cond3 i = 1#1 → k0_off36 i = ![0, 512 * ((i 0).val - 1)] := by decide +kernel
/-- `k0_off37` in closed form. -/
theorem v_off37 : ∀ i : grid0.Coords, k0_cond3 i = 1#1 → k0_off37 i = ![0, 2, 512 * ((i 0).val - 1), 0] := by decide +kernel
/-- `k0_off39` in closed form. -/
theorem v_off39 : ∀ (i : grid0.Coords) (k0_t7 : Fin (k0_t7_loop i).trips), k0_off39 i k0_t7 = ![512 * k0_t7.val, 0] := by
  intro i k0_t7
  have h_c0_i32_665 : Affine.IsInt 0#32 (0) := Affine.ofNat _ (by omega)
  have h_c1_i32_668 : Affine.IsInt 1#32 (1) := Affine.ofNat _ (by omega)
  have r_k0_t7 : k0_t7.val < 14 := Nat.lt_of_lt_of_le k0_t7.isLt (k0_t7_abs i).2.1
  have h_arg21 : Affine.IsInt _ ((k0_t7.val : Int)) := Affine.iv h_c0_i32_665 h_c1_i32_668 k0_t7.val (by omega)
  have c_arg21 : (k0_t7.val : Int) ≤ 14 - 1 := Affine.iv_lt (k0_t7_abs i).1 k0_t7.isLt (k0_t7_abs i).2.2 h_arg21
  have h_c512_i32_840 : Affine.IsInt 512#32 (512) := Affine.ofNat _ (by omega)
  have h_v1526 : Affine.IsInt _ (512 * (k0_t7.val : Int)) := Affine.muli h_arg21 h_c512_i32_840 (by omega)
  have h_v1528 : Affine.IsInt _ (512 * (k0_t7.val : Int)) := Affine.indexCast h_v1526
  have h_c0_841 : Affine.IsInt 0#32 (0) := Affine.ofNat _ (by omega)
  exact Affine.vec_cons h_v1528 (by omega) <| Affine.vec_cons (Affine.ofNat 0 (by omega) : Affine.IsInt 0#32 0) (by omega) <| Affine.vec_nil
/-- `k0_off40` in closed form. -/
theorem v_off40 : ∀ (i : grid0.Coords) (k0_t7 : Fin (k0_t7_loop i).trips), k0_off40 i k0_t7 = ![96, 512 * k0_t7.val] := by
  intro i k0_t7
  have h_c96_846 : Affine.IsInt 96#32 (96) := Affine.ofNat _ (by omega)
  have h_c0_i32_665 : Affine.IsInt 0#32 (0) := Affine.ofNat _ (by omega)
  have h_c1_i32_668 : Affine.IsInt 1#32 (1) := Affine.ofNat _ (by omega)
  have r_k0_t7 : k0_t7.val < 14 := Nat.lt_of_lt_of_le k0_t7.isLt (k0_t7_abs i).2.1
  have h_arg21 : Affine.IsInt _ ((k0_t7.val : Int)) := Affine.iv h_c0_i32_665 h_c1_i32_668 k0_t7.val (by omega)
  have c_arg21 : (k0_t7.val : Int) ≤ 14 - 1 := Affine.iv_lt (k0_t7_abs i).1 k0_t7.isLt (k0_t7_abs i).2.2 h_arg21
  have h_c512_i32_840 : Affine.IsInt 512#32 (512) := Affine.ofNat _ (by omega)
  have h_v1526 : Affine.IsInt _ (512 * (k0_t7.val : Int)) := Affine.muli h_arg21 h_c512_i32_840 (by omega)
  have h_v1537 : Affine.IsInt _ (512 * (k0_t7.val : Int)) := Affine.indexCast h_v1526
  exact Affine.vec_cons (Affine.ofNat 96 (by omega) : Affine.IsInt 96#32 96) (by omega) <| Affine.vec_cons h_v1537 (by omega) <| Affine.vec_nil
/-- `k0_off41` in closed form. -/
theorem v_off41 : ∀ (i : grid0.Coords) (k0_t7 : Fin (k0_t7_loop i).trips), k0_off41 i k0_t7 = ![0, 3, 512 * k0_t7.val, 0] := by
  intro i k0_t7
  have h_c0_852 : Affine.IsInt 0#32 (0) := Affine.ofNat _ (by omega)
  have h_c3_853 : Affine.IsInt 3#32 (3) := Affine.ofNat _ (by omega)
  have h_c0_i32_665 : Affine.IsInt 0#32 (0) := Affine.ofNat _ (by omega)
  have h_c1_i32_668 : Affine.IsInt 1#32 (1) := Affine.ofNat _ (by omega)
  have r_k0_t7 : k0_t7.val < 14 := Nat.lt_of_lt_of_le k0_t7.isLt (k0_t7_abs i).2.1
  have h_arg21 : Affine.IsInt _ ((k0_t7.val : Int)) := Affine.iv h_c0_i32_665 h_c1_i32_668 k0_t7.val (by omega)
  have c_arg21 : (k0_t7.val : Int) ≤ 14 - 1 := Affine.iv_lt (k0_t7_abs i).1 k0_t7.isLt (k0_t7_abs i).2.2 h_arg21
  have h_c512_i32_840 : Affine.IsInt 512#32 (512) := Affine.ofNat _ (by omega)
  have h_v1526 : Affine.IsInt _ (512 * (k0_t7.val : Int)) := Affine.muli h_arg21 h_c512_i32_840 (by omega)
  have h_v1546 : Affine.IsInt _ (512 * (k0_t7.val : Int)) := Affine.indexCast h_v1526
  have h_c0_854 : Affine.IsInt 0#32 (0) := Affine.ofNat _ (by omega)
  exact Affine.vec_cons (Affine.ofNat 0 (by omega) : Affine.IsInt 0#32 0) (by omega) <| Affine.vec_cons (Affine.ofNat 3 (by omega) : Affine.IsInt 3#32 3) (by omega) <| Affine.vec_cons h_v1546 (by omega) <| Affine.vec_cons (Affine.ofNat 0 (by omega) : Affine.IsInt 0#32 0) (by omega) <| Affine.vec_nil
/-- The full block before the diagonal exists exactly when the query block is not the first. -/
theorem v_cond4 : ∀ i : grid0.Coords, k0_cond4 i = 1#1 ↔ 0 < (i 0).val := by decide +kernel
/-- The number of full blocks the loop goes through. -/
theorem v_trips7 : ∀ i : grid0.Coords, Scf.trips (k0_t7_loop i).lb (k0_t7_loop i).ub (k0_t7_loop i).st = (i 0).val - 1 := by decide +kernel
/-- `k0_off45` in closed form. -/
theorem v_off45 : ∀ i : grid0.Coords, k0_cond4 i = 1#1 → k0_off45 i = ![512 * ((i 0).val - 1), 0] := by decide +kernel
/-- `k0_off46` in closed form. -/
theorem v_off46 : ∀ i : grid0.Coords, k0_cond4 i = 1#1 → k0_off46 i = ![96, 512 * ((i 0).val - 1)] := by decide +kernel
/-- `k0_off47` in closed form. -/
theorem v_off47 : ∀ i : grid0.Coords, k0_cond4 i = 1#1 → k0_off47 i = ![0, 3, 512 * ((i 0).val - 1), 0] := by decide +kernel

open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Rounds

local notation "𝕄" => MT nD τ sig Unit (Elt Ideal) ℕ (UR sig nD τ) ℕ

/-- A memref's buffer on core `c` held whole at contents `f`. -/
abbrev pv (c : Dev nD) {sp : Space} {S : Shape} {e : EltTy} (M : Memref sig .tc sp S e) (f : Buf (Elt Ideal) (M.view.loc (c : Thread nD τ))) : sProp 𝕄 :=
  M.view.loc (c : Thread nD τ) ↦{fullShare} f

/-- A buffer held at contents that read `X` is held at the contents spelling `X`. -/
theorem pv_of_read {c : Dev nD} {sp : Space} {S : Shape} {e : EltTy} {M : Memref sig .tc sp S e} (h : M.IsWhole)
    {f : Buf (Elt Ideal) (M.view.loc (c : Thread nD τ))} {X : S.Idx → Elt Ideal e} (hf : M.view.read (Elt Ideal) f = X) :
    pv c M f ⊢ pv c M (h.unread X) := by
  rw [h.eq_unread hf]

end Cert.KernelIdeal.Hand

end
-- ==== Proof.ValueOut.lean ====
module

public import proofs.«01_k».proof.Proof.ValueOffsets

@[expose] public section

set_option maxRecDepth 16384

noncomputable section

namespace Cert.KernelIdeal.Hand

open Cert.KernelIdeal Cert.KernelIdeal.Gen
open Idealize.ShloMosaic Idealize.ShloMosaic.Tactic

section
variable {Val : EltTy → Type} {sig : RefSig} {κ : Kind} {sp : Space} {e : EltTy}

/-- The reading of a rank-3 memref of one row block after three stores of column blocks that cover it. -/
theorem read_cols3_mk3 {a : ℕ} {M : Memref sig κ sp ⟨3, ![1, a, 384]⟩ e} (g : M.view.ty.Contents Val) (f' : ℕ → ℕ → ℕ → Val e)
    (inb0 inb1 inb2)
    (w0 : (Rect.unit (s := ⟨3, ![1, a, 384]⟩) ![0, 0, 0] (⟨3, ![1, a, 128]⟩ : Shape).size inb0).shape.Idx → Val e)
    (w1 : (Rect.unit (s := ⟨3, ![1, a, 384]⟩) ![0, 0, 128] (⟨3, ![1, a, 128]⟩ : Shape).size inb1).shape.Idx → Val e)
    (w2 : (Rect.unit (s := ⟨3, ![1, a, 384]⟩) ![0, 0, 256] (⟨3, ![1, a, 128]⟩ : Shape).size inb2).shape.Idx → Val e)
    (hin0 : ∀ (r : Fin a) (c : Fin 128), w0 (ix3 (0 : Fin 1) r c) = f' 0 r.val c.val)
    (hin1 : ∀ (r : Fin a) (c : Fin 128), w1 (ix3 (0 : Fin 1) r c) = f' 0 r.val (128 + c.val))
    (hin2 : ∀ (r : Fin a) (c : Fin 128), w2 (ix3 (0 : Fin 1) r c) = f' 0 r.val (256 + c.val)) :
    M.view.read Val (M.view.writes Val g [⟨Rect.unit (s := ⟨3, ![1, a, 384]⟩) ![0, 0, 256] (⟨3, ![1, a, 128]⟩ : Shape).size inb2, w2⟩,
      ⟨Rect.unit (s := ⟨3, ![1, a, 384]⟩) ![0, 0, 128] (⟨3, ![1, a, 128]⟩ : Shape).size inb1, w1⟩,
      ⟨Rect.unit (s := ⟨3, ![1, a, 384]⟩) ![0, 0, 0] (⟨3, ![1, a, 128]⟩ : Shape).size inb0, w0⟩]) = mk3 f' := by
  funext y
  have hy0 : (y 0).val < 1 := (y 0).isLt
  have hy1 : (y 1).val < a := (y 1).isLt
  have hy2 : (y 2).val < 384 := (y 2).isLt
  have e0 : (y 0).val = 0 := by omega
  by_cases h2 : (y 2).val < 256
  · rw [View.read_writes_cons_unit_of_not_mem M.view g inb2 w2 _ y rfl 2 (.inl h2)]
    by_cases h1 : (y 2).val < 128
    · rw [View.read_writes_cons_unit_of_not_mem M.view g inb1 w1 _ y rfl 2 (.inl h1)]
      rw [View.read_writes_cons_unit_of_mem M.view g inb0 w0 [] y (ix3 (n0 := 1) (n1 := a) (n2 := 128) 0 ⟨(y 1).val, hy1⟩ ⟨(y 2).val, h1⟩) rfl
        (fun x => by
          match x with
          | ⟨0, _⟩ => exact e0
          | ⟨1, _⟩ => exact (Nat.zero_add _).symm
          | ⟨2, _⟩ => exact (Nat.zero_add _).symm)]
      rw [hin0]
      show f' 0 (y 1).val (y 2).val = f' (y 0).val (y 1).val (y 2).val
      rw [e0]
    · rw [View.read_writes_cons_unit_of_mem M.view g inb1 w1 _ y (ix3 (n0 := 1) (n1 := a) (n2 := 128) 0 ⟨(y 1).val, hy1⟩ ⟨(y 2).val - 128, by omega⟩) rfl
        (fun x => by
          match x with
          | ⟨0, _⟩ => exact e0
          | ⟨1, _⟩ => exact (Nat.zero_add _).symm
          | ⟨2, _⟩ => show (y 2).val = 128 + ((y 2).val - 128); omega)]
      rw [hin1]
      show f' 0 (y 1).val (128 + ((y 2).val - 128)) = f' (y 0).val (y 1).val (y 2).val
      rw [e0]; congr 1; omega
  · rw [View.read_writes_cons_unit_of_mem M.view g inb2 w2 _ y (ix3 (n0 := 1) (n1 := a) (n2 := 128) 0 ⟨(y 1).val, hy1⟩ ⟨(y 2).val - 256, by omega⟩) rfl
      (fun x => by
        match x with
        | ⟨0, _⟩ => exact e0
        | ⟨1, _⟩ => exact (Nat.zero_add _).symm
        | ⟨2, _⟩ => show (y 2).val = 256 + ((y 2).val - 256); omega)]
    rw [hin2]
    show f' 0 (y 1).val (256 + ((y 2).val - 256)) = f' (y 0).val (y 1).val (y 2).val
    rw [e0]; congr 1; omega

end

/-- Column block 0 of the output, at an index. -/
theorem out_0 {arg20 : Memref sig .tc .vmem S384x512 .f32} (h : arg20.IsWhole) (f : ℕ → ℕ → EReal) (r : Fin 512) (c : Fin 128) :
    k0_pay157 (F := Ideal) (arg20.view.readAt (Elt Ideal) (Rect.unit (s := S384x512) ![0, 0] S128x512.size inb_S384x512_S128x512_0_0).toLoadRect (h.unread (mk2 f))) (ix3 (0 : Fin 1) r c) = f (c.val) r.val := by
  unfold_payloads; pointwise [ra2]
  try simp only [Matrix.cons_val_zero, Matrix.cons_val_one, Nat.zero_add]

/-- Column block 1 of the output, at an index. -/
theorem out_128 {arg20 : Memref sig .tc .vmem S384x512 .f32} (h : arg20.IsWhole) (f : ℕ → ℕ → EReal) (r : Fin 512) (c : Fin 128) :
    k0_pay159 (F := Ideal) (k0_pay158 (F := Ideal) (arg20.view.readAt (Elt Ideal) (Rect.unit (s := S384x512) ![128, 0] S128x512.size inb_S384x512_S128x512_128_0).toLoadRect (h.unread (mk2 f)))) (ix3 (0 : Fin 1) r c) = f (128 + c.val) r.val := by
  unfold_payloads; pointwise [ra2]
  try simp only [Matrix.cons_val_zero, Matrix.cons_val_one, Nat.zero_add]

/-- Column block 2 of the output, at an index. -/
theorem out_256 {arg20 : Memref sig .tc .vmem S384x512 .f32} (h : arg20.IsWhole) (f : ℕ → ℕ → EReal) (r : Fin 512) (c : Fin 128) :
    k0_pay160 (F := Ideal) (arg20.view.readAt (Elt Ideal) (Rect.unit (s := S384x512) ![256, 0] S128x512.size inb_S384x512_S128x512_256_0).toLoadRect (h.unread (mk2 f))) (ix3 (0 : Fin 1) r c) = f (256 + c.val) r.val := by
  unfold_payloads; pointwise [ra2]
  try simp only [Matrix.cons_val_zero, Matrix.cons_val_one, Nat.zero_add]

end Cert.KernelIdeal.Hand

end
-- ==== Proof.ValueBodyPos.lean ====
module

public import proofs.«01_k».proof.Proof.ValueOut
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

namespace bodyPos.sl
end bodyPos.sl
open bodyPos.sl

set_option maxHeartbeats 40000000 in
/-- One run of the body, past the first query block: four head steps, and an output block that holds the output rows after the
    second of them. -/
theorem bodyPos (c : Dev nD) (i : grid0.Coords) (hpos : 0 < (i 0).val) (arg2 : Memref sig .tc .smem S96 .f32) (harg2 : arg2.IsWhole) (arg3 : Memref sig .tc .smem S96 .f32) (harg3 : arg3.IsWhole) (arg4 : Memref sig .tc .smem S96 .f32) (harg4 : arg4.IsWhole) (arg5 : Memref sig .tc .vmem S1x384x512 .fp8e4m3) (harg5 : arg5.IsWhole) (arg6 : Memref sig .tc .vmem S1x4x8192x128 .fp8e4m3) (harg6 : arg6.IsWhole) (arg7 : Memref sig .tc .vmem S192x8192 .fp8e4m3) (harg7 : arg7.IsWhole) (arg8 : Memref sig .tc .vmem S192x8192 .fp8e4m3) (harg8 : arg8.IsWhole) (arg9 : Memref sig .tc .vmem S4x256x128 .f32) (harg9 : arg9.IsWhole) (arg10 : Memref sig .tc .vmem S1x512x384 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S128x512 .fp8e4m3) (harg13 : arg13.IsWhole) (arg14 : Memref sig .tc .vmem S256x128 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S8x512 .f32) (harg19 : arg19.IsWhole) (arg20 : Memref sig .tc .vmem S384x512 .f32) (harg20 : arg20.IsWhole)
    (qs ks vs : ℕ → EReal) (fq : ℕ → ℕ → ℕ → EReal) (fk : ℕ → ℕ → ℕ → ℕ → EReal) (va vb : ℕ → ℕ → EReal) (fb : ℕ → ℕ → ℕ → EReal) (s0 : HS)
    (Q : PUnit → sProp 𝕄) :
    iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ (∃ f, pv c arg10 f) ∗ pv c arg11 (harg11.unread (mk2 s0.A)) ∗ pv c arg12 (harg12.unread (mk2 s0.B)) ∗ (∃ f, pv c arg13 f) ∗ (∃ f, pv c arg14 f) ∗ (∃ f, pv c arg15 f) ∗ (∃ f, pv c arg16 f) ∗ pv c arg17 (harg17.unread (mk2 s0.mx)) ∗ pv c arg18 (harg18.unread (mk2 s0.r)) ∗ pv c arg19 (harg19.unread (mk2 s0.ps)) ∗ pv c arg20 (harg20.unread (mk2 s0.ot))
      ∗ (iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ pv c arg10 (harg10.unread (mk3 fun _ x w => (step (hp (i 0).val (i 1).val 1 qs ks vs fq fk va vb fb) (step (hp (i 0).val (i 1).val 0 qs ks vs fq fk va vb fb) s0)).ot w x)) ∗ pv c arg11 (harg11.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).A)) ∗ pv c arg12 (harg12.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).B)) ∗ (∃ f, pv c arg13 f) ∗ (∃ f, pv c arg14 f) ∗ (∃ f, pv c arg15 f) ∗ (∃ f, pv c arg16 f) ∗ pv c arg17 (harg17.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).mx)) ∗ pv c arg18 (harg18.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).r)) ∗ pv c arg19 (harg19.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ps)) ∗ pv c arg20 (harg20.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ot))) -∗ Q ⟨⟩))
    ⊢ wp frame (wpE (defs₀ (F := Ideal)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  have hc0 : k0_cond1 i = 1#1 := (v_cond1 i).mpr hpos
  have hc1 : k0_cond2 i = 1#1 := (v_cond2 i).mpr hpos
  have hc2 : k0_cond3 i = 1#1 := (v_cond3 i).mpr hpos
  have hc3 : k0_cond4 i = 1#1 := (v_cond4 i).mpr hpos
  iintro ⟨H2, H3, H4, H5, H6, H7, H8, H9, ⟨%f10, H10⟩, H11, H12, ⟨%f13, H13⟩, ⟨%f14, H14⟩, ⟨%f15, H15⟩, ⟨%f16, H16⟩, H17, H18, H19, H20, Hk⟩
  -- Head 0.
  obtain ⟨p0, hp0⟩ : ∃ p, p = hp (i 0).val (i 1).val 0 qs ks vs fq fk va vb fb := ⟨_, rfl⟩
  obtain ⟨s1, hs1⟩ : ∃ s, s = step p0 s0 := ⟨_, rfl⟩
  have hqi : p0.qi = (i 0).val := by rw [hp0]; rfl
  have hrow : p0.row = 192 := by rw [hp0]; rfl
  have hK : ∀ j d, fk 0 0 j d = p0.K j d := fun j d => by rw [hp0]; rfl
  have hV : ∀ d j, va (d) j = p0.V d j := fun d j => by rw [hp0]; simp [hp]
  have hQ : ∀ d c, d < 96 → fq 0 (d) c = p0.Q d c := fun d c hd => by rw [hp0]; simp [hp, hd]
  have hQ0 : ∀ d c, p0.Q (96 + d) c = 0 := fun d c => by rw [hp0]; simp [hp]
  have hTi : ∀ r c, fb 0 r c * Ideal.div 1 (qs (k0_off1 i 0#32 0) * ks (k0_off1 i 0#32 0)) = p0.Ti r c := fun r c => by
    have e : k0_off1 i 0#32 = _ := k0_off1_eq i 0
    rw [hp0, e]; rfl
  have hcb : qs (k0_off2 i 0#32 1#32 0) * ks (k0_off2 i 0#32 1#32 0) * Named.named (F := Ideal) (φ := .f32) κ "log2e" 1069066811#32 = p0.cb := by
    have e : k0_off2 i 0#32 1#32 = _ := v_off2 i 0 0
    rw [hp0, e]; rfl
  have hvs : vs (k0_off2 i 0#32 2#32 0) = p0.vs := by
    have e : k0_off2 i 0#32 2#32 = _ := v_off2 i 0 1
    rw [hp0, e]; rfl
  have ek0 : k0_off14 i 0#32 = ![0, 0, 512 * (i 0).val + 0, 0] := k0_off14_eq i 0
  have ev0 : k0_off13 i 0#32 = ![0, 512 * (i 0).val + 0] := k0_off13_eq i 0
  have ek1 : k0_off14 i 128#32 = ![0, 0, 512 * (i 0).val + 128, 0] := k0_off14_eq i 1
  have ev1 : k0_off13 i 128#32 = ![0, 512 * (i 0).val + 128] := k0_off13_eq i 1
  have ek2 : k0_off14 i 256#32 = ![0, 0, 512 * (i 0).val + 256, 0] := k0_off14_eq i 2
  have ev2 : k0_off13 i 256#32 = ![0, 512 * (i 0).val + 256] := k0_off13_eq i 2
  have ek3 : k0_off14 i 384#32 = ![0, 0, 512 * (i 0).val + 384, 0] := k0_off14_eq i 3
  have ev3 : k0_off13 i 384#32 = ![0, 512 * (i 0).val + 384] := k0_off13_eq i 3
  have E := And.intro ek0 <| And.intro ek1 <| And.intro ek2 <| And.intro ek3 <| And.intro ev0 <| And.intro ev1 <| And.intro ev2 <| And.intro ev3 <| And.intro @v_off3 <| And.intro @v_off4 <| And.intro @v_off5 <| And.intro (v_off9 i hc0) <| And.intro (v_off10 i hc0) <| And.intro (v_off11 i hc0) <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p0.Q))) $$ [H13]
  · istop; refine pv_of_read harg13 ?_
    delta H13_2 bodyPos.sl.cst v4 v7
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p0.Ti))) $$ [H14]
  · istop; refine pv_of_read harg14 ?_
    delta v21 v19 v26 bodyPos.sl.r v22 v18 H14_1 cst_6 r_1 v23
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p0 (Tl 0)))) $$ [H15]
  · istop; refine pv_of_read harg15 ?_
    delta cst_12 H15_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p0 s0 (Tl 0)))) $$ [H16]
  · istop; refine pv_of_read harg16 ?_
    delta H16_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p0 s0 (Tl 0)))) $$ [H20]
  · istop; refine pv_of_read harg20 ?_
    refine read_store_mk2 _ _ _ (harg20.read_unread _) _ (192) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p0 s0 (by omega)]
    · intro j c hj hc' hn
      exact otT_out p0 s0 _ (by omega)
  ihave H11 : pv c arg11 (harg11.unread (mk2 (stA p0 s0 (Tl 0)))) $$ [H11]
  · istop; refine pv_of_read harg11 ?_
    rw [harg11.read_unread, stA_zero]
  ihave H12 : pv c arg12 (harg12.unread (mk2 (stB p0 s0 (Tl 0)))) $$ [H12]
  · istop; refine pv_of_read harg12 ?_
    rw [harg12.read_unread, stB_zero]
  sl_for (fun k _ => iprop(pv c arg6 (harg6.unread (mk4 fk)) ∗ pv c arg7 (harg7.unread (mk2 va)) ∗ pv c arg13 (harg13.unread (mk2 p0.Q)) ∗ pv c arg11 (harg11.unread (mk2 (stA p0 s0 (Tl k)))) ∗ pv c arg12 (harg12.unread (mk2 (stB p0 s0 (Tl k)))) ∗ pv c arg15 (harg15.unread (mk2 (mac p0 (Tl k)))) ∗ pv c arg16 (harg16.unread (mk2 (lac p0 s0 (Tl k)))) ∗ pv c arg20 (harg20.unread (mk2 (otT p0 s0 (Tl k)))))) $$ [H6 H7 H13 H11 H12 H15 H16 H20]
  · intro k acc
    have hk : k.val < (i 0).val - 1 := v_trips1 i ▸ k.isLt
    iintro ⟨H6, H7, H13, H11, H12, H15, H16, H20⟩
    sl_exec
    ihave H15 : pv c arg15 (harg15.unread (mk2 (mac p0 (Tl (k.val+1))))) $$ [H15]
    · istop; refine pv_of_read harg15 ?_
      refine read_whole_mk2 _ _ _ _ _ ?_
      intro r c
      have hr := r.isLt; have := c.isLt
      delta v1550 v1548 v1554 v1557 v1553 cst_857 v1552
      unfold_payloads; pointwise [ra1, ra2, ra3, ra4, raw2]
      try simp only [E, Matrix.cons_val_zero, Matrix.cons_val_one, Matrix.cons_val, Nat.zero_add, Nat.add_zero, fold_dotp]
      refine mac_step p0 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p0 s0 (Tl (k.val+1))))) $$ [H16]
    · istop; refine pv_of_read harg16 ?_
      refine read_whole_mk2 _ _ _ _ _ ?_
      intro r c
      have hr := r.isLt; have := c.isLt
      delta r_2 r_3
      unfold_payloads; pointwise [ra1, ra2, ra3, ra4, raw2]
      try simp only [E, Matrix.cons_val_zero, Matrix.cons_val_one, Matrix.cons_val, Nat.zero_add, Nat.add_zero, fold_dotp]
      refine lac_step p0 s0 (64*k.val) (by simp only [Tl, Td] <;> omega) (by simp only [Tl, Td] <;> omega) _ ?_
      intro x; have hx := x.isLt
      exact ee_of p0 s0 (by omega) (by simp only [Tl, Td] <;> omega)
    ihave H11 : pv c arg11 (harg11.unread (mk2 (stA p0 s0 (Tl (k.val+1))))) $$ [H11]
    · istop; refine pv_of_read harg11 ?_
      refine read_store_mk2 _ _ _ (harg11.read_unread _) _ (512*k.val) (0) (v_off3 i k) _ ?_ ?_
      · intro r c
        have hr := r.isLt; have := c.isLt
        delta v1550 v1548 cst_857
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p0 s0 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p0 s0 ?_
        simp only [Tl, Td] <;> omega
    ihave H12 : pv c arg12 (harg12.unread (mk2 (stB p0 s0 (Tl (k.val+1))))) $$ [H12]
    · istop; refine pv_of_read harg12 ?_
      refine read_store_mk2 _ _ _ (harg12.read_unread _) _ (512*k.val) (0) (v_off3 i k) _ ?_ ?_
      · intro r c
        have hr := r.isLt; have := c.isLt
        delta r_2 r_3
        unfold_payloads; pointwise [ra1, ra2, ra3, ra4, raw2]
        try simp only [E, Matrix.cons_val_zero, Matrix.cons_val_one, Matrix.cons_val, Nat.zero_add, Nat.add_zero, fold_dotp]
        exact (ee_of p0 s0 (by omega) (by simp only [Tl, Td] <;> omega)).trans (stB_lt p0 s0 (by simp only [Tl, Td] <;> omega)).symm
      · intro j c hj hc' hn
        refine stB_out p0 s0 ?_
        simp only [Tl, Td] <;> omega
    ihave H20 : pv c arg20 (harg20.unread (mk2 (otT p0 s0 (Tl (k.val+1))))) $$ [H20]
    · istop; refine pv_of_read harg20 ?_
      refine read_store_within_mk2 _ _ _ (harg20.read_unread _) _ _ (192) (0) rfl rfl _ _ ?_ ?_
      · intro r c
        have hr := r.isLt; have := c.isLt
        delta v1540 v1531 v1533 v1532 cst_847 v1541 v1536 v1530 v1545 v1534 v1539
        unfold_payloads; pointwise [ra1, ra2, ra3, ra4, raw2]
        try simp only [E, Matrix.cons_val_zero, Matrix.cons_val_one, Matrix.cons_val, Nat.zero_add, Nat.add_zero, fold_dotp]
        refine ot_step p0 s0 (r := r.val) (by omega) r.isLt (512*k.val) (by simp only [Tl, Td] <;> omega) (by simp only [Tl, Td] <;> omega) _ ?_
        intro x; have hx := x.isLt
        exact ot_term p0 s0 (by omega) (by omega) (by simp only [Tl, Td] <;> omega)
      · intro j c hj hc' hn
        by_cases hrw : p0.row ≤ j ∧ j < p0.row + 96
        · simp only [otT, Tl, Td, if_pos hrw]
          first | (exfalso; omega) | (congr 2; omega)
        · rw [otT_out p0 s0 _ hrw, otT_out p0 s0 _ hrw]
    sl_step
    iframe
  · iframe
  iintro %acc
  iintro ⟨H6, H7, H13, H11, H12, H15, H16, H20⟩
  rw [v_trips1]
  set_option sl_exec.maxSteps 22 in sl_exec
  ihave H15 : pv c arg15 (harg15.unread (mk2 (mac p0 (Td (i 0).val 0)))) $$ [H15]
  · istop; refine pv_of_read harg15 ?_
    refine read_whole_mk2 _ _ _ _ _ ?_
    intro r c
    have hr := r.isLt; have := c.isLt
    delta v1549 v1558 v1557_1 r_4 v1554_1 v1551 cst_858 v1552_1 v1555 v1560 v1556_1
    unfold_payloads; pointwise [ra1, ra2, ra3, ra4, raw2]
    try simp only [E, Matrix.cons_val_zero, Matrix.cons_val_one, Matrix.cons_val, Nat.zero_add, Nat.add_zero, fold_dotp]
    refine mac_step p0 (64*((i 0).val-1)) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p0 s0 (Td (i 0).val 0)))) $$ [H16]
  · istop; refine pv_of_read harg16 ?_
    refine read_whole_mk2 _ _ _ _ _ ?_
    intro r c
    have hr := r.isLt; have := c.isLt
    delta r_2 r_3
    unfold_payloads; pointwise [ra1, ra2, ra3, ra4, raw2]
    try simp only [E, Matrix.cons_val_zero, Matrix.cons_val_one, Matrix.cons_val, Nat.zero_add, Nat.add_zero, fold_dotp]
    refine lac_step p0 s0 (64*((i 0).val-1)) (by simp only [Tl, Td] <;> omega) (by simp only [Tl, Td] <;> omega) _ ?_
    intro x; have hx := x.isLt
    exact ee_of p0 s0 (by omega) (by simp only [Tl, Td] <;> omega)
  ihave H11 : pv c arg11 (harg11.unread (mk2 (stA p0 s0 (Td (i 0).val 0)))) $$ [H11]
  · istop; refine pv_of_read harg11 ?_
    refine read_store_mk2 _ _ _ (harg11.read_unread _) _ (512*((i 0).val-1)) (0) (v_off9 i hc0) _ ?_ ?_
    · intro r c
      have hr := r.isLt; have := c.isLt
      delta v1549 v1558 v1557_1 v1554_1 v1551 cst_858 v1552_1 v1555 v1556_1
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 0)))) $$ [H12]
  · istop; refine pv_of_read harg12 ?_
    refine read_store_mk2 _ _ _ (harg12.read_unread _) _ (512*((i 0).val-1)) (0) (v_off9 i hc0) _ ?_ ?_
    · intro r c
      have hr := r.isLt; have := c.isLt
      delta r_2 r_3
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 0)))) $$ [H20]
  · istop; refine pv_of_read harg20 ?_
    refine read_store_within_mk2 _ _ _ (harg20.read_unread _) _ _ (192) (0) rfl rfl _ _ ?_ ?_
    · intro r c
      have hr := r.isLt; have := c.isLt
      delta cst_848 v1546 v1541_1 v1535 v1531_1 v1534_1 v1533_1 v1542 v1540_1 v1532_1 v1537
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*((i 0).val-1)) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 24 in sl_exec
  ihave H15 : pv c arg15 (harg15.unread (mk2 (mac p0 (Td (i 0).val 1)))) $$ [H15]
  · istop; refine pv_of_read harg15 ?_
    refine read_whole_mk2 _ _ _ _ _ ?_
    intro r c
    have hr := r.isLt; have := c.isLt
    delta v93 v86 v90 v96 v101 v98 v92 v94 v84 cst_51 v97 v89 v87
    unfold_payloads; pointwise [ra1, ra2, ra3, ra4, raw2]
    try simp only [E, Matrix.cons_val_zero, Matrix.cons_val_one, Matrix.cons_val, Nat.zero_add, Nat.add_zero, fold_dotp]
    refine mac_step p0 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p0 s0 (Td (i 0).val 1)))) $$ [H16]
  · istop; refine pv_of_read harg16 ?_
    refine read_whole_mk2 _ _ _ _ _ ?_
    intro r c
    have hr := r.isLt; have := c.isLt
    delta v108 r_5 v111 v121 v118 r_2 v117 v113 r_6 v110 v114 v109 r_3 v112 v116
    unfold_payloads; pointwise [ra1, ra2, ra3, ra4, raw2]
    try simp only [E, Matrix.cons_val_zero, Matrix.cons_val_one, Matrix.cons_val, Nat.zero_add, Nat.add_zero, fold_dotp]
    refine lac_step p0 s0 (64*(i 0).val+0) (by simp only [Tl, Td] <;> omega) (by simp only [Tl, Td] <;> omega) _ ?_
    intro x; have hx := x.isLt
    exact ee_of p0 s0 (by omega) (by simp only [Tl, Td] <;> omega)
  ihave H11 : pv c arg11 (harg11.unread (mk2 (stA p0 s0 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v93 v105 v86 v90 v92 v94 v84 cst_51 v89 v87
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v108 r_5 v111 r_2 v113 r_6 v110 v114 v125 v109 r_3 v112
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 1)))) $$ [H20]
  · istop; refine pv_of_read harg20 ?_
    refine read_store_within_mk2 _ _ _ (harg20.read_unread _) _ _ (192) (0) rfl rfl _ _ ?_ ?_
    · intro r c
      have hr := r.isLt; have := c.isLt
      delta v76 v67 v72 v75 v77 cst_41 v69 v70 v66 v81 v68 r_7
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 24 in sl_exec
  ihave H15 : pv c arg15 (harg15.unread (mk2 (mac p0 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v150 v158 v162 v156 v151 cst_84 v165 v153 v160 v154 v148 v157 v161
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v181 r_5 v186 v178 r_2 r_6 v177 v175 v173 v172 v183 r_9 v174 v179 r_3 v182 v176
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+16) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v150 v158 v156 v151 cst_84 v169 v153 v154 v148 v157
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta r_5 v178 r_2 r_6 v190 v177 v175 v173 v172 r_9 v174 v179 r_3 v176
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 2)))) $$ [H20]
  · istop; refine pv_of_read harg20 ?_
    refine read_store_within_mk2 _ _ _ (harg20.read_unread _) _ _ (192) (128) rfl rfl _ _ ?_ ?_
    · intro r c
      have hr := r.isLt; have := c.isLt
      delta r_8 v145 v134 v132 v129 v141 v130 v131 cst_74 v139 v136 v133 v140 r_7
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+128) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 24 in sl_exec
  ihave H15 : pv c arg15 (harg15.unread (mk2 (mac p0 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v216 v224 v219 v225 v221 cst_117 v213 v215 v229 v226 v222 v218
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v238 r_5 v237 v245 r_2 v243 v240 v236 v246 r_6 v250 v241 v239 v247 r_3 v242
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+32) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v216 v219 v221 cst_117 v233 v213 v215 v222 v218
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v238 r_5 v237 r_2 v243 v240 v236 r_6 v254 v241 v239 r_3 v242
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 3)))) $$ [H20]
  · istop; refine pv_of_read harg20 ?_
    refine read_store_within_mk2 _ _ _ (harg20.read_unread _) _ _ (192) (256) rfl rfl _ _ ?_ ?_
    · intro r c
      have hr := r.isLt; have := c.isLt
      delta v196 v206 v197 cst_107 v204 v194 v199 v210 v195 v198 v201 v205 r_7
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+256) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 21 in sl_exec
  ihave H15 : pv c arg15 (harg15.unread (mk2 (mac p0 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v283 v288 r_11 v285 v284 v281 cst_150 v277 v279
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 4)))) $$ [H16]
  · istop; refine pv_of_read harg16 ?_
    refine read_store_mk2 _ _ _ (harg16.read_unread _) _ (0) (384) (rfl) _ ?_ ?_
    · intro r c
      have hr := r.isLt; have := c.isLt
      delta r_5 v299 v300 v309 v304 v297 r_2 r_6 v302 v298 v296 v301 v306 r_3 v305 v295
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+48) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v292 v281 cst_150 v277 v279
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta r_5 v299 v300 v297 r_2 r_6 v302 v298 v296 v301 v313 r_3 v295
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 4)))) $$ [H20]
  · istop; refine pv_of_read harg20 ?_
    refine read_store_within_mk2 _ _ _ (harg20.read_unread _) _ _ (192) (384) rfl rfl _ _ ?_ ?_
    · intro r c
      have hr := r.isLt; have := c.isLt
      delta v263 v258 v259 v274 v270 v265 cst_140 v262 v261 v269 v268 v260 r_7
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+384) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 20 in sl_exec
  ihave H20 : pv c arg20 (harg20.unread (mk2 (s1.ot))) $$ [H20]
  · istop; refine pv_of_read harg20 ?_
    refine read_store_mk2 _ _ _ (harg20.read_unread _) _ (192) (0) (rfl) _ ?_ ?_
    · intro r c
      have hr := r.isLt; have := c.isLt
      delta v320 r_12 v321 r_13
      unfold_payloads; pointwise [ra1, ra2, ra3, ra4, raw2]
      try simp only [E, Matrix.cons_val_zero, Matrix.cons_val_one, Matrix.cons_val, Nat.zero_add, Nat.add_zero, fold_dotp]
      rw [hs1]; simp only [step, hqi]
      rw [if_pos (by omega)]
    · intro j c hj hc' hn
      rw [hs1]; simp only [step]
      by_cases hrw : p0.row ≤ j ∧ j < p0.row + 96
      · exfalso; omega
      · rw [if_neg hrw, otT_out p0 s0 _ hrw]
  ihave H19 : pv c arg19 (harg19.unread (mk2 (s1.ps))) $$ [H19]
  · istop; refine pv_of_read harg19 ?_
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [hs1]; simp only [step, pscF, fieldF, nearF, lsum, hqi]
  ihave H18 : pv c arg18 (harg18.unread (mk2 (s1.r))) $$ [H18]
  · istop; refine pv_of_read harg18 ?_
    refine read_whole_mk2 _ _ _ _ _ ?_
    intro r c
    have hr := r.isLt; have := c.isLt
    delta v365 r_15 v364 r_14 v363 v368
    unfold_payloads; pointwise [ra1, ra2, ra3, ra4, raw2]
    try simp only [E, Matrix.cons_val_zero, Matrix.cons_val_one, Matrix.cons_val, Nat.zero_add, Nat.add_zero, fold_dotp]
    rw [hs1]; simp only [step, rrF, fieldF, nearF, lsum, hqi]
  ihave H17 : pv c arg17 (harg17.unread (mk2 (s1.mx))) $$ [H17]
  · istop; refine pv_of_read harg17 ?_
    refine read_whole_mk2 _ _ _ _ _ ?_
    intro r c
    have hr := r.isLt; have := c.isLt
    delta v376 v370 v372 v373 v371
    unfold_payloads; pointwise [ra1, ra2, ra3, ra4, raw2]
    try simp only [E, Matrix.cons_val_zero, Matrix.cons_val_one, Matrix.cons_val, Nat.zero_add, Nat.add_zero, fold_dotp]
    rw [hs1]; simp only [step, mtop, hqi]
  ihave H12 : pv c arg12 (harg12.unread (mk2 (s1.A))) $$ [H12]
  · istop; refine pv_of_read harg12 ?_
    rw [harg12.read_unread, hs1]; simp only [step, hqi]
  ihave H11 : pv c arg11 (harg11.unread (mk2 (s1.B))) $$ [H11]
  · istop; refine pv_of_read harg11 ?_
    rw [harg11.read_unread, hs1]; simp only [step, hqi]
  clear E hqi hrow hK hV hQ hQ0 hTi hcb hvs ek0 ek1 ek2 ek3 ev0 ev1 ev2 ev3
  -- Head 1.
  obtain ⟨p1, hp1⟩ : ∃ p, p = hp (i 0).val (i 1).val 1 qs ks vs fq fk va vb fb := ⟨_, rfl⟩
  obtain ⟨s2, hs2⟩ : ∃ s, s = step p1 s1 := ⟨_, rfl⟩
  have hqi : p1.qi = (i 0).val := by rw [hp1]; rfl
  have hrow : p1.row = 288 := by rw [hp1]; rfl
  have hK : ∀ j d, fk 0 1 j d = p1.K j d := fun j d => by rw [hp1]; rfl
  have hV : ∀ d j, va (96 + d) j = p1.V d j := fun d j => by rw [hp1]; simp [hp]
  have hQ : ∀ d c, d < 96 → fq 0 (96 + d) c = p1.Q d c := fun d c hd => by rw [hp1]; simp [hp, hd]
  have hQ0 : ∀ d c, p1.Q (96 + d) c = 0 := fun d c => by rw [hp1]; simp [hp]
  have hTi : ∀ r c, fb 1 r c * Ideal.div 1 (qs (k0_off1 i 1#32 0) * ks (k0_off1 i 1#32 0)) = p1.Ti r c := fun r c => by
    have e : k0_off1 i 1#32 = _ := k0_off1_eq i 1
    rw [hp1, e]; rfl
  have hcb : qs (k0_off2 i 1#32 1#32 0) * ks (k0_off2 i 1#32 1#32 0) * Named.named (F := Ideal) (φ := .f32) κ "log2e" 1069066811#32 = p1.cb := by
    have e : k0_off2 i 1#32 1#32 = _ := v_off2 i 1 0
    rw [hp1, e]; rfl
  have hvs : vs (k0_off2 i 1#32 2#32 0) = p1.vs := by
    have e : k0_off2 i 1#32 2#32 = _ := v_off2 i 1 1
    rw [hp1, e]; rfl
  have ek0 : k0_off28 i 0#32 = ![0, 1, 512 * (i 0).val + 0, 0] := k0_off28_eq i 0
  have ev0 : k0_off27 i 0#32 = ![96, 512 * (i 0).val + 0] := k0_off27_eq i 0
  have ek1 : k0_off28 i 128#32 = ![0, 1, 512 * (i 0).val + 128, 0] := k0_off28_eq i 1
  have ev1 : k0_off27 i 128#32 = ![96, 512 * (i 0).val + 128] := k0_off27_eq i 1
  have ek2 : k0_off28 i 256#32 = ![0, 1, 512 * (i 0).val + 256, 0] := k0_off28_eq i 2
  have ev2 : k0_off27 i 256#32 = ![96, 512 * (i 0).val + 256] := k0_off27_eq i 2
  have ek3 : k0_off28 i 384#32 = ![0, 1, 512 * (i 0).val + 384, 0] := k0_off28_eq i 3
  have ev3 : k0_off27 i 384#32 = ![96, 512 * (i 0).val + 384] := k0_off27_eq i 3
  have E := And.intro ek0 <| And.intro ek1 <| And.intro ek2 <| And.intro ek3 <| And.intro ev0 <| And.intro ev1 <| And.intro ev2 <| And.intro ev3 <| And.intro @v_off18 <| And.intro @v_off19 <| And.intro @v_off20 <| And.intro (v_off24 i hc1) <| And.intro (v_off25 i hc1) <| And.intro (v_off26 i hc1) <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p1.Q))) $$ [H13]
  · istop; refine pv_of_read harg13 ?_
    delta v384 v381 cst_201 bodyPos.sl.H13_2_1
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p1.Ti))) $$ [H14]
  · istop; refine pv_of_read harg14 ?_
    delta v395 v396 cst_206 r_17 r_16 bodyPos.sl.H14_1_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p1 (Tl 0)))) $$ [H15]
  · istop; refine pv_of_read harg15 ?_
    delta bodyPos.sl.H15_1_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p1 s1 (Tl 0)))) $$ [H16]
  · istop; refine pv_of_read harg16 ?_
    delta bodyPos.sl.H16_1_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p1 s1 (Tl 0)))) $$ [H20]
  · istop; refine pv_of_read harg20 ?_
    refine read_store_mk2 _ _ _ (harg20.read_unread _) _ (288) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p1 s1 (by omega)]
    · intro j c hj hc' hn
      exact otT_out p1 s1 _ (by omega)
  ihave H12 : pv c arg12 (harg12.unread (mk2 (stA p1 s1 (Tl 0)))) $$ [H12]
  · istop; refine pv_of_read harg12 ?_
    rw [harg12.read_unread, stA_zero]
  ihave H11 : pv c arg11 (harg11.unread (mk2 (stB p1 s1 (Tl 0)))) $$ [H11]
  · istop; refine pv_of_read harg11 ?_
    rw [harg11.read_unread, stB_zero]
  sl_for (fun k _ => iprop(pv c arg6 (harg6.unread (mk4 fk)) ∗ pv c arg7 (harg7.unread (mk2 va)) ∗ pv c arg13 (harg13.unread (mk2 p1.Q)) ∗ pv c arg12 (harg12.unread (mk2 (stA p1 s1 (Tl k)))) ∗ pv c arg11 (harg11.unread (mk2 (stB p1 s1 (Tl k)))) ∗ pv c arg15 (harg15.unread (mk2 (mac p1 (Tl k)))) ∗ pv c arg16 (harg16.unread (mk2 (lac p1 s1 (Tl k)))) ∗ pv c arg20 (harg20.unread (mk2 (otT p1 s1 (Tl k)))))) $$ [H6 H7 H13 H12 H11 H15 H16 H20]
  · intro k acc
    have hk : k.val < (i 0).val - 1 := v_trips3 i ▸ k.isLt
    iintro ⟨H6, H7, H13, H12, H11, H15, H16, H20⟩
    sl_exec
    ihave H15 : pv c arg15 (harg15.unread (mk2 (mac p1 (Tl (k.val+1))))) $$ [H15]
    · istop; refine pv_of_read harg15 ?_
      refine read_whole_mk2 _ _ _ _ _ ?_
      intro r c
      have hr := r.isLt; have := c.isLt
      delta v1553_1 v1550_1 v1548_1 v1554_2 v1557_2 v1552_2 bodyPos.sl.cst_857_1
      unfold_payloads; pointwise [ra1, ra2, ra3, ra4, raw2]
      try simp only [E, Matrix.cons_val_zero, Matrix.cons_val_one, Matrix.cons_val, Nat.zero_add, Nat.add_zero, fold_dotp]
      refine mac_step p1 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p1 s1 (Tl (k.val+1))))) $$ [H16]
    · istop; refine pv_of_read harg16 ?_
      refine read_whole_mk2 _ _ _ _ _ ?_
      intro r c
      have hr := r.isLt; have := c.isLt
      delta v1567 v1572 v1574 v1564 v1569 r_18 v1568 r_19 v1573 v1577 v1565 v1570 v1566 r_21 r_20
      unfold_payloads; pointwise [ra1, ra2, ra3, ra4, raw2]
      try simp only [E, Matrix.cons_val_zero, Matrix.cons_val_one, Matrix.cons_val, Nat.zero_add, Nat.add_zero, fold_dotp]
      refine lac_step p1 s1 (64*k.val) (by simp only [Tl, Td] <;> omega) (by simp only [Tl, Td] <;> omega) _ ?_
      intro x; have hx := x.isLt
      exact ee_of p1 s1 (by omega) (by simp only [Tl, Td] <;> omega)
    ihave H12 : pv c arg12 (harg12.unread (mk2 (stA p1 s1 (Tl (k.val+1))))) $$ [H12]
    · istop; refine pv_of_read harg12 ?_
      refine read_store_mk2 _ _ _ (harg12.read_unread _) _ (512*k.val) (0) (v_off18 i k) _ ?_ ?_
      · intro r c
        have hr := r.isLt; have := c.isLt
        delta v1561 v1550_1 v1548_1 bodyPos.sl.cst_857_1
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p1 s1 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p1 s1 ?_
        simp only [Tl, Td] <;> omega
    ihave H11 : pv c arg11 (harg11.unread (mk2 (stB p1 s1 (Tl (k.val+1))))) $$ [H11]
    · istop; refine pv_of_read harg11 ?_
      refine read_store_mk2 _ _ _ (harg11.read_unread _) _ (512*k.val) (0) (v_off18 i k) _ ?_ ?_
      · intro r c
        have hr := r.isLt; have := c.isLt
        delta v1567 v1581 v1564 v1569 r_18 v1568 r_19 v1565 v1570 v1566 r_21 r_20
        unfold_payloads; pointwise [ra1, ra2, ra3, ra4, raw2]
        try simp only [E, Matrix.cons_val_zero, Matrix.cons_val_one, Matrix.cons_val, Nat.zero_add, Nat.add_zero, fold_dotp]
        exact (ee_of p1 s1 (by omega) (by simp only [Tl, Td] <;> omega)).trans (stB_lt p1 s1 (by simp only [Tl, Td] <;> omega)).symm
      · intro j c hj hc' hn
        refine stB_out p1 s1 ?_
        simp only [Tl, Td] <;> omega
    ihave H20 : pv c arg20 (harg20.unread (mk2 (otT p1 s1 (Tl (k.val+1))))) $$ [H20]
    · istop; refine pv_of_read harg20 ?_
      refine read_store_within_mk2 _ _ _ (harg20.read_unread _) _ _ (288) (0) rfl rfl _ _ ?_ ?_
      · intro r c
        have hr := r.isLt; have := c.isLt
        delta bodyPos.sl.cst_847_1 v1540_2 v1530_1 v1536_1 v1533_2 v1534_2 v1531_2 r_22 v1545_2 v1541_2 v1539_1 v1532_2
        unfold_payloads; pointwise [ra1, ra2, ra3, ra4, raw2]
        try simp only [E, Matrix.cons_val_zero, Matrix.cons_val_one, Matrix.cons_val, Nat.zero_add, Nat.add_zero, fold_dotp]
        refine ot_step p1 s1 (r := r.val) (by omega) r.isLt (512*k.val) (by simp only [Tl, Td] <;> omega) (by simp only [Tl, Td] <;> omega) _ ?_
        intro x; have hx := x.isLt
        exact ot_term p1 s1 (by omega) (by omega) (by simp only [Tl, Td] <;> omega)
      · intro j c hj hc' hn
        by_cases hrw : p1.row ≤ j ∧ j < p1.row + 96
        · simp only [otT, Tl, Td, if_pos hrw]
          first | (exfalso; omega) | (congr 2; omega)
        · rw [otT_out p1 s1 _ hrw, otT_out p1 s1 _ hrw]
    sl_step
    iframe
  · iframe
  iintro %acc
  iintro ⟨H6, H7, H13, H12, H11, H15, H16, H20⟩
  rw [v_trips3]
  set_option sl_exec.maxSteps 22 in sl_exec
  ihave H15 : pv c arg15 (harg15.unread (mk2 (mac p1 (Td (i 0).val 0)))) $$ [H15]
  · istop; refine pv_of_read harg15 ?_
    refine read_whole_mk2 _ _ _ _ _ ?_
    intro r c
    have hr := r.isLt; have := c.isLt
    delta v1549_1 v1558_1 v1565_1 v1555_1 r_23 v1551_1 v1561_1 v1557_3 v1552_3 v1554_3 v1562 v1560_2 v1556_3 bodyPos.sl.cst_858_1
    unfold_payloads; pointwise [ra1, ra2, ra3, ra4, raw2]
    try simp only [E, Matrix.cons_val_zero, Matrix.cons_val_one, Matrix.cons_val, Nat.zero_add, Nat.add_zero, fold_dotp]
    refine mac_step p1 (64*((i 0).val-1)) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p1 s1 (Td (i 0).val 0)))) $$ [H16]
  · istop; refine pv_of_read harg16 ?_
    refine read_whole_mk2 _ _ _ _ _ ?_
    intro r c
    have hr := r.isLt; have := c.isLt
    delta v1580_1 v1576_1 v1575 r_18 v1585 r_19 v1574_1 v1581_1 v1572_1 v1573_1 v1578 v1577_1 r_21 v1582 r_20
    unfold_payloads; pointwise [ra1, ra2, ra3, ra4, raw2]
    try simp only [E, Matrix.cons_val_zero, Matrix.cons_val_one, Matrix.cons_val, Nat.zero_add, Nat.add_zero, fold_dotp]
    refine lac_step p1 s1 (64*((i 0).val-1)) (by simp only [Tl, Td] <;> omega) (by simp only [Tl, Td] <;> omega) _ ?_
    intro x; have hx := x.isLt
    exact ee_of p1 s1 (by omega) (by simp only [Tl, Td] <;> omega)
  ihave H12 : pv c arg12 (harg12.unread (mk2 (stA p1 s1 (Td (i 0).val 0)))) $$ [H12]
  · istop; refine pv_of_read harg12 ?_
    refine read_store_mk2 _ _ _ (harg12.read_unread _) _ (512*((i 0).val-1)) (0) (v_off24 i hc1) _ ?_ ?_
    · intro r c
      have hr := r.isLt; have := c.isLt
      delta v1549_1 v1558_1 v1569_1 v1555_1 v1551_1 v1557_3 v1552_3 v1554_3 v1556_3 bodyPos.sl.cst_858_1
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 0)))) $$ [H11]
  · istop; refine pv_of_read harg11 ?_
    refine read_store_mk2 _ _ _ (harg11.read_unread _) _ (512*((i 0).val-1)) (0) (v_off24 i hc1) _ ?_ ?_
    · intro r c
      have hr := r.isLt; have := c.isLt
      delta v1576_1 v1575 r_18 r_19 v1574_1 v1589 v1572_1 v1573_1 v1578 v1577_1 r_21 r_20
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 0)))) $$ [H20]
  · istop; refine pv_of_read harg20 ?_
    refine read_store_within_mk2 _ _ _ (harg20.read_unread _) _ _ (288) (0) rfl rfl _ _ ?_ ?_
    · intro r c
      have hr := r.isLt; have := c.isLt
      delta v1533_3 v1542_1 v1534_3 r_22 v1531_3 v1537_1 v1535_1 v1546_1 v1532_3 bodyPos.sl.cst_848_1 v1540_3 v1541_3
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*((i 0).val-1)) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 24 in sl_exec
  ihave H15 : pv c arg15 (harg15.unread (mk2 (mac p1 (Td (i 0).val 1)))) $$ [H15]
  · istop; refine pv_of_read harg15 ?_
    refine read_whole_mk2 _ _ _ _ _ ?_
    intro r c
    have hr := r.isLt; have := c.isLt
    delta v467 v475 v471 cst_252 v473 v478 v474 v461 v463 r_24 v469 v470 v464 v466
    unfold_payloads; pointwise [ra1, ra2, ra3, ra4, raw2]
    try simp only [E, Matrix.cons_val_zero, Matrix.cons_val_one, Matrix.cons_val, Nat.zero_add, Nat.add_zero, fold_dotp]
    refine mac_step p1 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p1 s1 (Td (i 0).val 1)))) $$ [H16]
  · istop; refine pv_of_read harg16 ?_
    refine read_whole_mk2 _ _ _ _ _ ?_
    intro r c
    have hr := r.isLt; have := c.isLt
    delta v491 v498 v489 v488 r_18 v485 r_19 v486 v487 v493 v494 v490 r_21 v495 r_20
    unfold_payloads; pointwise [ra1, ra2, ra3, ra4, raw2]
    try simp only [E, Matrix.cons_val_zero, Matrix.cons_val_one, Matrix.cons_val, Nat.zero_add, Nat.add_zero, fold_dotp]
    refine lac_step p1 s1 (64*(i 0).val+0) (by simp only [Tl, Td] <;> omega) (by simp only [Tl, Td] <;> omega) _ ?_
    intro x; have hx := x.isLt
    exact ee_of p1 s1 (by omega) (by simp only [Tl, Td] <;> omega)
  ihave H12 : pv c arg12 (harg12.unread (mk2 (stA p1 s1 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v467 v471 cst_252 v482 v461 v463 r_24 v469 v470 v464 v466
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v491 v489 v488 r_18 v485 r_19 v486 v487 v502 v490 r_21 r_20
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 1)))) $$ [H20]
  · istop; refine pv_of_read harg20 ?_
    refine read_store_within_mk2 _ _ _ (harg20.read_unread _) _ _ (288) (0) rfl rfl _ _ ?_ ?_
    · intro r c
      have hr := r.isLt; have := c.isLt
      delta v444 v458 v449 r_22 v454 cst_242 v446 v453 v443 v447 v452 v445
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 22 in sl_exec
  ihave H15 : pv c arg15 (harg15.unread (mk2 (mac p1 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v530 r_25 v542 v525 v527 v538 v533 v535 v531 v539 v534 v528 v537 cst_287
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v551 v553 r_18 v554 v550 r_19 v555 v559 v552 v558 v549 v560 v556 r_21 v563 r_20
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+16) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta v530 v525 v546 v527 v533 v535 v531 v534 v528 cst_287
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v551 v553 r_18 v554 v550 r_19 v555 v567 v552 v549 v556 r_21 r_20
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 2)))) $$ [H20]
  · istop; refine pv_of_read harg20 ?_
    refine read_store_within_mk2 _ _ _ (harg20.read_unread _) _ _ (288) (128) rfl rfl _ _ ?_ ?_
    · intro r c
      have hr := r.isLt; have := c.isLt
      delta v518 v517 v506 v513 v522 v509 r_22 v507 v516 v511 v508 cst_277 v510
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+128) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 24 in sl_exec
  ihave H15 : pv c arg15 (harg15.unread (mk2 (mac p1 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v593 cst_322 v595 v601 v606 v598 v596 v602 v590 v603 v599 v592
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v613 v624 v615 v617 r_18 v620 r_19 v616 v627 v619 v623 v614 v618 v622 r_21 r_20
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+32) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v593 cst_322 v595 v598 v596 v590 v599 v610 v592
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v613 v615 v617 r_18 v620 v631 r_19 v616 v619 v614 v618 r_21 r_20
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 3)))) $$ [H20]
  · istop; refine pv_of_read harg20 ?_
    refine read_store_within_mk2 _ _ _ (harg20.read_unread _) _ _ (288) (256) rfl rfl _ _ ?_ ?_
    · intro r c
      have hr := r.isLt; have := c.isLt
      delta cst_312 v574 v582 v575 v581 v572 r_22 v576 v573 v587 v583 v578 v571
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+256) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 24 in sl_exec
  ihave H15 : pv c arg15 (harg15.unread (mk2 (mac p1 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v662 v665 v658 cst_357 v660 v654 v661 v656
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 4)))) $$ [H16]
  · istop; refine pv_of_read harg16 ?_
    refine read_store_mk2 _ _ _ (harg16.read_unread _) _ (0) (384) (rfl) _ ?_ ?_
    · intro r c
      have hr := r.isLt; have := c.isLt
      delta v676 v686 v674 v672 v679 r_18 v681 v673 r_19 v675 v683 v677 r_21 v678 v682 r_20
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+48) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v658 cst_357 v669 v654 v656
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v676 v674 v672 v679 r_18 v673 r_19 v675 v677 r_21 v678 r_20
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 4)))) $$ [H20]
  · istop; refine pv_of_read harg20 ?_
    refine read_store_within_mk2 _ _ _ (harg20.read_unread _) _ _ (288) (384) rfl rfl _ _ ?_ ?_
    · intro r c
      have hr := r.isLt; have := c.isLt
      delta v640 v645 cst_347 v638 v646 v637 r_22 v647 v651 v635 v639 v642 v636
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+384) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 17 in sl_exec
  ihave H20 : pv c arg20 (harg20.unread (mk2 (s2.ot))) $$ [H20]
  · istop; refine pv_of_read harg20 ?_
    refine read_store_mk2 _ _ _ (harg20.read_unread _) _ (288) (0) (rfl) _ ?_ ?_
    · intro r c
      have hr := r.isLt; have := c.isLt
      delta r_26
      unfold_payloads; pointwise [ra1, ra2, ra3, ra4, raw2]
      try simp only [E, Matrix.cons_val_zero, Matrix.cons_val_one, Matrix.cons_val, Nat.zero_add, Nat.add_zero, fold_dotp]
      rw [hs2]; simp only [step, hqi]
      rw [if_pos (by omega)]
    · intro j c hj hc' hn
      rw [hs2]; simp only [step]
      by_cases hrw : p1.row ≤ j ∧ j < p1.row + 96
      · exfalso; omega
      · rw [if_neg hrw, otT_out p1 s1 _ hrw]
  ihave H19 : pv c arg19 (harg19.unread (mk2 (s2.ps))) $$ [H19]
  · istop; refine pv_of_read harg19 ?_
    refine read_whole_mk2 _ _ _ _ _ ?_
    intro r c
    have hr := r.isLt; have := c.isLt
    delta v727 v729 v736 v739 v735 v728 v726 r_28 v725
    unfold_payloads; pointwise [ra1, ra2, ra3, ra4, raw2]
    try simp only [E, Matrix.cons_val_zero, Matrix.cons_val_one, Matrix.cons_val, Nat.zero_add, Nat.add_zero, fold_dotp]
    rw [hs2]; simp only [step, pscF, fieldF, nearF, lsum, hqi]
  ihave H18 : pv c arg18 (harg18.unread (mk2 (s2.r))) $$ [H18]
  · istop; refine pv_of_read harg18 ?_
    refine read_whole_mk2 _ _ _ _ _ ?_
    intro r c
    have hr := r.isLt; have := c.isLt
    delta v727 r_27 v733 v741 v745 v726 v734 v742 v740 v730 v731 r_28 v725
    unfold_payloads; pointwise [ra1, ra2, ra3, ra4, raw2]
    try simp only [E, Matrix.cons_val_zero, Matrix.cons_val_one, Matrix.cons_val, Nat.zero_add, Nat.add_zero, fold_dotp]
    rw [hs2]; simp only [step, rrF, fieldF, nearF, lsum, hqi]
  ihave H17 : pv c arg17 (harg17.unread (mk2 (s2.mx))) $$ [H17]
  · istop; refine pv_of_read harg17 ?_
    refine read_whole_mk2 _ _ _ _ _ ?_
    intro r c
    have hr := r.isLt; have := c.isLt
    delta v747 v749 v753 v750 v748
    unfold_payloads; pointwise [ra1, ra2, ra3, ra4, raw2]
    try simp only [E, Matrix.cons_val_zero, Matrix.cons_val_one, Matrix.cons_val, Nat.zero_add, Nat.add_zero, fold_dotp]
    rw [hs2]; simp only [step, mtop, hqi]
  ihave H11 : pv c arg11 (harg11.unread (mk2 (s2.A))) $$ [H11]
  · istop; refine pv_of_read harg11 ?_
    rw [harg11.read_unread, hs2]; simp only [step, hqi]
  ihave H12 : pv c arg12 (harg12.unread (mk2 (s2.B))) $$ [H12]
  · istop; refine pv_of_read harg12 ?_
    rw [harg12.read_unread, hs2]; simp only [step, hqi]
  clear E hqi hrow hK hV hQ hQ0 hTi hcb hvs ek0 ek1 ek2 ek3 ev0 ev1 ev2 ev3
  -- Head 2.
  obtain ⟨p2, hp2⟩ : ∃ p, p = hp (i 0).val (i 1).val 2 qs ks vs fq fk va vb fb := ⟨_, rfl⟩
  obtain ⟨s3, hs3⟩ : ∃ s, s = step p2 s2 := ⟨_, rfl⟩
  have hqi : p2.qi = (i 0).val := by rw [hp2]; rfl
  have hrow : p2.row = 0 := by rw [hp2]; rfl
  have hK : ∀ j d, fk 0 2 j d = p2.K j d := fun j d => by rw [hp2]; rfl
  have hV : ∀ d j, vb (d) j = p2.V d j := fun d j => by rw [hp2]; simp [hp]
  have hQ : ∀ d c, d < 96 → fq 0 (192 + d) c = p2.Q d c := fun d c hd => by rw [hp2]; simp [hp, hd]
  have hQ0 : ∀ d c, p2.Q (96 + d) c = 0 := fun d c => by rw [hp2]; simp [hp]
  have hTi : ∀ r c, fb 2 r c * Ideal.div 1 (qs (k0_off1 i 2#32 0) * ks (k0_off1 i 2#32 0)) = p2.Ti r c := fun r c => by
    have e : k0_off1 i 2#32 = _ := k0_off1_eq i 2
    rw [hp2, e]; rfl
  have hcb : qs (k0_off2 i 2#32 1#32 0) * ks (k0_off2 i 2#32 1#32 0) * Named.named (F := Ideal) (φ := .f32) κ "log2e" 1069066811#32 = p2.cb := by
    have e : k0_off2 i 2#32 1#32 = _ := v_off2 i 2 0
    rw [hp2, e]; rfl
  have hvs : vs (k0_off2 i 2#32 2#32 0) = p2.vs := by
    have e : k0_off2 i 2#32 2#32 = _ := v_off2 i 2 1
    rw [hp2, e]; rfl
  have ek0 : k0_off38 i 0#32 = ![0, 2, 512 * (i 0).val + 0, 0] := k0_off38_eq i 0
  have ev0 : k0_off13 i 0#32 = ![0, 512 * (i 0).val + 0] := k0_off13_eq i 0
  have ek1 : k0_off38 i 128#32 = ![0, 2, 512 * (i 0).val + 128, 0] := k0_off38_eq i 1
  have ev1 : k0_off13 i 128#32 = ![0, 512 * (i 0).val + 128] := k0_off13_eq i 1
  have ek2 : k0_off38 i 256#32 = ![0, 2, 512 * (i 0).val + 256, 0] := k0_off38_eq i 2
  have ev2 : k0_off13 i 256#32 = ![0, 512 * (i 0).val + 256] := k0_off13_eq i 2
  have ek3 : k0_off38 i 384#32 = ![0, 2, 512 * (i 0).val + 384, 0] := k0_off38_eq i 3
  have ev3 : k0_off13 i 384#32 = ![0, 512 * (i 0).val + 384] := k0_off13_eq i 3
  have E := And.intro ek0 <| And.intro ek1 <| And.intro ek2 <| And.intro ek3 <| And.intro ev0 <| And.intro ev1 <| And.intro ev2 <| And.intro ev3 <| And.intro @v_off29 <| And.intro @v_off30 <| And.intro @v_off31 <| And.intro (v_off35 i hc2) <| And.intro (v_off36 i hc2) <| And.intro (v_off37 i hc2) <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p2.Q))) $$ [H13]
  · istop; refine pv_of_read harg13 ?_
    delta bodyPos.sl.H13_2_2 cst_426 v776 v779
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p2.Ti))) $$ [H14]
  · istop; refine pv_of_read harg14 ?_
    delta v790 bodyPos.sl.H14_1_2 cst_431 r_30 r_29 r_31 v791
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p2 (Tl 0)))) $$ [H15]
  · istop; refine pv_of_read harg15 ?_
    delta bodyPos.sl.H15_1_2
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p2 s2 (Tl 0)))) $$ [H16]
  · istop; refine pv_of_read harg16 ?_
    delta bodyPos.sl.H16_1_2
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p2 s2 (Tl 0)))) $$ [H20]
  · istop; refine pv_of_read harg20 ?_
    refine read_store_mk2 _ _ _ (harg20.read_unread _) _ (0) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p2 s2 (by omega)]
    · intro j c hj hc' hn
      exact otT_out p2 s2 _ (by omega)
  ihave H11 : pv c arg11 (harg11.unread (mk2 (stA p2 s2 (Tl 0)))) $$ [H11]
  · istop; refine pv_of_read harg11 ?_
    rw [harg11.read_unread, stA_zero]
  ihave H12 : pv c arg12 (harg12.unread (mk2 (stB p2 s2 (Tl 0)))) $$ [H12]
  · istop; refine pv_of_read harg12 ?_
    rw [harg12.read_unread, stB_zero]
  sl_for (fun k _ => iprop(pv c arg6 (harg6.unread (mk4 fk)) ∗ pv c arg8 (harg8.unread (mk2 vb)) ∗ pv c arg13 (harg13.unread (mk2 p2.Q)) ∗ pv c arg11 (harg11.unread (mk2 (stA p2 s2 (Tl k)))) ∗ pv c arg12 (harg12.unread (mk2 (stB p2 s2 (Tl k)))) ∗ pv c arg15 (harg15.unread (mk2 (mac p2 (Tl k)))) ∗ pv c arg16 (harg16.unread (mk2 (lac p2 s2 (Tl k)))) ∗ pv c arg20 (harg20.unread (mk2 (otT p2 s2 (Tl k)))))) $$ [H6 H8 H13 H11 H12 H15 H16 H20]
  · intro k acc
    have hk : k.val < (i 0).val - 1 := v_trips5 i ▸ k.isLt
    iintro ⟨H6, H8, H13, H11, H12, H15, H16, H20⟩
    sl_exec
    ihave H15 : pv c arg15 (harg15.unread (mk2 (mac p2 (Tl (k.val+1))))) $$ [H15]
    · istop; refine pv_of_read harg15 ?_
      refine read_whole_mk2 _ _ _ _ _ ?_
      intro r c
      have hr := r.isLt; have := c.isLt
      delta v1554_4 v1553_2 bodyPos.sl.cst_857_2 v1548_2 v1552_4 v1557_4 v1550_2
      unfold_payloads; pointwise [ra1, ra2, ra3, ra4, raw2]
      try simp only [E, Matrix.cons_val_zero, Matrix.cons_val_one, Matrix.cons_val, Nat.zero_add, Nat.add_zero, fold_dotp]
      refine mac_step p2 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p2 s2 (Tl (k.val+1))))) $$ [H16]
    · istop; refine pv_of_read harg16 ?_
      refine read_whole_mk2 _ _ _ _ _ ?_
      intro r c
      have hr := r.isLt; have := c.isLt
      first
        | (sl_unfold_run_names; sl_unfold_run_names; sl_unfold_run_names; unfold_payloads; pointwise [ra1, ra2, ra3, ra4, raw2]; (try simp only [E, Matrix.cons_val_zero, Matrix.cons_val_one, Matrix.cons_val, Nat.zero_add, Nat.add_zero, fold_dotp]); refine lac_step p2 s2 (64*k.val) (by simp only [Tl, Td] <;> omega) (by simp only [Tl, Td] <;> omega) _ ?_; intro x; have hx := x.isLt; exact ee_of p2 s2 (by omega) (by simp only [Tl, Td] <;> omega))
        | (sl_unfold_words; sl_unfold_words; sl_unfold_words; unfold_payloads; pointwise [ra1, ra2, ra3, ra4, raw2]; (try simp only [E, Matrix.cons_val_zero, Matrix.cons_val_one, Matrix.cons_val, Nat.zero_add, Nat.add_zero, fold_dotp]); refine lac_step p2 s2 (64*k.val) (by simp only [Tl, Td] <;> omega) (by simp only [Tl, Td] <;> omega) _ ?_; intro x; have hx := x.isLt; exact ee_of p2 s2 (by omega) (by simp only [Tl, Td] <;> omega))
    ihave H11 : pv c arg11 (harg11.unread (mk2 (stA p2 s2 (Tl (k.val+1))))) $$ [H11]
    · istop; refine pv_of_read harg11 ?_
      refine read_store_mk2 _ _ _ (harg11.read_unread _) _ (512*k.val) (0) (v_off29 i k) _ ?_ ?_
      · intro r c
        have hr := r.isLt; have := c.isLt
        delta bodyPos.sl.cst_857_2 v1561_2 v1548_2 v1550_2
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p2 s2 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p2 s2 ?_
        simp only [Tl, Td] <;> omega
    ihave H12 : pv c arg12 (harg12.unread (mk2 (stB p2 s2 (Tl (k.val+1))))) $$ [H12]
    · istop; refine pv_of_read harg12 ?_
      refine read_store_mk2 _ _ _ (harg12.read_unread _) _ (512*k.val) (0) (v_off29 i k) _ ?_ ?_
      · intro r c
        have hr := r.isLt; have := c.isLt
        first
          | (sl_unfold_run_names; sl_unfold_run_names; sl_unfold_run_names; unfold_payloads; pointwise [ra1, ra2, ra3, ra4, raw2]; (try simp only [E, Matrix.cons_val_zero, Matrix.cons_val_one, Matrix.cons_val, Nat.zero_add, Nat.add_zero, fold_dotp]); exact (ee_of p2 s2 (by omega) (by simp only [Tl, Td] <;> omega)).trans (stB_lt p2 s2 (by simp only [Tl, Td] <;> omega)).symm)
          | (sl_unfold_words; sl_unfold_words; sl_unfold_words; unfold_payloads; pointwise [ra1, ra2, ra3, ra4, raw2]; (try simp only [E, Matrix.cons_val_zero, Matrix.cons_val_one, Matrix.cons_val, Nat.zero_add, Nat.add_zero, fold_dotp]); exact (ee_of p2 s2 (by omega) (by simp only [Tl, Td] <;> omega)).trans (stB_lt p2 s2 (by simp only [Tl, Td] <;> omega)).symm)
      · intro j c hj hc' hn
        refine stB_out p2 s2 ?_
        simp only [Tl, Td] <;> omega
    ihave H20 : pv c arg20 (harg20.unread (mk2 (otT p2 s2 (Tl (k.val+1))))) $$ [H20]
    · istop; refine pv_of_read harg20 ?_
      refine read_store_within_mk2 _ _ _ (harg20.read_unread _) _ _ (0) (0) rfl rfl _ _ ?_ ?_
      · intro r c
        have hr := r.isLt; have := c.isLt
        delta v1534_4 v1530_2 r_36 v1545_4 v1541_4 v1532_4 v1539_2 v1536_2 v1540_4 v1531_4 bodyPos.sl.cst_847_2 v1533_4
        unfold_payloads; pointwise [ra1, ra2, ra3, ra4, raw2]
        try simp only [E, Matrix.cons_val_zero, Matrix.cons_val_one, Matrix.cons_val, Nat.zero_add, Nat.add_zero, fold_dotp]
        refine ot_step p2 s2 (r := r.val) (by omega) r.isLt (512*k.val) (by simp only [Tl, Td] <;> omega) (by simp only [Tl, Td] <;> omega) _ ?_
        intro x; have hx := x.isLt
        exact ot_term p2 s2 (by omega) (by omega) (by simp only [Tl, Td] <;> omega)
      · intro j c hj hc' hn
        by_cases hrw : p2.row ≤ j ∧ j < p2.row + 96
        · simp only [otT, Tl, Td, if_pos hrw]
          first | (exfalso; omega) | (congr 2; omega)
        · rw [otT_out p2 s2 _ hrw, otT_out p2 s2 _ hrw]
    sl_step
    iframe
  · iframe
  iintro %acc
  iintro ⟨H6, H8, H13, H11, H12, H15, H16, H20⟩
  rw [v_trips5]
  set_option sl_exec.maxSteps 22 in sl_exec
  ihave H15 : pv c arg15 (harg15.unread (mk2 (mac p2 (Td (i 0).val 0)))) $$ [H15]
  · istop; refine pv_of_read harg15 ?_
    refine read_whole_mk2 _ _ _ _ _ ?_
    intro r c
    have hr := r.isLt; have := c.isLt
    delta v1562_1 v1561_3 v1555_2 v1556_5 v1558_2 v1565_3 v1549_2 v1552_5 bodyPos.sl.cst_858_2 r_37 v1557_5 v1554_5 v1560_4 v1551_2
    unfold_payloads; pointwise [ra1, ra2, ra3, ra4, raw2]
    try simp only [E, Matrix.cons_val_zero, Matrix.cons_val_one, Matrix.cons_val, Nat.zero_add, Nat.add_zero, fold_dotp]
    refine mac_step p2 (64*((i 0).val-1)) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p2 s2 (Td (i 0).val 0)))) $$ [H16]
  · istop; refine pv_of_read harg16 ?_
    refine read_whole_mk2 _ _ _ _ _ ?_
    intro r c
    have hr := r.isLt; have := c.isLt
    delta v1578_1 v1582_1 r_33 v1581_3 v1574_3 v1575_1 v1573_3 r_35 v1585_1 r_34 v1576_3 v1572_3 r_32 v1580_3 v1577_3
    unfold_payloads; pointwise [ra1, ra2, ra3, ra4, raw2]
    try simp only [E, Matrix.cons_val_zero, Matrix.cons_val_one, Matrix.cons_val, Nat.zero_add, Nat.add_zero, fold_dotp]
    refine lac_step p2 s2 (64*((i 0).val-1)) (by simp only [Tl, Td] <;> omega) (by simp only [Tl, Td] <;> omega) _ ?_
    intro x; have hx := x.isLt
    exact ee_of p2 s2 (by omega) (by simp only [Tl, Td] <;> omega)
  ihave H11 : pv c arg11 (harg11.unread (mk2 (stA p2 s2 (Td (i 0).val 0)))) $$ [H11]
  · istop; refine pv_of_read harg11 ?_
    refine read_store_mk2 _ _ _ (harg11.read_unread _) _ (512*((i 0).val-1)) (0) (v_off35 i hc2) _ ?_ ?_
    · intro r c
      have hr := r.isLt; have := c.isLt
      delta v1555_2 v1569_3 v1556_5 v1558_2 v1549_2 v1552_5 bodyPos.sl.cst_858_2 v1557_5 v1554_5 v1551_2
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 0)))) $$ [H12]
  · istop; refine pv_of_read harg12 ?_
    refine read_store_mk2 _ _ _ (harg12.read_unread _) _ (512*((i 0).val-1)) (0) (v_off35 i hc2) _ ?_ ?_
    · intro r c
      have hr := r.isLt; have := c.isLt
      delta v1578_1 r_33 v1574_3 v1575_1 v1573_3 r_35 v1589_1 r_34 v1576_3 v1572_3 r_32 v1577_3
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 0)))) $$ [H20]
  · istop; refine pv_of_read harg20 ?_
    refine read_store_within_mk2 _ _ _ (harg20.read_unread _) _ _ (0) (0) rfl rfl _ _ ?_ ?_
    · intro r c
      have hr := r.isLt; have := c.isLt
      delta v1542_2 v1540_5 r_36 v1533_5 v1535_2 v1546_2 v1532_5 v1531_5 v1537_2 bodyPos.sl.cst_848_2 v1541_5 v1534_5
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*((i 0).val-1)) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 22 in sl_exec
  ihave H15 : pv c arg15 (harg15.unread (mk2 (mac p2 (Td (i 0).val 1)))) $$ [H15]
  · istop; refine pv_of_read harg15 ?_
    refine read_whole_mk2 _ _ _ _ _ ?_
    intro r c
    have hr := r.isLt; have := c.isLt
    delta v861 v858 v859 v869 v873 v868 cst_479 v856 v866 v870 v864 v862 v865
    unfold_payloads; pointwise [ra1, ra2, ra3, ra4, raw2]
    try simp only [E, Matrix.cons_val_zero, Matrix.cons_val_one, Matrix.cons_val, Nat.zero_add, Nat.add_zero, fold_dotp]
    refine mac_step p2 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p2 s2 (Td (i 0).val 1)))) $$ [H16]
  · istop; refine pv_of_read harg16 ?_
    refine read_whole_mk2 _ _ _ _ _ ?_
    intro r c
    have hr := r.isLt; have := c.isLt
    delta r_33 v886 v881 v888 v882 v883 r_35 v893 v884 v889 r_34 v880 r_32 v885 v890
    unfold_payloads; pointwise [ra1, ra2, ra3, ra4, raw2]
    try simp only [E, Matrix.cons_val_zero, Matrix.cons_val_one, Matrix.cons_val, Nat.zero_add, Nat.add_zero, fold_dotp]
    refine lac_step p2 s2 (64*(i 0).val+0) (by simp only [Tl, Td] <;> omega) (by simp only [Tl, Td] <;> omega) _ ?_
    intro x; have hx := x.isLt
    exact ee_of p2 s2 (by omega) (by simp only [Tl, Td] <;> omega)
  ihave H11 : pv c arg11 (harg11.unread (mk2 (stA p2 s2 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v877 v861 v858 v859 cst_479 v856 v866 v864 v862 v865
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta r_33 v886 v881 v882 v883 r_35 v884 r_34 v880 r_32 v897 v885
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 1)))) $$ [H20]
  · istop; refine pv_of_read harg20 ?_
    refine read_store_within_mk2 _ _ _ (harg20.read_unread _) _ _ (0) (0) rfl rfl _ _ ?_ ?_
    · intro r c
      have hr := r.isLt; have := c.isLt
      delta v841 r_36 v844 v839 v848 v847 cst_469 v849 v842 v853 v838 v840
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 2)))) $$ [H15]
  · istop; refine pv_of_read harg15 ?_
    refine read_store_mk2 _ _ _ (harg15.read_unread _) _ (0) (128) (rfl) _ ?_ ?_
    · intro r c
      have hr := r.isLt; have := c.isLt
      delta r_38 v934 v923 v930 v937 v925 cst_514 v920 v922 v933 v932 v928 v926 v929
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v945 r_33 v950 v954 v958 v949 r_35 v947 v955 r_34 v946 v953 r_32 v948 v951 v944
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+16) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v923 v930 v925 cst_514 v920 v922 v941 v928 v926 v929
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta v945 r_33 v950 v949 r_35 v947 r_34 v946 r_32 v948 v962 v951 v944
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 2)))) $$ [H20]
  · istop; refine pv_of_read harg20 ?_
    refine read_store_within_mk2 _ _ _ (harg20.read_unread _) _ _ (0) (128) rfl rfl _ _ ?_ ?_
    · intro r c
      have hr := r.isLt; have := c.isLt
      delta v917 r_36 v913 v908 v901 v905 v903 cst_504 v902 v912 v906 v911 v904
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+128) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v988 v1001 v997 v987 v994 v996 v990 v985 cst_549 v998 v991 v993
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v1013 r_39 v1008 v1012 r_33 v1011 v1022 r_35 v1009 v1019 r_34 v1018 v1010 r_32 v1017 v1015 v1014
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+32) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v988 v987 v994 v1005 v990 v985 cst_549 v991 v993
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v1026 v1013 r_39 v1008 v1012 r_33 v1011 r_35 v1009 r_34 v1010 r_32 v1015 v1014
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 3)))) $$ [H20]
  · istop; refine pv_of_read harg20 ?_
    refine read_store_within_mk2 _ _ _ (harg20.read_unread _) _ _ (0) (256) rfl rfl _ _ ?_ ?_
    · intro r c
      have hr := r.isLt; have := c.isLt
      delta v973 v977 v976 r_36 v982 v969 v967 v966 v968 v978 v970 v971 cst_539
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+256) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v1051 v1057 v1049 v1053 v1060 cst_584 v1055 v1056
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 4)))) $$ [H16]
  · istop; refine pv_of_read harg16 ?_
    refine read_store_mk2 _ _ _ (harg16.read_unread _) _ (0) (384) (rfl) _ ?_ ?_
    · intro r c
      have hr := r.isLt; have := c.isLt
      delta v1068 r_33 v1072 v1069 v1070 v1078 v1077 r_35 v1081 v1074 v1067 v1071 r_34 v1073 r_32 v1076
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+48) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v1051 v1049 v1064 v1053 cst_584
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v1068 r_33 v1072 v1069 v1070 r_35 v1074 v1067 v1071 r_34 v1073 r_32
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 4)))) $$ [H20]
  · istop; refine pv_of_read harg20 ?_
    refine read_store_within_mk2 _ _ _ (harg20.read_unread _) _ _ (0) (384) rfl rfl _ _ ?_ ?_
    · intro r c
      have hr := r.isLt; have := c.isLt
      delta v1032 v1046 r_36 v1031 v1035 v1037 v1042 v1030 v1041 cst_574 v1033 v1040 v1034
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+384) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 17 in sl_exec
  ihave H20 : pv c arg20 (harg20.unread (mk2 (s3.ot))) $$ [H20]
  · istop; refine pv_of_read harg20 ?_
    refine read_store_mk2 _ _ _ (harg20.read_unread _) _ (0) (0) (rfl) _ ?_ ?_
    · intro r c
      have hr := r.isLt; have := c.isLt
      delta r_40
      unfold_payloads; pointwise [ra1, ra2, ra3, ra4, raw2]
      try simp only [E, Matrix.cons_val_zero, Matrix.cons_val_one, Matrix.cons_val, Nat.zero_add, Nat.add_zero, fold_dotp]
      rw [hs3]; simp only [step, hqi]
      rw [if_pos (by omega)]
    · intro j c hj hc' hn
      rw [hs3]; simp only [step]
      by_cases hrw : p2.row ≤ j ∧ j < p2.row + 96
      · exfalso; omega
      · rw [if_neg hrw, otT_out p2 s2 _ hrw]
  ihave H19 : pv c arg19 (harg19.unread (mk2 (s3.ps))) $$ [H19]
  · istop; refine pv_of_read harg19 ?_
    refine read_whole_mk2 _ _ _ _ _ ?_
    intro r c
    have hr := r.isLt; have := c.isLt
    delta r_42 v1134 v1123 v1131 v1124 v1130 v1122
    unfold_payloads; pointwise [ra1, ra2, ra3, ra4, raw2]
    try simp only [E, Matrix.cons_val_zero, Matrix.cons_val_one, Matrix.cons_val, Nat.zero_add, Nat.add_zero, fold_dotp]
    rw [hs3]; simp only [step, pscF, fieldF, nearF, lsum, hqi]
  ihave H18 : pv c arg18 (harg18.unread (mk2 (s3.r))) $$ [H18]
  · istop; refine pv_of_read harg18 ?_
    refine read_whole_mk2 _ _ _ _ _ ?_
    intro r c
    have hr := r.isLt; have := c.isLt
    delta r_42 v1125 v1129 v1128 v1135 r_41 v1136 v1126 v1137 v1140 v1122
    unfold_payloads; pointwise [ra1, ra2, ra3, ra4, raw2]
    try simp only [E, Matrix.cons_val_zero, Matrix.cons_val_one, Matrix.cons_val, Nat.zero_add, Nat.add_zero, fold_dotp]
    rw [hs3]; simp only [step, rrF, fieldF, nearF, lsum, hqi]
  ihave H17 : pv c arg17 (harg17.unread (mk2 (s3.mx))) $$ [H17]
  · istop; refine pv_of_read harg17 ?_
    refine read_whole_mk2 _ _ _ _ _ ?_
    intro r c
    have hr := r.isLt; have := c.isLt
    delta v1144 v1148 v1143 v1142 v1145
    unfold_payloads; pointwise [ra1, ra2, ra3, ra4, raw2]
    try simp only [E, Matrix.cons_val_zero, Matrix.cons_val_one, Matrix.cons_val, Nat.zero_add, Nat.add_zero, fold_dotp]
    rw [hs3]; simp only [step, mtop, hqi]
  ihave H12 : pv c arg12 (harg12.unread (mk2 (s3.A))) $$ [H12]
  · istop; refine pv_of_read harg12 ?_
    rw [harg12.read_unread, hs3]; simp only [step, hqi]
  ihave H11 : pv c arg11 (harg11.unread (mk2 (s3.B))) $$ [H11]
  · istop; refine pv_of_read harg11 ?_
    rw [harg11.read_unread, hs3]; simp only [step, hqi]
  clear E hqi hrow hK hV hQ hQ0 hTi hcb hvs ek0 ek1 ek2 ek3 ev0 ev1 ev2 ev3
  -- Head 3.
  obtain ⟨p3, hp3⟩ : ∃ p, p = hp (i 0).val (i 1).val 3 qs ks vs fq fk va vb fb := ⟨_, rfl⟩
  obtain ⟨s4, hs4⟩ : ∃ s, s = step p3 s3 := ⟨_, rfl⟩
  have hqi : p3.qi = (i 0).val := by rw [hp3]; rfl
  have hrow : p3.row = 96 := by rw [hp3]; rfl
  have hK : ∀ j d, fk 0 3 j d = p3.K j d := fun j d => by rw [hp3]; rfl
  have hV : ∀ d j, vb (96 + d) j = p3.V d j := fun d j => by rw [hp3]; simp [hp]
  have hQ : ∀ d c, d < 96 → fq 0 (288 + d) c = p3.Q d c := fun d c hd => by rw [hp3]; simp [hp, hd]
  have hQ0 : ∀ d c, p3.Q (96 + d) c = 0 := fun d c => by rw [hp3]; simp [hp]
  have hTi : ∀ r c, fb 3 r c * Ideal.div 1 (qs (k0_off1 i 3#32 0) * ks (k0_off1 i 3#32 0)) = p3.Ti r c := fun r c => by
    have e : k0_off1 i 3#32 = _ := k0_off1_eq i 3
    rw [hp3, e]; rfl
  have hcb : qs (k0_off2 i 3#32 1#32 0) * ks (k0_off2 i 3#32 1#32 0) * Named.named (F := Ideal) (φ := .f32) κ "log2e" 1069066811#32 = p3.cb := by
    have e : k0_off2 i 3#32 1#32 = _ := v_off2 i 3 0
    rw [hp3, e]; rfl
  have hvs : vs (k0_off2 i 3#32 2#32 0) = p3.vs := by
    have e : k0_off2 i 3#32 2#32 = _ := v_off2 i 3 1
    rw [hp3, e]; rfl
  have ek0 : k0_off48 i 0#32 = ![0, 3, 512 * (i 0).val + 0, 0] := k0_off48_eq i 0
  have ev0 : k0_off27 i 0#32 = ![96, 512 * (i 0).val + 0] := k0_off27_eq i 0
  have ek1 : k0_off48 i 128#32 = ![0, 3, 512 * (i 0).val + 128, 0] := k0_off48_eq i 1
  have ev1 : k0_off27 i 128#32 = ![96, 512 * (i 0).val + 128] := k0_off27_eq i 1
  have ek2 : k0_off48 i 256#32 = ![0, 3, 512 * (i 0).val + 256, 0] := k0_off48_eq i 2
  have ev2 : k0_off27 i 256#32 = ![96, 512 * (i 0).val + 256] := k0_off27_eq i 2
  have ek3 : k0_off48 i 384#32 = ![0, 3, 512 * (i 0).val + 384, 0] := k0_off48_eq i 3
  have ev3 : k0_off27 i 384#32 = ![96, 512 * (i 0).val + 384] := k0_off27_eq i 3
  have E := And.intro ek0 <| And.intro ek1 <| And.intro ek2 <| And.intro ek3 <| And.intro ev0 <| And.intro ev1 <| And.intro ev2 <| And.intro ev3 <| And.intro @v_off39 <| And.intro @v_off40 <| And.intro @v_off41 <| And.intro (v_off45 i hc3) <| And.intro (v_off46 i hc3) <| And.intro (v_off47 i hc3) <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p3.Q))) $$ [H13]
  · istop; refine pv_of_read harg13 ?_
    delta v1156 v1153 bodyPos.sl.H13_2_3 cst_637
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p3.Ti))) $$ [H14]
  · istop; refine pv_of_read harg14 ?_
    delta r_43 r_44 bodyPos.sl.H14_1_3
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p3 (Tl 0)))) $$ [H15]
  · istop; refine pv_of_read harg15 ?_
    delta bodyPos.sl.H15_1_3
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p3 s3 (Tl 0)))) $$ [H16]
  · istop; refine pv_of_read harg16 ?_
    delta bodyPos.sl.H16_1_3
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p3 s3 (Tl 0)))) $$ [H20]
  · istop; refine pv_of_read harg20 ?_
    refine read_store_mk2 _ _ _ (harg20.read_unread _) _ (96) (0) (rfl) _ ?_ ?_
    · intro r c
      have hr := r.isLt; have := c.isLt
      delta cst_661
      unfold_payloads; pointwise [ra1, ra2, ra3, ra4, raw2]
      try simp only [E, Matrix.cons_val_zero, Matrix.cons_val_one, Matrix.cons_val, Nat.zero_add, Nat.add_zero, fold_dotp]
      rw [otT_zero_in p3 s3 (by omega)]
    · intro j c hj hc' hn
      exact otT_out p3 s3 _ (by omega)
  ihave H12 : pv c arg12 (harg12.unread (mk2 (stA p3 s3 (Tl 0)))) $$ [H12]
  · istop; refine pv_of_read harg12 ?_
    rw [harg12.read_unread, stA_zero]
  ihave H11 : pv c arg11 (harg11.unread (mk2 (stB p3 s3 (Tl 0)))) $$ [H11]
  · istop; refine pv_of_read harg11 ?_
    rw [harg11.read_unread, stB_zero]
  sl_for (fun k _ => iprop(pv c arg6 (harg6.unread (mk4 fk)) ∗ pv c arg8 (harg8.unread (mk2 vb)) ∗ pv c arg13 (harg13.unread (mk2 p3.Q)) ∗ pv c arg12 (harg12.unread (mk2 (stA p3 s3 (Tl k)))) ∗ pv c arg11 (harg11.unread (mk2 (stB p3 s3 (Tl k)))) ∗ pv c arg15 (harg15.unread (mk2 (mac p3 (Tl k)))) ∗ pv c arg16 (harg16.unread (mk2 (lac p3 s3 (Tl k)))) ∗ pv c arg20 (harg20.unread (mk2 (otT p3 s3 (Tl k)))))) $$ [H6 H8 H13 H12 H11 H15 H16 H20]
  · intro k acc
    have hk : k.val < (i 0).val - 1 := v_trips7 i ▸ k.isLt
    iintro ⟨H6, H8, H13, H12, H11, H15, H16, H20⟩
    sl_exec
    ihave H15 : pv c arg15 (harg15.unread (mk2 (mac p3 (Tl (k.val+1))))) $$ [H15]
    · istop; refine pv_of_read harg15 ?_
      refine read_whole_mk2 _ _ _ _ _ ?_
      intro r c
      have hr := r.isLt; have := c.isLt
      delta v1554_6 v1550_3 v1553_3 bodyPos.sl.cst_857_3 v1548_3 v1557_6 v1552_6
      unfold_payloads; pointwise [ra1, ra2, ra3, ra4, raw2]
      try simp only [E, Matrix.cons_val_zero, Matrix.cons_val_one, Matrix.cons_val, Nat.zero_add, Nat.add_zero, fold_dotp]
      refine mac_step p3 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p3 s3 (Tl (k.val+1))))) $$ [H16]
    · istop; refine pv_of_read harg16 ?_
      refine read_whole_mk2 _ _ _ _ _ ?_
      intro r c
      have hr := r.isLt; have := c.isLt
      first
        | (sl_unfold_run_names; sl_unfold_run_names; sl_unfold_run_names; unfold_payloads; pointwise [ra1, ra2, ra3, ra4, raw2]; (try simp only [E, Matrix.cons_val_zero, Matrix.cons_val_one, Matrix.cons_val, Nat.zero_add, Nat.add_zero, fold_dotp]); refine lac_step p3 s3 (64*k.val) (by simp only [Tl, Td] <;> omega) (by simp only [Tl, Td] <;> omega) _ ?_; intro x; have hx := x.isLt; exact ee_of p3 s3 (by omega) (by simp only [Tl, Td] <;> omega))
        | (sl_unfold_words; sl_unfold_words; sl_unfold_words; unfold_payloads; pointwise [ra1, ra2, ra3, ra4, raw2]; (try simp only [E, Matrix.cons_val_zero, Matrix.cons_val_one, Matrix.cons_val, Nat.zero_add, Nat.add_zero, fold_dotp]); refine lac_step p3 s3 (64*k.val) (by simp only [Tl, Td] <;> omega) (by simp only [Tl, Td] <;> omega) _ ?_; intro x; have hx := x.isLt; exact ee_of p3 s3 (by omega) (by simp only [Tl, Td] <;> omega))
    ihave H12 : pv c arg12 (harg12.unread (mk2 (stA p3 s3 (Tl (k.val+1))))) $$ [H12]
    · istop; refine pv_of_read harg12 ?_
      refine read_store_mk2 _ _ _ (harg12.read_unread _) _ (512*k.val) (0) (v_off39 i k) _ ?_ ?_
      · intro r c
        have hr := r.isLt; have := c.isLt
        delta v1550_3 v1561_4 bodyPos.sl.cst_857_3 v1548_3
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p3 s3 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p3 s3 ?_
        simp only [Tl, Td] <;> omega
    ihave H11 : pv c arg11 (harg11.unread (mk2 (stB p3 s3 (Tl (k.val+1))))) $$ [H11]
    · istop; refine pv_of_read harg11 ?_
      refine read_store_mk2 _ _ _ (harg11.read_unread _) _ (512*k.val) (0) (v_off39 i k) _ ?_ ?_
      · intro r c
        have hr := r.isLt; have := c.isLt
        first
          | (sl_unfold_run_names; sl_unfold_run_names; sl_unfold_run_names; unfold_payloads; pointwise [ra1, ra2, ra3, ra4, raw2]; (try simp only [E, Matrix.cons_val_zero, Matrix.cons_val_one, Matrix.cons_val, Nat.zero_add, Nat.add_zero, fold_dotp]); exact (ee_of p3 s3 (by omega) (by simp only [Tl, Td] <;> omega)).trans (stB_lt p3 s3 (by simp only [Tl, Td] <;> omega)).symm)
          | (sl_unfold_words; sl_unfold_words; sl_unfold_words; unfold_payloads; pointwise [ra1, ra2, ra3, ra4, raw2]; (try simp only [E, Matrix.cons_val_zero, Matrix.cons_val_one, Matrix.cons_val, Nat.zero_add, Nat.add_zero, fold_dotp]); exact (ee_of p3 s3 (by omega) (by simp only [Tl, Td] <;> omega)).trans (stB_lt p3 s3 (by simp only [Tl, Td] <;> omega)).symm)
      · intro j c hj hc' hn
        refine stB_out p3 s3 ?_
        simp only [Tl, Td] <;> omega
    ihave H20 : pv c arg20 (harg20.unread (mk2 (otT p3 s3 (Tl (k.val+1))))) $$ [H20]
    · istop; refine pv_of_read harg20 ?_
      refine read_store_within_mk2 _ _ _ (harg20.read_unread _) _ _ (96) (0) rfl rfl _ _ ?_ ?_
      · intro r c
        have hr := r.isLt; have := c.isLt
        delta v1536_3 v1541_6 v1531_6 v1545_6 v1530_3 v1534_6 v1540_6 bodyPos.sl.cst_847_3 v1539_3 v1532_6 v1533_6
        unfold_payloads; pointwise [ra1, ra2, ra3, ra4, raw2]
        try simp only [E, Matrix.cons_val_zero, Matrix.cons_val_one, Matrix.cons_val, Nat.zero_add, Nat.add_zero, fold_dotp]
        refine ot_step p3 s3 (r := r.val) (by omega) r.isLt (512*k.val) (by simp only [Tl, Td] <;> omega) (by simp only [Tl, Td] <;> omega) _ ?_
        intro x; have hx := x.isLt
        exact ot_term p3 s3 (by omega) (by omega) (by simp only [Tl, Td] <;> omega)
      · intro j c hj hc' hn
        by_cases hrw : p3.row ≤ j ∧ j < p3.row + 96
        · simp only [otT, Tl, Td, if_pos hrw]
          first | (exfalso; omega) | (congr 2; omega)
        · rw [otT_out p3 s3 _ hrw, otT_out p3 s3 _ hrw]
    sl_step
    iframe
  · iframe
  iintro %acc
  iintro ⟨H6, H8, H13, H12, H11, H15, H16, H20⟩
  rw [v_trips7]
  set_option sl_exec.maxSteps 22 in sl_exec
  ihave H15 : pv c arg15 (harg15.unread (mk2 (mac p3 (Td (i 0).val 0)))) $$ [H15]
  · istop; refine pv_of_read harg15 ?_
    refine read_whole_mk2 _ _ _ _ _ ?_
    intro r c
    have hr := r.isLt; have := c.isLt
    delta v1561_5 bodyPos.sl.cst_858_3 v1558_3 v1549_3 v1551_3 v1554_7 v1557_7 v1565_5 v1555_3 r_49 v1556_7 v1560_6 v1552_7 v1562_2
    unfold_payloads; pointwise [ra1, ra2, ra3, ra4, raw2]
    try simp only [E, Matrix.cons_val_zero, Matrix.cons_val_one, Matrix.cons_val, Nat.zero_add, Nat.add_zero, fold_dotp]
    refine mac_step p3 (64*((i 0).val-1)) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p3 s3 (Td (i 0).val 0)))) $$ [H16]
  · istop; refine pv_of_read harg16 ?_
    refine read_whole_mk2 _ _ _ _ _ ?_
    intro r c
    have hr := r.isLt; have := c.isLt
    delta r_46 v1577_5 v1585_2 v1576_5 v1581_5 r_45 v1580_5 v1574_5 r_47 v1578_2 v1573_5 v1582_2 v1572_5 v1575_2 r_48
    unfold_payloads; pointwise [ra1, ra2, ra3, ra4, raw2]
    try simp only [E, Matrix.cons_val_zero, Matrix.cons_val_one, Matrix.cons_val, Nat.zero_add, Nat.add_zero, fold_dotp]
    refine lac_step p3 s3 (64*((i 0).val-1)) (by simp only [Tl, Td] <;> omega) (by simp only [Tl, Td] <;> omega) _ ?_
    intro x; have hx := x.isLt
    exact ee_of p3 s3 (by omega) (by simp only [Tl, Td] <;> omega)
  ihave H12 : pv c arg12 (harg12.unread (mk2 (stA p3 s3 (Td (i 0).val 0)))) $$ [H12]
  · istop; refine pv_of_read harg12 ?_
    refine read_store_mk2 _ _ _ (harg12.read_unread _) _ (512*((i 0).val-1)) (0) (v_off45 i hc3) _ ?_ ?_
    · intro r c
      have hr := r.isLt; have := c.isLt
      delta bodyPos.sl.cst_858_3 v1558_3 v1549_3 v1551_3 v1554_7 v1557_7 v1555_3 v1569_5 v1556_7 v1552_7
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 0)))) $$ [H11]
  · istop; refine pv_of_read harg11 ?_
    refine read_store_mk2 _ _ _ (harg11.read_unread _) _ (512*((i 0).val-1)) (0) (v_off45 i hc3) _ ?_ ?_
    · intro r c
      have hr := r.isLt; have := c.isLt
      delta r_46 v1577_5 v1576_5 r_45 v1574_5 r_47 v1589_2 v1578_2 v1573_5 v1572_5 v1575_2 r_48
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 0)))) $$ [H20]
  · istop; refine pv_of_read harg20 ?_
    refine read_store_within_mk2 _ _ _ (harg20.read_unread _) _ _ (96) (0) rfl rfl _ _ ?_ ?_
    · intro r c
      have hr := r.isLt; have := c.isLt
      delta v1532_7 v1531_7 v1541_7 v1533_7 v1534_7 v1540_7 v1546_3 v1542_3 v1537_3 v1535_3 bodyPos.sl.cst_848_3
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*((i 0).val-1)) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 24 in sl_exec
  ihave H15 : pv c arg15 (harg15.unread (mk2 (mac p3 (Td (i 0).val 1)))) $$ [H15]
  · istop; refine pv_of_read harg15 ?_
    refine read_whole_mk2 _ _ _ _ _ ?_
    intro r c
    have hr := r.isLt; have := c.isLt
    delta v1250 v1233 v1235 v1239 cst_689 v1245 v1238 v1241 v1246 v1247 v1243 v1236 v1242
    unfold_payloads; pointwise [ra1, ra2, ra3, ra4, raw2]
    try simp only [E, Matrix.cons_val_zero, Matrix.cons_val_one, Matrix.cons_val, Nat.zero_add, Nat.add_zero, fold_dotp]
    refine mac_step p3 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p3 s3 (Td (i 0).val 1)))) $$ [H16]
  · istop; refine pv_of_read harg16 ?_
    refine read_whole_mk2 _ _ _ _ _ ?_
    intro r c
    have hr := r.isLt; have := c.isLt
    delta r_46 v1260 v1267 r_45 v1259 v1263 v1265 v1261 r_47 v1270 v1266 v1257 r_48 v1258 v1262
    unfold_payloads; pointwise [ra1, ra2, ra3, ra4, raw2]
    try simp only [E, Matrix.cons_val_zero, Matrix.cons_val_one, Matrix.cons_val, Nat.zero_add, Nat.add_zero, fold_dotp]
    refine lac_step p3 s3 (64*(i 0).val+0) (by simp only [Tl, Td] <;> omega) (by simp only [Tl, Td] <;> omega) _ ?_
    intro x; have hx := x.isLt
    exact ee_of p3 s3 (by omega) (by simp only [Tl, Td] <;> omega)
  ihave H12 : pv c arg12 (harg12.unread (mk2 (stA p3 s3 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v1254 v1233 v1235 v1239 cst_689 v1238 v1241 v1243 v1236 v1242
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta r_46 v1260 r_45 v1259 v1263 v1261 r_47 v1257 r_48 v1274 v1258 v1262
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 1)))) $$ [H20]
  · istop; refine pv_of_read harg20 ?_
    refine read_store_within_mk2 _ _ _ (harg20.read_unread _) _ _ (96) (0) rfl rfl _ _ ?_ ?_
    · intro r c
      have hr := r.isLt; have := c.isLt
      delta v1225 v1218 v1230 v1215 v1226 v1224 v1216 cst_679 v1219 v1221 v1217
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 24 in sl_exec
  ihave H15 : pv c arg15 (harg15.unread (mk2 (mac p3 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v1311 v1303 v1307 v1302 v1299 v1305 v1309 v1300 v1306 v1310 cst_724 v1314 v1297
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 2)))) $$ [H16]
  · istop; refine pv_of_read harg16 ?_
    refine read_store_mk2 _ _ _ (harg16.read_unread _) _ (0) (128) (rfl) _ ?_ ?_
    · intro r c
      have hr := r.isLt; have := c.isLt
      delta r_46 v1330 v1331 v1322 v1323 r_45 v1321 r_47 v1324 v1335 v1326 v1328 r_48 v1332 v1327 v1325
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+16) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta v1303 v1307 v1302 v1299 v1305 v1300 v1318 v1306 cst_724 v1297
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta r_46 v1322 v1323 r_45 v1339 v1321 r_47 v1324 v1326 v1328 r_48 v1327 v1325
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 2)))) $$ [H20]
  · istop; refine pv_of_read harg20 ?_
    refine read_store_within_mk2 _ _ _ (harg20.read_unread _) _ _ (96) (128) rfl rfl _ _ ?_ ?_
    · intro r c
      have hr := r.isLt; have := c.isLt
      delta v1281 cst_714 v1289 r_50 v1283 v1278 v1290 v1279 v1285 v1294 v1288 v1280 v1282
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+128) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 22 in sl_exec
  ihave H15 : pv c arg15 (harg15.unread (mk2 (mac p3 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v1370 v1365 v1375 v1367 cst_759 v1368 v1364 v1378 v1374 v1371 v1373 v1362
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v1387 r_46 v1392 r_45 v1396 v1389 r_47 v1394 v1385 v1399 v1391 r_48 v1388 v1386 v1390 v1395
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+32) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v1370 v1365 v1367 cst_759 v1368 v1364 v1382 v1371 v1362
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v1403 v1387 r_46 v1392 r_45 v1389 r_47 v1385 v1391 r_48 v1388 v1386 v1390
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 3)))) $$ [H20]
  · istop; refine pv_of_read harg20 ?_
    refine read_store_within_mk2 _ _ _ (harg20.read_unread _) _ _ (96) (256) rfl rfl _ _ ?_ ?_
    · intro r c
      have hr := r.isLt; have := c.isLt
      delta v1359 v1353 v1346 v1354 v1350 cst_749 r_50 v1347 v1343 v1345 v1344 v1355 v1348
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+256) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 23 in sl_exec
  ihave H15 : pv c arg15 (harg15.unread (mk2 (mac p3 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v1430 cst_794 v1437 v1428 v1434 v1432 v1426 v1433
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 4)))) $$ [H16]
  · istop; refine pv_of_read harg16 ?_
    refine read_store_mk2 _ _ _ (harg16.read_unread _) _ (0) (384) (rfl) _ ?_ ?_
    · intro r c
      have hr := r.isLt; have := c.isLt
      delta r_46 v1446 v1445 v1458 r_45 v1448 v1449 r_47 v1451 v1453 r_51 v1444 v1447 v1450 v1455 v1454 r_48
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+48) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v1430 cst_794 v1428 v1426 v1441
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta r_46 v1446 v1445 r_45 v1448 v1449 r_47 v1451 r_51 v1444 v1447 v1450 r_48 v1462
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 4)))) $$ [H20]
  · istop; refine pv_of_read harg20 ?_
    refine read_store_within_mk2 _ _ _ (harg20.read_unread _) _ _ (96) (384) rfl rfl _ _ ?_ ?_
    · intro r c
      have hr := r.isLt; have := c.isLt
      delta cst_784 v1407 v1423 v1419 v1411 v1408 v1410 v1418 v1417 r_50 v1409 v1414 v1412
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+384) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 19 in sl_exec
  ihave H20 : pv c arg20 (harg20.unread (mk2 (s4.ot))) $$ [H20]
  · istop; refine pv_of_read harg20 ?_
    refine read_store_mk2 _ _ _ (harg20.read_unread _) _ (96) (0) (rfl) _ ?_ ?_
    · intro r c
      have hr := r.isLt; have := c.isLt
      delta v1470 r_52 v1471 v1475 v1472 v1469
      unfold_payloads; pointwise [ra1, ra2, ra3, ra4, raw2]
      try simp only [E, Matrix.cons_val_zero, Matrix.cons_val_one, Matrix.cons_val, Nat.zero_add, Nat.add_zero, fold_dotp]
      rw [hs4]; simp only [step, hqi]
      rw [if_pos (by omega)]
    · intro j c hj hc' hn
      rw [hs4]; simp only [step]
      by_cases hrw : p3.row ≤ j ∧ j < p3.row + 96
      · exfalso; omega
      · rw [if_neg hrw, otT_out p3 s3 _ hrw]
  ihave H19 : pv c arg19 (harg19.unread (mk2 (s4.ps))) $$ [H19]
  · istop; refine pv_of_read harg19 ?_
    refine read_whole_mk2 _ _ _ _ _ ?_
    intro r c
    have hr := r.isLt; have := c.isLt
    delta v1478 v1477 v1482 v1483 cst_822 cst_821 v1480
    unfold_payloads; pointwise [ra1, ra2, ra3, ra4, raw2]
    try simp only [E, Matrix.cons_val_zero, Matrix.cons_val_one, Matrix.cons_val, Nat.zero_add, Nat.add_zero, fold_dotp]
    rw [hs4]; simp only [step, pscF, fieldF, nearF, lsum, hqi]
  ihave H18 : pv c arg18 (harg18.unread (mk2 (s4.r))) $$ [H18]
  · istop; refine pv_of_read harg18 ?_
    refine read_whole_mk2 _ _ _ _ _ ?_
    intro r c
    have hr := r.isLt; have := c.isLt
    delta v1478 v1477 v1482 v1483 cst_822 cst_821 v1480
    unfold_payloads; pointwise [ra1, ra2, ra3, ra4, raw2]
    try simp only [E, Matrix.cons_val_zero, Matrix.cons_val_one, Matrix.cons_val, Nat.zero_add, Nat.add_zero, fold_dotp]
    rw [hs4]; simp only [step, rrF, fieldF, nearF, lsum, hqi]
  ihave H17 : pv c arg17 (harg17.unread (mk2 (s4.mx))) $$ [H17]
  · istop; refine pv_of_read harg17 ?_
    refine read_whole_mk2 _ _ _ _ _ ?_
    intro r c
    have hr := r.isLt; have := c.isLt
    delta r_53
    unfold_payloads; pointwise [ra1, ra2, ra3, ra4, raw2]
    try simp only [E, Matrix.cons_val_zero, Matrix.cons_val_one, Matrix.cons_val, Nat.zero_add, Nat.add_zero, fold_dotp]
    rw [hs4]; simp only [step, mtop, hqi]
  ihave H11 : pv c arg11 (harg11.unread (mk2 (s4.A))) $$ [H11]
  · istop; refine pv_of_read harg11 ?_
    rw [harg11.read_unread, hs4]; simp only [step, hqi]
  ihave H12 : pv c arg12 (harg12.unread (mk2 (s4.B))) $$ [H12]
  · istop; refine pv_of_read harg12 ?_
    rw [harg12.read_unread, hs4]; simp only [step, hqi]
  clear E hqi hrow hK hV hQ hQ0 hTi hcb hvs ek0 ek1 ek2 ek3 ev0 ev1 ev2 ev3
  sl_exec
  ihave H10 : pv c arg10 (harg10.unread (mk3 fun _ x w => s2.ot w x)) $$ [H10]
  · istop; refine pv_of_read harg10 ?_
    first | delta bodyPos.sl.H10_3 | skip
    refine read_cols3_mk3 (a := 512) _ _ _ _ _ _ _ _ ?_ ?_ ?_
    · intro r c
      exact out_0 harg20 s2.ot r c
    · intro r c
      exact out_128 harg20 s2.ot r c
    · intro r c
      exact out_256 harg20 s2.ot r c
  sl_step
  subst hs4 hs3 hs2 hs1 hp3 hp2 hp1 hp0
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  iexact H20

end Cert.KernelIdeal.Hand

end
-- ==== Proof.ValueBodyZero.lean ====
module

public import proofs.«01_k».proof.Proof.ValueOut
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

namespace bodyZero.sl
end bodyZero.sl
open bodyZero.sl

set_option maxHeartbeats 40000000 in
/-- One run of the body, at the first query block: four head steps, and an output block that holds the output rows after the
    second of them. -/
theorem bodyZero (c : Dev nD) (i : grid0.Coords) (hzero : (i 0).val = 0) (arg2 : Memref sig .tc .smem S96 .f32) (harg2 : arg2.IsWhole) (arg3 : Memref sig .tc .smem S96 .f32) (harg3 : arg3.IsWhole) (arg4 : Memref sig .tc .smem S96 .f32) (harg4 : arg4.IsWhole) (arg5 : Memref sig .tc .vmem S1x384x512 .fp8e4m3) (harg5 : arg5.IsWhole) (arg6 : Memref sig .tc .vmem S1x4x8192x128 .fp8e4m3) (harg6 : arg6.IsWhole) (arg7 : Memref sig .tc .vmem S192x8192 .fp8e4m3) (harg7 : arg7.IsWhole) (arg8 : Memref sig .tc .vmem S192x8192 .fp8e4m3) (harg8 : arg8.IsWhole) (arg9 : Memref sig .tc .vmem S4x256x128 .f32) (harg9 : arg9.IsWhole) (arg10 : Memref sig .tc .vmem S1x512x384 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S128x512 .fp8e4m3) (harg13 : arg13.IsWhole) (arg14 : Memref sig .tc .vmem S256x128 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S8x512 .f32) (harg19 : arg19.IsWhole) (arg20 : Memref sig .tc .vmem S384x512 .f32) (harg20 : arg20.IsWhole)
    (qs ks vs : ℕ → EReal) (fq : ℕ → ℕ → ℕ → EReal) (fk : ℕ → ℕ → ℕ → ℕ → EReal) (va vb : ℕ → ℕ → EReal) (fb : ℕ → ℕ → ℕ → EReal) (s0 : HS)
    (Q : PUnit → sProp 𝕄) :
    iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ (∃ f, pv c arg10 f) ∗ pv c arg11 (harg11.unread (mk2 s0.A)) ∗ pv c arg12 (harg12.unread (mk2 s0.B)) ∗ (∃ f, pv c arg13 f) ∗ (∃ f, pv c arg14 f) ∗ (∃ f, pv c arg15 f) ∗ (∃ f, pv c arg16 f) ∗ pv c arg17 (harg17.unread (mk2 s0.mx)) ∗ pv c arg18 (harg18.unread (mk2 s0.r)) ∗ pv c arg19 (harg19.unread (mk2 s0.ps)) ∗ pv c arg20 (harg20.unread (mk2 s0.ot))
      ∗ (iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ pv c arg10 (harg10.unread (mk3 fun _ x w => (step (hp (i 0).val (i 1).val 1 qs ks vs fq fk va vb fb) (step (hp (i 0).val (i 1).val 0 qs ks vs fq fk va vb fb) s0)).ot w x)) ∗ pv c arg11 (harg11.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).A)) ∗ pv c arg12 (harg12.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).B)) ∗ (∃ f, pv c arg13 f) ∗ (∃ f, pv c arg14 f) ∗ (∃ f, pv c arg15 f) ∗ (∃ f, pv c arg16 f) ∗ pv c arg17 (harg17.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).mx)) ∗ pv c arg18 (harg18.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).r)) ∗ pv c arg19 (harg19.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ps)) ∗ pv c arg20 (harg20.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ot))) -∗ Q ⟨⟩))
    ⊢ wp frame (wpE (defs₀ (F := Ideal)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  have hc0 : ¬ k0_cond1 i = 1#1 := fun h => absurd ((v_cond1 i).mp h) (by omega)
  have hc1 : ¬ k0_cond2 i = 1#1 := fun h => absurd ((v_cond2 i).mp h) (by omega)
  have hc2 : ¬ k0_cond3 i = 1#1 := fun h => absurd ((v_cond3 i).mp h) (by omega)
  have hc3 : ¬ k0_cond4 i = 1#1 := fun h => absurd ((v_cond4 i).mp h) (by omega)
  have hTz : Tl ((i 0).val - 1) = Td (i 0).val 0 := by rw [Td_zero, hzero]
  iintro ⟨H2, H3, H4, H5, H6, H7, H8, H9, ⟨%f10, H10⟩, H11, H12, ⟨%f13, H13⟩, ⟨%f14, H14⟩, ⟨%f15, H15⟩, ⟨%f16, H16⟩, H17, H18, H19, H20, Hk⟩
  -- Head 0.
  obtain ⟨p0, hp0⟩ : ∃ p, p = hp (i 0).val (i 1).val 0 qs ks vs fq fk va vb fb := ⟨_, rfl⟩
  obtain ⟨s1, hs1⟩ : ∃ s, s = step p0 s0 := ⟨_, rfl⟩
  have hqi : p0.qi = (i 0).val := by rw [hp0]; rfl
  have hrow : p0.row = 192 := by rw [hp0]; rfl
  have hK : ∀ j d, fk 0 0 j d = p0.K j d := fun j d => by rw [hp0]; rfl
  have hV : ∀ d j, va (d) j = p0.V d j := fun d j => by rw [hp0]; simp [hp]
  have hQ : ∀ d c, d < 96 → fq 0 (d) c = p0.Q d c := fun d c hd => by rw [hp0]; simp [hp, hd]
  have hQ0 : ∀ d c, p0.Q (96 + d) c = 0 := fun d c => by rw [hp0]; simp [hp]
  have hTi : ∀ r c, fb 0 r c * Ideal.div 1 (qs (k0_off1 i 0#32 0) * ks (k0_off1 i 0#32 0)) = p0.Ti r c := fun r c => by
    have e : k0_off1 i 0#32 = _ := k0_off1_eq i 0
    rw [hp0, e]; rfl
  have hcb : qs (k0_off2 i 0#32 1#32 0) * ks (k0_off2 i 0#32 1#32 0) * Named.named (F := Ideal) (φ := .f32) κ "log2e" 1069066811#32 = p0.cb := by
    have e : k0_off2 i 0#32 1#32 = _ := v_off2 i 0 0
    rw [hp0, e]; rfl
  have hvs : vs (k0_off2 i 0#32 2#32 0) = p0.vs := by
    have e : k0_off2 i 0#32 2#32 = _ := v_off2 i 0 1
    rw [hp0, e]; rfl
  have ek0 : k0_off14 i 0#32 = ![0, 0, 512 * (i 0).val + 0, 0] := k0_off14_eq i 0
  have ev0 : k0_off13 i 0#32 = ![0, 512 * (i 0).val + 0] := k0_off13_eq i 0
  have ek1 : k0_off14 i 128#32 = ![0, 0, 512 * (i 0).val + 128, 0] := k0_off14_eq i 1
  have ev1 : k0_off13 i 128#32 = ![0, 512 * (i 0).val + 128] := k0_off13_eq i 1
  have ek2 : k0_off14 i 256#32 = ![0, 0, 512 * (i 0).val + 256, 0] := k0_off14_eq i 2
  have ev2 : k0_off13 i 256#32 = ![0, 512 * (i 0).val + 256] := k0_off13_eq i 2
  have ek3 : k0_off14 i 384#32 = ![0, 0, 512 * (i 0).val + 384, 0] := k0_off14_eq i 3
  have ev3 : k0_off13 i 384#32 = ![0, 512 * (i 0).val + 384] := k0_off13_eq i 3
  have E := And.intro ek0 <| And.intro ek1 <| And.intro ek2 <| And.intro ek3 <| And.intro ev0 <| And.intro ev1 <| And.intro ev2 <| And.intro ev3 <| And.intro @v_off3 <| And.intro @v_off4 <| And.intro @v_off5 <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p0.Q))) $$ [H13]
  · istop; refine pv_of_read harg13 ?_
    delta H13_2 bodyZero.sl.cst v4 v7
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p0.Ti))) $$ [H14]
  · istop; refine pv_of_read harg14 ?_
    delta v21 cst_6 bodyZero.sl.r H14_1 v18 r_1 v26 v23 v22 v19
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p0 (Tl 0)))) $$ [H15]
  · istop; refine pv_of_read harg15 ?_
    delta H15_1 cst_12
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p0 s0 (Tl 0)))) $$ [H16]
  · istop; refine pv_of_read harg16 ?_
    delta H16_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p0 s0 (Tl 0)))) $$ [H20]
  · istop; refine pv_of_read harg20 ?_
    refine read_store_mk2 _ _ _ (harg20.read_unread _) _ (192) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p0 s0 (by omega)]
    · intro j c hj hc' hn
      exact otT_out p0 s0 _ (by omega)
  ihave H11 : pv c arg11 (harg11.unread (mk2 (stA p0 s0 (Tl 0)))) $$ [H11]
  · istop; refine pv_of_read harg11 ?_
    rw [harg11.read_unread, stA_zero]
  ihave H12 : pv c arg12 (harg12.unread (mk2 (stB p0 s0 (Tl 0)))) $$ [H12]
  · istop; refine pv_of_read harg12 ?_
    rw [harg12.read_unread, stB_zero]
  sl_for (fun k _ => iprop(pv c arg6 (harg6.unread (mk4 fk)) ∗ pv c arg7 (harg7.unread (mk2 va)) ∗ pv c arg13 (harg13.unread (mk2 p0.Q)) ∗ pv c arg11 (harg11.unread (mk2 (stA p0 s0 (Tl k)))) ∗ pv c arg12 (harg12.unread (mk2 (stB p0 s0 (Tl k)))) ∗ pv c arg15 (harg15.unread (mk2 (mac p0 (Tl k)))) ∗ pv c arg16 (harg16.unread (mk2 (lac p0 s0 (Tl k)))) ∗ pv c arg20 (harg20.unread (mk2 (otT p0 s0 (Tl k)))))) $$ [H6 H7 H13 H11 H12 H15 H16 H20]
  · intro k acc
    have hk : k.val < (i 0).val - 1 := v_trips1 i ▸ k.isLt
    iintro ⟨H6, H7, H13, H11, H12, H15, H16, H20⟩
    sl_exec
    ihave H15 : pv c arg15 (harg15.unread (mk2 (mac p0 (Tl (k.val+1))))) $$ [H15]
    · istop; refine pv_of_read harg15 ?_
      refine read_whole_mk2 _ _ _ _ _ ?_
      intro r c
      have hr := r.isLt; have := c.isLt
      delta v1548 v1553 v1557 v1554 v1552 v1550 cst_857
      unfold_payloads; pointwise [ra1, ra2, ra3, ra4, raw2]
      try simp only [E, Matrix.cons_val_zero, Matrix.cons_val_one, Matrix.cons_val, Nat.zero_add, Nat.add_zero, fold_dotp]
      refine mac_step p0 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p0 s0 (Tl (k.val+1))))) $$ [H16]
    · istop; refine pv_of_read harg16 ?_
      refine read_whole_mk2 _ _ _ _ _ ?_
      intro r c
      have hr := r.isLt; have := c.isLt
      delta r_3 r_2
      unfold_payloads; pointwise [ra1, ra2, ra3, ra4, raw2]
      try simp only [E, Matrix.cons_val_zero, Matrix.cons_val_one, Matrix.cons_val, Nat.zero_add, Nat.add_zero, fold_dotp]
      refine lac_step p0 s0 (64*k.val) (by simp only [Tl, Td] <;> omega) (by simp only [Tl, Td] <;> omega) _ ?_
      intro x; have hx := x.isLt
      exact ee_of p0 s0 (by omega) (by simp only [Tl, Td] <;> omega)
    ihave H11 : pv c arg11 (harg11.unread (mk2 (stA p0 s0 (Tl (k.val+1))))) $$ [H11]
    · istop; refine pv_of_read harg11 ?_
      refine read_store_mk2 _ _ _ (harg11.read_unread _) _ (512*k.val) (0) (v_off3 i k) _ ?_ ?_
      · intro r c
        have hr := r.isLt; have := c.isLt
        delta v1548 v1550 cst_857
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p0 s0 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p0 s0 ?_
        simp only [Tl, Td] <;> omega
    ihave H12 : pv c arg12 (harg12.unread (mk2 (stB p0 s0 (Tl (k.val+1))))) $$ [H12]
    · istop; refine pv_of_read harg12 ?_
      refine read_store_mk2 _ _ _ (harg12.read_unread _) _ (512*k.val) (0) (v_off3 i k) _ ?_ ?_
      · intro r c
        have hr := r.isLt; have := c.isLt
        delta r_3 r_2
        unfold_payloads; pointwise [ra1, ra2, ra3, ra4, raw2]
        try simp only [E, Matrix.cons_val_zero, Matrix.cons_val_one, Matrix.cons_val, Nat.zero_add, Nat.add_zero, fold_dotp]
        exact (ee_of p0 s0 (by omega) (by simp only [Tl, Td] <;> omega)).trans (stB_lt p0 s0 (by simp only [Tl, Td] <;> omega)).symm
      · intro j c hj hc' hn
        refine stB_out p0 s0 ?_
        simp only [Tl, Td] <;> omega
    ihave H20 : pv c arg20 (harg20.unread (mk2 (otT p0 s0 (Tl (k.val+1))))) $$ [H20]
    · istop; refine pv_of_read harg20 ?_
      refine read_store_within_mk2 _ _ _ (harg20.read_unread _) _ _ (192) (0) rfl rfl _ _ ?_ ?_
      · intro r c
        have hr := r.isLt; have := c.isLt
        delta v1540 v1534 v1533 cst_847 v1545 v1539 v1532 v1541 v1536 v1531 v1530
        unfold_payloads; pointwise [ra1, ra2, ra3, ra4, raw2]
        try simp only [E, Matrix.cons_val_zero, Matrix.cons_val_one, Matrix.cons_val, Nat.zero_add, Nat.add_zero, fold_dotp]
        refine ot_step p0 s0 (r := r.val) (by omega) r.isLt (512*k.val) (by simp only [Tl, Td] <;> omega) (by simp only [Tl, Td] <;> omega) _ ?_
        intro x; have hx := x.isLt
        exact ot_term p0 s0 (by omega) (by omega) (by simp only [Tl, Td] <;> omega)
      · intro j c hj hc' hn
        by_cases hrw : p0.row ≤ j ∧ j < p0.row + 96
        · simp only [otT, Tl, Td, if_pos hrw]
          first | (exfalso; omega) | (congr 2; omega)
        · rw [otT_out p0 s0 _ hrw, otT_out p0 s0 _ hrw]
    sl_step
    iframe
  · iframe
  iintro %acc
  iintro ⟨H6, H7, H13, H11, H12, H15, H16, H20⟩
  rw [v_trips1]
  rw [hTz]
  set_option sl_exec.maxSteps 25 in sl_exec
  ihave H15 : pv c arg15 (harg15.unread (mk2 (mac p0 (Td (i 0).val 1)))) $$ [H15]
  · istop; refine pv_of_read harg15 ?_
    refine read_whole_mk2 _ _ _ _ _ ?_
    intro r c
    have hr := r.isLt; have := c.isLt
    delta v92 cst_51 v84 v93 v96 v98 v86 v94 v90 v89 v101 v87 v97
    unfold_payloads; pointwise [ra1, ra2, ra3, ra4, raw2]
    try simp only [E, Matrix.cons_val_zero, Matrix.cons_val_one, Matrix.cons_val, Nat.zero_add, Nat.add_zero, fold_dotp]
    refine mac_step p0 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p0 s0 (Td (i 0).val 1)))) $$ [H16]
  · istop; refine pv_of_read harg16 ?_
    refine read_whole_mk2 _ _ _ _ _ ?_
    intro r c
    have hr := r.isLt; have := c.isLt
    delta v118 r_4 v109 v114 r_3 v110 v113 r_5 v111 r_2 v112 v117 v121 v116 v108
    unfold_payloads; pointwise [ra1, ra2, ra3, ra4, raw2]
    try simp only [E, Matrix.cons_val_zero, Matrix.cons_val_one, Matrix.cons_val, Nat.zero_add, Nat.add_zero, fold_dotp]
    refine lac_step p0 s0 (64*(i 0).val+0) (by simp only [Tl, Td] <;> omega) (by simp only [Tl, Td] <;> omega) _ ?_
    intro x; have hx := x.isLt
    exact ee_of p0 s0 (by omega) (by simp only [Tl, Td] <;> omega)
  ihave H11 : pv c arg11 (harg11.unread (mk2 (stA p0 s0 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v92 v105 cst_51 v84 v93 v86 v94 v90 v89 v87
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v125 r_4 v109 v114 r_3 v110 v113 r_5 v111 r_2 v112 v108
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 1)))) $$ [H20]
  · istop; refine pv_of_read harg20 ?_
    refine read_store_within_mk2 _ _ _ (harg20.read_unread _) _ _ (192) (0) rfl rfl _ _ ?_ ?_
    · intro r c
      have hr := r.isLt; have := c.isLt
      delta v72 v69 v77 v70 cst_41 v75 v67 v66 v76 r_6 v68 v81
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 24 in sl_exec
  ihave H15 : pv c arg15 (harg15.unread (mk2 (mac p0 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v157 v153 v154 cst_84 v148 v158 v156 v160 v151 v165 v162 v150 v161
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v182 r_8 v173 r_4 v176 v186 r_3 r_5 v175 r_2 v177 v183 v179 v178 v181 v174 v172
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+16) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v157 v153 v154 cst_84 v148 v158 v156 v169 v151 v150
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta r_8 v173 r_4 v176 r_3 r_5 v175 r_2 v177 v190 v179 v178 v174 v172
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 2)))) $$ [H20]
  · istop; refine pv_of_read harg20 ?_
    refine read_store_within_mk2 _ _ _ (harg20.read_unread _) _ _ (192) (128) rfl rfl _ _ ?_ ?_
    · intro r c
      have hr := r.isLt; have := c.isLt
      delta v139 v145 v129 v136 v131 cst_74 v133 r_7 v132 r_6 v130 v140 v141 v134
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+128) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 24 in sl_exec
  ihave H15 : pv c arg15 (harg15.unread (mk2 (mac p0 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v222 v224 v221 cst_117 v229 v225 v216 v218 v213 v219 v215 v226
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v240 v245 v241 v243 v246 r_4 v236 v247 v238 r_3 v250 r_5 v242 v239 r_2 v237
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+32) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v222 v233 v221 cst_117 v216 v218 v213 v219 v215
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v240 v241 v243 r_4 v236 v238 r_3 r_5 v242 v254 v239 r_2 v237
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 3)))) $$ [H20]
  · istop; refine pv_of_read harg20 ?_
    refine read_store_within_mk2 _ _ _ (harg20.read_unread _) _ _ (192) (256) rfl rfl _ _ ?_ ?_
    · intro r c
      have hr := r.isLt; have := c.isLt
      delta v199 cst_107 v205 v204 v210 v196 v197 v195 v194 r_6 v201 v206 v198
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+256) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 21 in sl_exec
  ihave H15 : pv c arg15 (harg15.unread (mk2 (mac p0 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v284 v281 v285 v279 v283 r_10 cst_150 v288 v277
      unfold_payloads; pointwise [ra1, ra2, ra3, ra4, raw2]
      try simp only [E, Matrix.cons_val_zero, Matrix.cons_val_one, Matrix.cons_val, Nat.zero_add, Nat.add_zero, fold_dotp]
      refine mac_step p0 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p0 s0 (Td (i 0).val 4)))) $$ [H16]
  · istop; refine pv_of_read harg16 ?_
    refine read_store_mk2 _ _ _ (harg16.read_unread _) _ (0) (384) (rfl) _ ?_ ?_
    · intro r c
      have hr := r.isLt; have := c.isLt
      delta v298 v295 v304 v299 r_4 v300 v296 r_3 v305 r_5 r_2 v306 v302 v297 v309 v301
      unfold_payloads; pointwise [ra1, ra2, ra3, ra4, raw2]
      try simp only [E, Matrix.cons_val_zero, Matrix.cons_val_one, Matrix.cons_val, Nat.zero_add, Nat.add_zero, fold_dotp]
      refine lac_step p0 s0 (64*(i 0).val+48) (by simp only [Tl, Td] <;> omega) (by simp only [Tl, Td] <;> omega) _ ?_
      intro x; have hx := x.isLt
      exact ee_of p0 s0 (by omega) (by simp only [Tl, Td] <;> omega)
    · intro j c hj hc' hn
      unfold lac
      simp only [Tl, Td]
      congr 2; omega
  ihave H11 : pv c arg11 (harg11.unread (mk2 (stA p0 s0 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v281 v279 v292 cst_150 v277
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p0 s0 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p0 s0 ?_
      simp only [Tl, Td] <;> omega
  ihave H12 : pv c arg12 (harg12.unread (mk2 (stB p0 s0 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v298 v295 v313 v299 r_4 v300 v296 r_3 r_5 r_2 v302 v297 v301
      unfold_payloads; pointwise [ra1, ra2, ra3, ra4, raw2]
      try simp only [E, Matrix.cons_val_zero, Matrix.cons_val_one, Matrix.cons_val, Nat.zero_add, Nat.add_zero, fold_dotp]
      exact (ee_of p0 s0 (by omega) (by simp only [Tl, Td] <;> omega)).trans (stB_lt p0 s0 (by simp only [Tl, Td] <;> omega)).symm
    · intro j c hj hc' hn
      refine stB_out p0 s0 ?_
      simp only [Tl, Td] <;> omega
  ihave H20 : pv c arg20 (harg20.unread (mk2 (otT p0 s0 (Td (i 0).val 4)))) $$ [H20]
  · istop; refine pv_of_read harg20 ?_
    refine read_store_within_mk2 _ _ _ (harg20.read_unread _) _ _ (192) (384) rfl rfl _ _ ?_ ?_
    · intro r c
      have hr := r.isLt; have := c.isLt
      delta v274 v262 cst_140 v263 v258 v268 v261 r_6 v270 v265 v260 v259 v269
      unfold_payloads; pointwise [ra1, ra2, ra3, ra4, raw2]
      try simp only [E, Matrix.cons_val_zero, Matrix.cons_val_one, Matrix.cons_val, Nat.zero_add, Nat.add_zero, fold_dotp]
      refine ot_step p0 s0 (r := r.val) (by omega) r.isLt (512*(i 0).val+384) (by simp only [Tl, Td] <;> omega) (by simp only [Tl, Td] <;> omega) _ ?_
      intro x; have hx := x.isLt
      exact ot_term p0 s0 (by omega) (by omega) (by simp only [Tl, Td] <;> omega)
    · intro j c hj hc' hn
      by_cases hrw : p0.row ≤ j ∧ j < p0.row + 96
      · simp only [otT, Tl, Td, if_pos hrw]
        first | (exfalso; omega) | (congr 2; omega)
      · rw [otT_out p0 s0 _ hrw, otT_out p0 s0 _ hrw]
  set_option sl_exec.maxSteps 20 in sl_exec
  ihave H20 : pv c arg20 (harg20.unread (mk2 (s1.ot))) $$ [H20]
  · istop; refine pv_of_read harg20 ?_
    refine read_store_mk2 _ _ _ (harg20.read_unread _) _ (192) (0) (rfl) _ ?_ ?_
    · intro r c
      have hr := r.isLt; have := c.isLt
      delta v320 v321 r_12 r_11
      unfold_payloads; pointwise [ra1, ra2, ra3, ra4, raw2]
      try simp only [E, Matrix.cons_val_zero, Matrix.cons_val_one, Matrix.cons_val, Nat.zero_add, Nat.add_zero, fold_dotp]
      rw [hs1]; simp only [step, hqi]
      rw [if_pos (by omega)]
    · intro j c hj hc' hn
      rw [hs1]; simp only [step]
      by_cases hrw : p0.row ≤ j ∧ j < p0.row + 96
      · exfalso; omega
      · rw [if_neg hrw, otT_out p0 s0 _ hrw]
  ihave H19 : pv c arg19 (harg19.unread (mk2 (s1.ps))) $$ [H19]
  · istop; refine pv_of_read harg19 ?_
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [hs1]; simp only [step, pscF, fieldF, nearF, lsum, hqi]
  ihave H18 : pv c arg18 (harg18.unread (mk2 (s1.r))) $$ [H18]
  · istop; refine pv_of_read harg18 ?_
    refine read_whole_mk2 _ _ _ _ _ ?_
    intro r c
    have hr := r.isLt; have := c.isLt
    delta v365 r_14 v368 v363 r_13 v364
    unfold_payloads; pointwise [ra1, ra2, ra3, ra4, raw2]
    try simp only [E, Matrix.cons_val_zero, Matrix.cons_val_one, Matrix.cons_val, Nat.zero_add, Nat.add_zero, fold_dotp]
    rw [hs1]; simp only [step, rrF, fieldF, nearF, lsum, hqi]
  ihave H17 : pv c arg17 (harg17.unread (mk2 (s1.mx))) $$ [H17]
  · istop; refine pv_of_read harg17 ?_
    refine read_whole_mk2 _ _ _ _ _ ?_
    intro r c
    have hr := r.isLt; have := c.isLt
    delta v372 v373 v371 v376 v370
    unfold_payloads; pointwise [ra1, ra2, ra3, ra4, raw2]
    try simp only [E, Matrix.cons_val_zero, Matrix.cons_val_one, Matrix.cons_val, Nat.zero_add, Nat.add_zero, fold_dotp]
    rw [hs1]; simp only [step, mtop, hqi]
  ihave H12 : pv c arg12 (harg12.unread (mk2 (s1.A))) $$ [H12]
  · istop; refine pv_of_read harg12 ?_
    rw [harg12.read_unread, hs1]; simp only [step, hqi]
  ihave H11 : pv c arg11 (harg11.unread (mk2 (s1.B))) $$ [H11]
  · istop; refine pv_of_read harg11 ?_
    rw [harg11.read_unread, hs1]; simp only [step, hqi]
  clear E hqi hrow hK hV hQ hQ0 hTi hcb hvs ek0 ek1 ek2 ek3 ev0 ev1 ev2 ev3
  -- Head 1.
  obtain ⟨p1, hp1⟩ : ∃ p, p = hp (i 0).val (i 1).val 1 qs ks vs fq fk va vb fb := ⟨_, rfl⟩
  obtain ⟨s2, hs2⟩ : ∃ s, s = step p1 s1 := ⟨_, rfl⟩
  have hqi : p1.qi = (i 0).val := by rw [hp1]; rfl
  have hrow : p1.row = 288 := by rw [hp1]; rfl
  have hK : ∀ j d, fk 0 1 j d = p1.K j d := fun j d => by rw [hp1]; rfl
  have hV : ∀ d j, va (96 + d) j = p1.V d j := fun d j => by rw [hp1]; simp [hp]
  have hQ : ∀ d c, d < 96 → fq 0 (96 + d) c = p1.Q d c := fun d c hd => by rw [hp1]; simp [hp, hd]
  have hQ0 : ∀ d c, p1.Q (96 + d) c = 0 := fun d c => by rw [hp1]; simp [hp]
  have hTi : ∀ r c, fb 1 r c * Ideal.div 1 (qs (k0_off1 i 1#32 0) * ks (k0_off1 i 1#32 0)) = p1.Ti r c := fun r c => by
    have e : k0_off1 i 1#32 = _ := k0_off1_eq i 1
    rw [hp1, e]; rfl
  have hcb : qs (k0_off2 i 1#32 1#32 0) * ks (k0_off2 i 1#32 1#32 0) * Named.named (F := Ideal) (φ := .f32) κ "log2e" 1069066811#32 = p1.cb := by
    have e : k0_off2 i 1#32 1#32 = _ := v_off2 i 1 0
    rw [hp1, e]; rfl
  have hvs : vs (k0_off2 i 1#32 2#32 0) = p1.vs := by
    have e : k0_off2 i 1#32 2#32 = _ := v_off2 i 1 1
    rw [hp1, e]; rfl
  have ek0 : k0_off28 i 0#32 = ![0, 1, 512 * (i 0).val + 0, 0] := k0_off28_eq i 0
  have ev0 : k0_off27 i 0#32 = ![96, 512 * (i 0).val + 0] := k0_off27_eq i 0
  have ek1 : k0_off28 i 128#32 = ![0, 1, 512 * (i 0).val + 128, 0] := k0_off28_eq i 1
  have ev1 : k0_off27 i 128#32 = ![96, 512 * (i 0).val + 128] := k0_off27_eq i 1
  have ek2 : k0_off28 i 256#32 = ![0, 1, 512 * (i 0).val + 256, 0] := k0_off28_eq i 2
  have ev2 : k0_off27 i 256#32 = ![96, 512 * (i 0).val + 256] := k0_off27_eq i 2
  have ek3 : k0_off28 i 384#32 = ![0, 1, 512 * (i 0).val + 384, 0] := k0_off28_eq i 3
  have ev3 : k0_off27 i 384#32 = ![96, 512 * (i 0).val + 384] := k0_off27_eq i 3
  have E := And.intro ek0 <| And.intro ek1 <| And.intro ek2 <| And.intro ek3 <| And.intro ev0 <| And.intro ev1 <| And.intro ev2 <| And.intro ev3 <| And.intro @v_off18 <| And.intro @v_off19 <| And.intro @v_off20 <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p1.Q))) $$ [H13]
  · istop; refine pv_of_read harg13 ?_
    delta v381 cst_201 v384 bodyZero.sl.H13_2_1
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p1.Ti))) $$ [H14]
  · istop; refine pv_of_read harg14 ?_
    delta cst_206 v396 r_15 r_16 bodyZero.sl.H14_1_1 v395
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p1 (Tl 0)))) $$ [H15]
  · istop; refine pv_of_read harg15 ?_
    delta bodyZero.sl.H15_1_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p1 s1 (Tl 0)))) $$ [H16]
  · istop; refine pv_of_read harg16 ?_
    delta bodyZero.sl.H16_1_1
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p1 s1 (Tl 0)))) $$ [H20]
  · istop; refine pv_of_read harg20 ?_
    refine read_store_mk2 _ _ _ (harg20.read_unread _) _ (288) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p1 s1 (by omega)]
    · intro j c hj hc' hn
      exact otT_out p1 s1 _ (by omega)
  ihave H12 : pv c arg12 (harg12.unread (mk2 (stA p1 s1 (Tl 0)))) $$ [H12]
  · istop; refine pv_of_read harg12 ?_
    rw [harg12.read_unread, stA_zero]
  ihave H11 : pv c arg11 (harg11.unread (mk2 (stB p1 s1 (Tl 0)))) $$ [H11]
  · istop; refine pv_of_read harg11 ?_
    rw [harg11.read_unread, stB_zero]
  sl_for (fun k _ => iprop(pv c arg6 (harg6.unread (mk4 fk)) ∗ pv c arg7 (harg7.unread (mk2 va)) ∗ pv c arg13 (harg13.unread (mk2 p1.Q)) ∗ pv c arg12 (harg12.unread (mk2 (stA p1 s1 (Tl k)))) ∗ pv c arg11 (harg11.unread (mk2 (stB p1 s1 (Tl k)))) ∗ pv c arg15 (harg15.unread (mk2 (mac p1 (Tl k)))) ∗ pv c arg16 (harg16.unread (mk2 (lac p1 s1 (Tl k)))) ∗ pv c arg20 (harg20.unread (mk2 (otT p1 s1 (Tl k)))))) $$ [H6 H7 H13 H12 H11 H15 H16 H20]
  · intro k acc
    have hk : k.val < (i 0).val - 1 := v_trips3 i ▸ k.isLt
    iintro ⟨H6, H7, H13, H12, H11, H15, H16, H20⟩
    sl_exec
    ihave H15 : pv c arg15 (harg15.unread (mk2 (mac p1 (Tl (k.val+1))))) $$ [H15]
    · istop; refine pv_of_read harg15 ?_
      refine read_whole_mk2 _ _ _ _ _ ?_
      intro r c
      have hr := r.isLt; have := c.isLt
      delta v1553_1 v1554_1 v1548_1 v1552_1 v1550_1 v1557_1 bodyZero.sl.cst_857_1
      unfold_payloads; pointwise [ra1, ra2, ra3, ra4, raw2]
      try simp only [E, Matrix.cons_val_zero, Matrix.cons_val_one, Matrix.cons_val, Nat.zero_add, Nat.add_zero, fold_dotp]
      refine mac_step p1 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p1 s1 (Tl (k.val+1))))) $$ [H16]
    · istop; refine pv_of_read harg16 ?_
      refine read_whole_mk2 _ _ _ _ _ ?_
      intro r c
      have hr := r.isLt; have := c.isLt
      delta r_20 v1574 r_17 v1568 v1564 v1577 r_18 v1573 v1569 v1565 v1570 r_19 v1566 v1572 v1567
      unfold_payloads; pointwise [ra1, ra2, ra3, ra4, raw2]
      try simp only [E, Matrix.cons_val_zero, Matrix.cons_val_one, Matrix.cons_val, Nat.zero_add, Nat.add_zero, fold_dotp]
      refine lac_step p1 s1 (64*k.val) (by simp only [Tl, Td] <;> omega) (by simp only [Tl, Td] <;> omega) _ ?_
      intro x; have hx := x.isLt
      exact ee_of p1 s1 (by omega) (by simp only [Tl, Td] <;> omega)
    ihave H12 : pv c arg12 (harg12.unread (mk2 (stA p1 s1 (Tl (k.val+1))))) $$ [H12]
    · istop; refine pv_of_read harg12 ?_
      refine read_store_mk2 _ _ _ (harg12.read_unread _) _ (512*k.val) (0) (v_off18 i k) _ ?_ ?_
      · intro r c
        have hr := r.isLt; have := c.isLt
        delta v1548_1 v1550_1 v1561 bodyZero.sl.cst_857_1
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p1 s1 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p1 s1 ?_
        simp only [Tl, Td] <;> omega
    ihave H11 : pv c arg11 (harg11.unread (mk2 (stB p1 s1 (Tl (k.val+1))))) $$ [H11]
    · istop; refine pv_of_read harg11 ?_
      refine read_store_mk2 _ _ _ (harg11.read_unread _) _ (512*k.val) (0) (v_off18 i k) _ ?_ ?_
      · intro r c
        have hr := r.isLt; have := c.isLt
        delta r_20 r_17 v1568 v1564 r_18 v1581 v1569 v1565 v1570 r_19 v1566 v1567
        unfold_payloads; pointwise [ra1, ra2, ra3, ra4, raw2]
        try simp only [E, Matrix.cons_val_zero, Matrix.cons_val_one, Matrix.cons_val, Nat.zero_add, Nat.add_zero, fold_dotp]
        exact (ee_of p1 s1 (by omega) (by simp only [Tl, Td] <;> omega)).trans (stB_lt p1 s1 (by simp only [Tl, Td] <;> omega)).symm
      · intro j c hj hc' hn
        refine stB_out p1 s1 ?_
        simp only [Tl, Td] <;> omega
    ihave H20 : pv c arg20 (harg20.unread (mk2 (otT p1 s1 (Tl (k.val+1))))) $$ [H20]
    · istop; refine pv_of_read harg20 ?_
      refine read_store_within_mk2 _ _ _ (harg20.read_unread _) _ _ (288) (0) rfl rfl _ _ ?_ ?_
      · intro r c
        have hr := r.isLt; have := c.isLt
        delta v1536_1 v1545_1 v1532_1 v1534_1 v1530_1 v1541_1 v1540_1 v1531_1 v1533_1 r_21 v1539_1 bodyZero.sl.cst_847_1
        unfold_payloads; pointwise [ra1, ra2, ra3, ra4, raw2]
        try simp only [E, Matrix.cons_val_zero, Matrix.cons_val_one, Matrix.cons_val, Nat.zero_add, Nat.add_zero, fold_dotp]
        refine ot_step p1 s1 (r := r.val) (by omega) r.isLt (512*k.val) (by simp only [Tl, Td] <;> omega) (by simp only [Tl, Td] <;> omega) _ ?_
        intro x; have hx := x.isLt
        exact ot_term p1 s1 (by omega) (by omega) (by simp only [Tl, Td] <;> omega)
      · intro j c hj hc' hn
        by_cases hrw : p1.row ≤ j ∧ j < p1.row + 96
        · simp only [otT, Tl, Td, if_pos hrw]
          first | (exfalso; omega) | (congr 2; omega)
        · rw [otT_out p1 s1 _ hrw, otT_out p1 s1 _ hrw]
    sl_step
    iframe
  · iframe
  iintro %acc
  iintro ⟨H6, H7, H13, H12, H11, H15, H16, H20⟩
  rw [v_trips3]
  rw [hTz]
  set_option sl_exec.maxSteps 25 in sl_exec
  ihave H15 : pv c arg15 (harg15.unread (mk2 (mac p1 (Td (i 0).val 1)))) $$ [H15]
  · istop; refine pv_of_read harg15 ?_
    refine read_whole_mk2 _ _ _ _ _ ?_
    intro r c
    have hr := r.isLt; have := c.isLt
    delta v467 v469 v470 v473 v471 v461 v466 v474 v464 v475 v463 cst_252 v478 r_22
    unfold_payloads; pointwise [ra1, ra2, ra3, ra4, raw2]
    try simp only [E, Matrix.cons_val_zero, Matrix.cons_val_one, Matrix.cons_val, Nat.zero_add, Nat.add_zero, fold_dotp]
    refine mac_step p1 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p1 s1 (Td (i 0).val 1)))) $$ [H16]
  · istop; refine pv_of_read harg16 ?_
    refine read_whole_mk2 _ _ _ _ _ ?_
    intro r c
    have hr := r.isLt; have := c.isLt
    delta v487 v485 v494 r_20 v489 v493 r_17 v495 v486 r_18 v498 v490 v491 r_19 v488
    unfold_payloads; pointwise [ra1, ra2, ra3, ra4, raw2]
    try simp only [E, Matrix.cons_val_zero, Matrix.cons_val_one, Matrix.cons_val, Nat.zero_add, Nat.add_zero, fold_dotp]
    refine lac_step p1 s1 (64*(i 0).val+0) (by simp only [Tl, Td] <;> omega) (by simp only [Tl, Td] <;> omega) _ ?_
    intro x; have hx := x.isLt
    exact ee_of p1 s1 (by omega) (by simp only [Tl, Td] <;> omega)
  ihave H12 : pv c arg12 (harg12.unread (mk2 (stA p1 s1 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v467 v469 v470 v471 v461 v466 v464 v463 cst_252 r_22 v482
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v487 v485 r_20 v489 r_17 v486 r_18 v490 v491 v502 r_19 v488
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 1)))) $$ [H20]
  · istop; refine pv_of_read harg20 ?_
    refine read_store_within_mk2 _ _ _ (harg20.read_unread _) _ _ (288) (0) rfl rfl _ _ ?_ ?_
    · intro r c
      have hr := r.isLt; have := c.isLt
      delta v458 v449 v445 v447 v443 cst_242 v453 v454 v444 v446 r_21 v452
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 22 in sl_exec
  ihave H15 : pv c arg15 (harg15.unread (mk2 (mac p1 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v530 cst_287 v527 v535 v531 v539 v533 r_23 v525 v528 v538 v537 v542 v534
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v563 v559 r_20 v549 v558 r_17 r_18 v555 v556 v550 v552 v551 v560 v554 r_19 v553
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+16) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta v530 cst_287 v527 v535 v531 v533 v525 v528 v546 v534
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta r_20 v549 v567 r_17 r_18 v555 v556 v550 v552 v551 v554 r_19 v553
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 2)))) $$ [H20]
  · istop; refine pv_of_read harg20 ?_
    refine read_store_within_mk2 _ _ _ (harg20.read_unread _) _ _ (288) (128) rfl rfl _ _ ?_ ?_
    · intro r c
      have hr := r.isLt; have := c.isLt
      delta v506 v518 v509 v508 v522 cst_277 v516 v511 v517 v510 v507 v513 r_21
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+128) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 24 in sl_exec
  ihave H15 : pv c arg15 (harg15.unread (mk2 (mac p1 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v601 v606 v602 v590 v598 cst_322 v593 v595 v592 v603 v596 v599
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 3)))) $$ [H16]
  · istop; refine pv_of_read harg16 ?_
    refine read_store_mk2 _ _ _ (harg16.read_unread _) _ (0) (256) (rfl) _ ?_ ?_
    · intro r c
      have hr := r.isLt; have := c.isLt
      delta v627 v622 v615 v623 v614 r_20 v613 r_17 r_18 v619 v616 v618 v620 r_19 v624 v617
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+32) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v590 v598 cst_322 v593 v610 v595 v592 v596 v599
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v615 v614 r_20 v613 r_17 r_18 v619 v616 v618 v631 v620 r_19 v617
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 3)))) $$ [H20]
  · istop; refine pv_of_read harg20 ?_
    refine read_store_within_mk2 _ _ _ (harg20.read_unread _) _ _ (288) (256) rfl rfl _ _ ?_ ?_
    · intro r c
      have hr := r.isLt; have := c.isLt
      delta v573 v581 v583 v576 cst_312 v578 v574 v575 v571 r_21 v582 v587 v572
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+256) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 24 in sl_exec
  ihave H15 : pv c arg15 (harg15.unread (mk2 (mac p1 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v656 v665 v654 v658 v660 v662 cst_357 v661
      unfold_payloads; pointwise [ra1, ra2, ra3, ra4, raw2]
      try simp only [E, Matrix.cons_val_zero, Matrix.cons_val_one, Matrix.cons_val, Nat.zero_add, Nat.add_zero, fold_dotp]
      refine mac_step p1 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p1 s1 (Td (i 0).val 4)))) $$ [H16]
  · istop; refine pv_of_read harg16 ?_
    refine read_store_mk2 _ _ _ (harg16.read_unread _) _ (0) (384) (rfl) _ ?_ ?_
    · intro r c
      have hr := r.isLt; have := c.isLt
      delta v677 v679 v683 r_20 v682 v681 r_17 v678 r_18 v676 v686 v674 v675 v673 r_19 v672
      unfold_payloads; pointwise [ra1, ra2, ra3, ra4, raw2]
      try simp only [E, Matrix.cons_val_zero, Matrix.cons_val_one, Matrix.cons_val, Nat.zero_add, Nat.add_zero, fold_dotp]
      refine lac_step p1 s1 (64*(i 0).val+48) (by simp only [Tl, Td] <;> omega) (by simp only [Tl, Td] <;> omega) _ ?_
      intro x; have hx := x.isLt
      exact ee_of p1 s1 (by omega) (by simp only [Tl, Td] <;> omega)
    · intro j c hj hc' hn
      unfold lac
      simp only [Tl, Td]
      congr 2; omega
  ihave H12 : pv c arg12 (harg12.unread (mk2 (stA p1 s1 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v656 v654 v669 v658 cst_357
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p1 s1 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p1 s1 ?_
      simp only [Tl, Td] <;> omega
  ihave H11 : pv c arg11 (harg11.unread (mk2 (stB p1 s1 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v677 v679 r_20 r_17 v678 r_18 v676 v674 v675 v673 r_19 v672
      unfold_payloads; pointwise [ra1, ra2, ra3, ra4, raw2]
      try simp only [E, Matrix.cons_val_zero, Matrix.cons_val_one, Matrix.cons_val, Nat.zero_add, Nat.add_zero, fold_dotp]
      exact (ee_of p1 s1 (by omega) (by simp only [Tl, Td] <;> omega)).trans (stB_lt p1 s1 (by simp only [Tl, Td] <;> omega)).symm
    · intro j c hj hc' hn
      refine stB_out p1 s1 ?_
      simp only [Tl, Td] <;> omega
  ihave H20 : pv c arg20 (harg20.unread (mk2 (otT p1 s1 (Td (i 0).val 4)))) $$ [H20]
  · istop; refine pv_of_read harg20 ?_
    refine read_store_within_mk2 _ _ _ (harg20.read_unread _) _ _ (288) (384) rfl rfl _ _ ?_ ?_
    · intro r c
      have hr := r.isLt; have := c.isLt
      delta cst_347 v646 v647 v637 v642 v645 v640 v636 v635 v639 v638 v651 r_21
      unfold_payloads; pointwise [ra1, ra2, ra3, ra4, raw2]
      try simp only [E, Matrix.cons_val_zero, Matrix.cons_val_one, Matrix.cons_val, Nat.zero_add, Nat.add_zero, fold_dotp]
      refine ot_step p1 s1 (r := r.val) (by omega) r.isLt (512*(i 0).val+384) (by simp only [Tl, Td] <;> omega) (by simp only [Tl, Td] <;> omega) _ ?_
      intro x; have hx := x.isLt
      exact ot_term p1 s1 (by omega) (by omega) (by simp only [Tl, Td] <;> omega)
    · intro j c hj hc' hn
      by_cases hrw : p1.row ≤ j ∧ j < p1.row + 96
      · simp only [otT, Tl, Td, if_pos hrw]
        first | (exfalso; omega) | (congr 2; omega)
      · rw [otT_out p1 s1 _ hrw, otT_out p1 s1 _ hrw]
  set_option sl_exec.maxSteps 17 in sl_exec
  ihave H20 : pv c arg20 (harg20.unread (mk2 (s2.ot))) $$ [H20]
  · istop; refine pv_of_read harg20 ?_
    refine read_store_mk2 _ _ _ (harg20.read_unread _) _ (288) (0) (rfl) _ ?_ ?_
    · intro r c
      have hr := r.isLt; have := c.isLt
      delta r_24
      unfold_payloads; pointwise [ra1, ra2, ra3, ra4, raw2]
      try simp only [E, Matrix.cons_val_zero, Matrix.cons_val_one, Matrix.cons_val, Nat.zero_add, Nat.add_zero, fold_dotp]
      rw [hs2]; simp only [step, hqi]
      rw [if_pos (by omega)]
    · intro j c hj hc' hn
      rw [hs2]; simp only [step]
      by_cases hrw : p1.row ≤ j ∧ j < p1.row + 96
      · exfalso; omega
      · rw [if_neg hrw, otT_out p1 s1 _ hrw]
  ihave H19 : pv c arg19 (harg19.unread (mk2 (s2.ps))) $$ [H19]
  · istop; refine pv_of_read harg19 ?_
    refine read_whole_mk2 _ _ _ _ _ ?_
    intro r c
    have hr := r.isLt; have := c.isLt
    delta v727 v726 v728 v739 v729 v735 r_26 v736 v725
    unfold_payloads; pointwise [ra1, ra2, ra3, ra4, raw2]
    try simp only [E, Matrix.cons_val_zero, Matrix.cons_val_one, Matrix.cons_val, Nat.zero_add, Nat.add_zero, fold_dotp]
    rw [hs2]; simp only [step, pscF, fieldF, nearF, lsum, hqi]
  ihave H18 : pv c arg18 (harg18.unread (mk2 (s2.r))) $$ [H18]
  · istop; refine pv_of_read harg18 ?_
    refine read_whole_mk2 _ _ _ _ _ ?_
    intro r c
    have hr := r.isLt; have := c.isLt
    delta v727 v726 v734 v742 v740 v730 r_26 v745 r_25 v731 v725 v733 v741
    unfold_payloads; pointwise [ra1, ra2, ra3, ra4, raw2]
    try simp only [E, Matrix.cons_val_zero, Matrix.cons_val_one, Matrix.cons_val, Nat.zero_add, Nat.add_zero, fold_dotp]
    rw [hs2]; simp only [step, rrF, fieldF, nearF, lsum, hqi]
  ihave H17 : pv c arg17 (harg17.unread (mk2 (s2.mx))) $$ [H17]
  · istop; refine pv_of_read harg17 ?_
    refine read_whole_mk2 _ _ _ _ _ ?_
    intro r c
    have hr := r.isLt; have := c.isLt
    delta v753 v748 v747 v749 v750
    unfold_payloads; pointwise [ra1, ra2, ra3, ra4, raw2]
    try simp only [E, Matrix.cons_val_zero, Matrix.cons_val_one, Matrix.cons_val, Nat.zero_add, Nat.add_zero, fold_dotp]
    rw [hs2]; simp only [step, mtop, hqi]
  ihave H11 : pv c arg11 (harg11.unread (mk2 (s2.A))) $$ [H11]
  · istop; refine pv_of_read harg11 ?_
    rw [harg11.read_unread, hs2]; simp only [step, hqi]
  ihave H12 : pv c arg12 (harg12.unread (mk2 (s2.B))) $$ [H12]
  · istop; refine pv_of_read harg12 ?_
    rw [harg12.read_unread, hs2]; simp only [step, hqi]
  clear E hqi hrow hK hV hQ hQ0 hTi hcb hvs ek0 ek1 ek2 ek3 ev0 ev1 ev2 ev3
  -- Head 2.
  obtain ⟨p2, hp2⟩ : ∃ p, p = hp (i 0).val (i 1).val 2 qs ks vs fq fk va vb fb := ⟨_, rfl⟩
  obtain ⟨s3, hs3⟩ : ∃ s, s = step p2 s2 := ⟨_, rfl⟩
  have hqi : p2.qi = (i 0).val := by rw [hp2]; rfl
  have hrow : p2.row = 0 := by rw [hp2]; rfl
  have hK : ∀ j d, fk 0 2 j d = p2.K j d := fun j d => by rw [hp2]; rfl
  have hV : ∀ d j, vb (d) j = p2.V d j := fun d j => by rw [hp2]; simp [hp]
  have hQ : ∀ d c, d < 96 → fq 0 (192 + d) c = p2.Q d c := fun d c hd => by rw [hp2]; simp [hp, hd]
  have hQ0 : ∀ d c, p2.Q (96 + d) c = 0 := fun d c => by rw [hp2]; simp [hp]
  have hTi : ∀ r c, fb 2 r c * Ideal.div 1 (qs (k0_off1 i 2#32 0) * ks (k0_off1 i 2#32 0)) = p2.Ti r c := fun r c => by
    have e : k0_off1 i 2#32 = _ := k0_off1_eq i 2
    rw [hp2, e]; rfl
  have hcb : qs (k0_off2 i 2#32 1#32 0) * ks (k0_off2 i 2#32 1#32 0) * Named.named (F := Ideal) (φ := .f32) κ "log2e" 1069066811#32 = p2.cb := by
    have e : k0_off2 i 2#32 1#32 = _ := v_off2 i 2 0
    rw [hp2, e]; rfl
  have hvs : vs (k0_off2 i 2#32 2#32 0) = p2.vs := by
    have e : k0_off2 i 2#32 2#32 = _ := v_off2 i 2 1
    rw [hp2, e]; rfl
  have ek0 : k0_off38 i 0#32 = ![0, 2, 512 * (i 0).val + 0, 0] := k0_off38_eq i 0
  have ev0 : k0_off13 i 0#32 = ![0, 512 * (i 0).val + 0] := k0_off13_eq i 0
  have ek1 : k0_off38 i 128#32 = ![0, 2, 512 * (i 0).val + 128, 0] := k0_off38_eq i 1
  have ev1 : k0_off13 i 128#32 = ![0, 512 * (i 0).val + 128] := k0_off13_eq i 1
  have ek2 : k0_off38 i 256#32 = ![0, 2, 512 * (i 0).val + 256, 0] := k0_off38_eq i 2
  have ev2 : k0_off13 i 256#32 = ![0, 512 * (i 0).val + 256] := k0_off13_eq i 2
  have ek3 : k0_off38 i 384#32 = ![0, 2, 512 * (i 0).val + 384, 0] := k0_off38_eq i 3
  have ev3 : k0_off13 i 384#32 = ![0, 512 * (i 0).val + 384] := k0_off13_eq i 3
  have E := And.intro ek0 <| And.intro ek1 <| And.intro ek2 <| And.intro ek3 <| And.intro ev0 <| And.intro ev1 <| And.intro ev2 <| And.intro ev3 <| And.intro @v_off29 <| And.intro @v_off30 <| And.intro @v_off31 <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p2.Q))) $$ [H13]
  · istop; refine pv_of_read harg13 ?_
    delta cst_426 bodyZero.sl.H13_2_2 v776 v779
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p2.Ti))) $$ [H14]
  · istop; refine pv_of_read harg14 ?_
    delta v790 bodyZero.sl.H14_1_2 v791 r_29 r_27 cst_431 r_28
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p2 (Tl 0)))) $$ [H15]
  · istop; refine pv_of_read harg15 ?_
    delta bodyZero.sl.H15_1_2
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p2 s2 (Tl 0)))) $$ [H16]
  · istop; refine pv_of_read harg16 ?_
    delta bodyZero.sl.H16_1_2
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p2 s2 (Tl 0)))) $$ [H20]
  · istop; refine pv_of_read harg20 ?_
    refine read_store_mk2 _ _ _ (harg20.read_unread _) _ (0) (0) (rfl) _ ?_ ?_
    · intro r c
      have hr := r.isLt; have := c.isLt
      unfold_payloads; pointwise [ra1, ra2, ra3, ra4, raw2]
      try simp only [E, Matrix.cons_val_zero, Matrix.cons_val_one, Matrix.cons_val, Nat.zero_add, Nat.add_zero, fold_dotp]
      rw [otT_zero_in p2 s2 (by omega)]
    · intro j c hj hc' hn
      exact otT_out p2 s2 _ (by omega)
  ihave H11 : pv c arg11 (harg11.unread (mk2 (stA p2 s2 (Tl 0)))) $$ [H11]
  · istop; refine pv_of_read harg11 ?_
    rw [harg11.read_unread, stA_zero]
  ihave H12 : pv c arg12 (harg12.unread (mk2 (stB p2 s2 (Tl 0)))) $$ [H12]
  · istop; refine pv_of_read harg12 ?_
    rw [harg12.read_unread, stB_zero]
  sl_for (fun k _ => iprop(pv c arg6 (harg6.unread (mk4 fk)) ∗ pv c arg8 (harg8.unread (mk2 vb)) ∗ pv c arg13 (harg13.unread (mk2 p2.Q)) ∗ pv c arg11 (harg11.unread (mk2 (stA p2 s2 (Tl k)))) ∗ pv c arg12 (harg12.unread (mk2 (stB p2 s2 (Tl k)))) ∗ pv c arg15 (harg15.unread (mk2 (mac p2 (Tl k)))) ∗ pv c arg16 (harg16.unread (mk2 (lac p2 s2 (Tl k)))) ∗ pv c arg20 (harg20.unread (mk2 (otT p2 s2 (Tl k)))))) $$ [H6 H8 H13 H11 H12 H15 H16 H20]
  · intro k acc
    have hk : k.val < (i 0).val - 1 := v_trips5 i ▸ k.isLt
    iintro ⟨H6, H8, H13, H11, H12, H15, H16, H20⟩
    sl_exec
    ihave H15 : pv c arg15 (harg15.unread (mk2 (mac p2 (Tl (k.val+1))))) $$ [H15]
    · istop; refine pv_of_read harg15 ?_
      refine read_whole_mk2 _ _ _ _ _ ?_
      intro r c
      have hr := r.isLt; have := c.isLt
      delta bodyZero.sl.cst_857_2 v1554_2 v1557_2 v1550_2 v1548_2 v1552_2 v1553_2
      unfold_payloads; pointwise [ra1, ra2, ra3, ra4, raw2]
      try simp only [E, Matrix.cons_val_zero, Matrix.cons_val_one, Matrix.cons_val, Nat.zero_add, Nat.add_zero, fold_dotp]
      refine mac_step p2 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p2 s2 (Tl (k.val+1))))) $$ [H16]
    · istop; refine pv_of_read harg16 ?_
      refine read_whole_mk2 _ _ _ _ _ ?_
      intro r c
      have hr := r.isLt; have := c.isLt
      delta r_30 r_33 v1568_1 v1574_1 v1565_1 v1566_1 v1577_1 v1573_1 v1570_1 v1564_1 r_31 v1567_1 v1572_1 r_32 v1569_1
      unfold_payloads; pointwise [ra1, ra2, ra3, ra4, raw2]
      try simp only [E, Matrix.cons_val_zero, Matrix.cons_val_one, Matrix.cons_val, Nat.zero_add, Nat.add_zero, fold_dotp]
      refine lac_step p2 s2 (64*k.val) (by simp only [Tl, Td] <;> omega) (by simp only [Tl, Td] <;> omega) _ ?_
      intro x; have hx := x.isLt
      exact ee_of p2 s2 (by omega) (by simp only [Tl, Td] <;> omega)
    ihave H11 : pv c arg11 (harg11.unread (mk2 (stA p2 s2 (Tl (k.val+1))))) $$ [H11]
    · istop; refine pv_of_read harg11 ?_
      refine read_store_mk2 _ _ _ (harg11.read_unread _) _ (512*k.val) (0) (v_off29 i k) _ ?_ ?_
      · intro r c
        have hr := r.isLt; have := c.isLt
        delta bodyZero.sl.cst_857_2 v1550_2 v1548_2 v1561_1
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p2 s2 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p2 s2 ?_
        simp only [Tl, Td] <;> omega
    ihave H12 : pv c arg12 (harg12.unread (mk2 (stB p2 s2 (Tl (k.val+1))))) $$ [H12]
    · istop; refine pv_of_read harg12 ?_
      refine read_store_mk2 _ _ _ (harg12.read_unread _) _ (512*k.val) (0) (v_off29 i k) _ ?_ ?_
      · intro r c
        have hr := r.isLt; have := c.isLt
        delta r_30 v1581_1 r_33 v1568_1 v1565_1 v1566_1 v1570_1 v1564_1 r_31 v1567_1 r_32 v1569_1
        unfold_payloads; pointwise [ra1, ra2, ra3, ra4, raw2]
        try simp only [E, Matrix.cons_val_zero, Matrix.cons_val_one, Matrix.cons_val, Nat.zero_add, Nat.add_zero, fold_dotp]
        exact (ee_of p2 s2 (by omega) (by simp only [Tl, Td] <;> omega)).trans (stB_lt p2 s2 (by simp only [Tl, Td] <;> omega)).symm
      · intro j c hj hc' hn
        refine stB_out p2 s2 ?_
        simp only [Tl, Td] <;> omega
    ihave H20 : pv c arg20 (harg20.unread (mk2 (otT p2 s2 (Tl (k.val+1))))) $$ [H20]
    · istop; refine pv_of_read harg20 ?_
      refine read_store_within_mk2 _ _ _ (harg20.read_unread _) _ _ (0) (0) rfl rfl _ _ ?_ ?_
      · intro r c
        have hr := r.isLt; have := c.isLt
        delta v1530_2 v1545_2 v1533_2 v1531_2 v1536_2 v1541_2 v1534_2 bodyZero.sl.cst_847_2 v1540_2 v1539_2 r_34 v1532_2
        unfold_payloads; pointwise [ra1, ra2, ra3, ra4, raw2]
        try simp only [E, Matrix.cons_val_zero, Matrix.cons_val_one, Matrix.cons_val, Nat.zero_add, Nat.add_zero, fold_dotp]
        refine ot_step p2 s2 (r := r.val) (by omega) r.isLt (512*k.val) (by simp only [Tl, Td] <;> omega) (by simp only [Tl, Td] <;> omega) _ ?_
        intro x; have hx := x.isLt
        exact ot_term p2 s2 (by omega) (by omega) (by simp only [Tl, Td] <;> omega)
      · intro j c hj hc' hn
        by_cases hrw : p2.row ≤ j ∧ j < p2.row + 96
        · simp only [otT, Tl, Td, if_pos hrw]
          first | (exfalso; omega) | (congr 2; omega)
        · rw [otT_out p2 s2 _ hrw, otT_out p2 s2 _ hrw]
    sl_step
    iframe
  · iframe
  iintro %acc
  iintro ⟨H6, H8, H13, H11, H12, H15, H16, H20⟩
  rw [v_trips5]
  rw [hTz]
  set_option sl_exec.maxSteps 23 in sl_exec
  ihave H15 : pv c arg15 (harg15.unread (mk2 (mac p2 (Td (i 0).val 1)))) $$ [H15]
  · istop; refine pv_of_read harg15 ?_
    refine read_whole_mk2 _ _ _ _ _ ?_
    intro r c
    have hr := r.isLt; have := c.isLt
    delta v864 v862 v868 v859 cst_479 v866 v873 v865 v869 v870 v861 v858 v856
    unfold_payloads; pointwise [ra1, ra2, ra3, ra4, raw2]
    try simp only [E, Matrix.cons_val_zero, Matrix.cons_val_one, Matrix.cons_val, Nat.zero_add, Nat.add_zero, fold_dotp]
    refine mac_step p2 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p2 s2 (Td (i 0).val 1)))) $$ [H16]
  · istop; refine pv_of_read harg16 ?_
    refine read_whole_mk2 _ _ _ _ _ ?_
    intro r c
    have hr := r.isLt; have := c.isLt
    delta r_30 r_33 v885 v889 v886 v893 v890 v888 v880 r_31 v883 r_32 v881 v882 v884
    unfold_payloads; pointwise [ra1, ra2, ra3, ra4, raw2]
    try simp only [E, Matrix.cons_val_zero, Matrix.cons_val_one, Matrix.cons_val, Nat.zero_add, Nat.add_zero, fold_dotp]
    refine lac_step p2 s2 (64*(i 0).val+0) (by simp only [Tl, Td] <;> omega) (by simp only [Tl, Td] <;> omega) _ ?_
    intro x; have hx := x.isLt
    exact ee_of p2 s2 (by omega) (by simp only [Tl, Td] <;> omega)
  ihave H11 : pv c arg11 (harg11.unread (mk2 (stA p2 s2 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta v864 v862 v859 cst_479 v866 v865 v877 v861 v858 v856
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta r_30 r_33 v885 v886 v897 v880 r_31 v883 r_32 v881 v882 v884
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 1)))) $$ [H20]
  · istop; refine pv_of_read harg20 ?_
    refine read_store_within_mk2 _ _ _ (harg20.read_unread _) _ _ (0) (0) rfl rfl _ _ ?_ ?_
    · intro r c
      have hr := r.isLt; have := c.isLt
      delta v849 cst_469 v847 v848 v842 v839 v838 r_34 v844 v841 v853 v840
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 2)))) $$ [H15]
  · istop; refine pv_of_read harg15 ?_
    refine read_store_mk2 _ _ _ (harg15.read_unread _) _ (0) (128) (rfl) _ ?_ ?_
    · intro r c
      have hr := r.isLt; have := c.isLt
      delta r_35 v926 v933 v923 v925 v922 cst_514 v937 v934 v928 v932 v929 v930 v920
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 2)))) $$ [H16]
  · istop; refine pv_of_read harg16 ?_
    refine read_store_mk2 _ _ _ (harg16.read_unread _) _ (0) (128) (rfl) _ ?_ ?_
    · intro r c
      have hr := r.isLt; have := c.isLt
      delta r_30 r_33 v947 v958 v954 v953 v944 v950 v951 v949 v955 r_31 v946 v945 r_32 v948
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+16) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v926 v923 v925 v922 cst_514 v928 v941 v929 v930 v920
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta r_30 r_33 v947 v944 v950 v951 v949 r_31 v946 v945 r_32 v948 v962
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 2)))) $$ [H20]
  · istop; refine pv_of_read harg20 ?_
    refine read_store_within_mk2 _ _ _ (harg20.read_unread _) _ _ (0) (128) rfl rfl _ _ ?_ ?_
    · intro r c
      have hr := r.isLt; have := c.isLt
      delta v906 v901 v917 v905 cst_504 v902 v913 v912 r_34 v904 v903 v908 v911
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+128) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v994 v996 cst_549 v990 v997 v985 v991 v987 v1001 v988 v998 v993
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 3)))) $$ [H16]
  · istop; refine pv_of_read harg16 ?_
    refine read_store_mk2 _ _ _ (harg16.read_unread _) _ (0) (256) (rfl) _ ?_ ?_
    · intro r c
      have hr := r.isLt; have := c.isLt
      delta r_30 r_36 v1009 r_33 v1022 v1015 v1010 v1018 v1013 v1012 v1014 v1017 v1019 r_31 v1008 r_32 v1011
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+32) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta v994 cst_549 v990 v985 v991 v987 v1005 v988 v993
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta r_30 r_36 v1009 r_33 v1026 v1015 v1010 v1013 v1012 v1014 r_31 v1008 r_32 v1011
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 3)))) $$ [H20]
  · istop; refine pv_of_read harg20 ?_
    refine read_store_within_mk2 _ _ _ (harg20.read_unread _) _ _ (0) (256) rfl rfl _ _ ?_ ?_
    · intro r c
      have hr := r.isLt; have := c.isLt
      delta cst_539 v978 v967 v973 v970 v971 v969 v982 r_34 v968 v976 v977 v966
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+256) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 24 in sl_exec
  ihave H15 : pv c arg15 (harg15.unread (mk2 (mac p2 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v1056 v1049 v1057 v1060 cst_584 v1051 v1055 v1053
      unfold_payloads; pointwise [ra1, ra2, ra3, ra4, raw2]
      try simp only [E, Matrix.cons_val_zero, Matrix.cons_val_one, Matrix.cons_val, Nat.zero_add, Nat.add_zero, fold_dotp]
      refine mac_step p2 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p2 s2 (Td (i 0).val 4)))) $$ [H16]
  · istop; refine pv_of_read harg16 ?_
    refine read_store_mk2 _ _ _ (harg16.read_unread _) _ (0) (384) (rfl) _ ?_ ?_
    · intro r c
      have hr := r.isLt; have := c.isLt
      delta r_30 r_33 v1077 v1076 v1078 v1070 v1067 v1074 v1072 v1068 v1081 v1073 r_31 v1069 r_32 v1071
      unfold_payloads; pointwise [ra1, ra2, ra3, ra4, raw2]
      try simp only [E, Matrix.cons_val_zero, Matrix.cons_val_one, Matrix.cons_val, Nat.zero_add, Nat.add_zero, fold_dotp]
      refine lac_step p2 s2 (64*(i 0).val+48) (by simp only [Tl, Td] <;> omega) (by simp only [Tl, Td] <;> omega) _ ?_
      intro x; have hx := x.isLt
      exact ee_of p2 s2 (by omega) (by simp only [Tl, Td] <;> omega)
    · intro j c hj hc' hn
      unfold lac
      simp only [Tl, Td]
      congr 2; omega
  ihave H11 : pv c arg11 (harg11.unread (mk2 (stA p2 s2 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta v1049 v1064 cst_584 v1051 v1053
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p2 s2 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p2 s2 ?_
      simp only [Tl, Td] <;> omega
  ihave H12 : pv c arg12 (harg12.unread (mk2 (stB p2 s2 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta r_30 r_33 v1070 v1067 v1074 v1072 v1068 v1073 r_31 v1069 r_32 v1071
      unfold_payloads; pointwise [ra1, ra2, ra3, ra4, raw2]
      try simp only [E, Matrix.cons_val_zero, Matrix.cons_val_one, Matrix.cons_val, Nat.zero_add, Nat.add_zero, fold_dotp]
      exact (ee_of p2 s2 (by omega) (by simp only [Tl, Td] <;> omega)).trans (stB_lt p2 s2 (by simp only [Tl, Td] <;> omega)).symm
    · intro j c hj hc' hn
      refine stB_out p2 s2 ?_
      simp only [Tl, Td] <;> omega
  ihave H20 : pv c arg20 (harg20.unread (mk2 (otT p2 s2 (Td (i 0).val 4)))) $$ [H20]
  · istop; refine pv_of_read harg20 ?_
    refine read_store_within_mk2 _ _ _ (harg20.read_unread _) _ _ (0) (384) rfl rfl _ _ ?_ ?_
    · intro r c
      have hr := r.isLt; have := c.isLt
      delta v1031 v1032 v1034 v1042 cst_574 v1030 v1037 v1046 v1033 r_34 v1035 v1041 v1040
      unfold_payloads; pointwise [ra1, ra2, ra3, ra4, raw2]
      try simp only [E, Matrix.cons_val_zero, Matrix.cons_val_one, Matrix.cons_val, Nat.zero_add, Nat.add_zero, fold_dotp]
      refine ot_step p2 s2 (r := r.val) (by omega) r.isLt (512*(i 0).val+384) (by simp only [Tl, Td] <;> omega) (by simp only [Tl, Td] <;> omega) _ ?_
      intro x; have hx := x.isLt
      exact ot_term p2 s2 (by omega) (by omega) (by simp only [Tl, Td] <;> omega)
    · intro j c hj hc' hn
      by_cases hrw : p2.row ≤ j ∧ j < p2.row + 96
      · simp only [otT, Tl, Td, if_pos hrw]
        first | (exfalso; omega) | (congr 2; omega)
      · rw [otT_out p2 s2 _ hrw, otT_out p2 s2 _ hrw]
  set_option sl_exec.maxSteps 17 in sl_exec
  ihave H20 : pv c arg20 (harg20.unread (mk2 (s3.ot))) $$ [H20]
  · istop; refine pv_of_read harg20 ?_
    refine read_store_mk2 _ _ _ (harg20.read_unread _) _ (0) (0) (rfl) _ ?_ ?_
    · intro r c
      have hr := r.isLt; have := c.isLt
      delta r_37
      unfold_payloads; pointwise [ra1, ra2, ra3, ra4, raw2]
      try simp only [E, Matrix.cons_val_zero, Matrix.cons_val_one, Matrix.cons_val, Nat.zero_add, Nat.add_zero, fold_dotp]
      rw [hs3]; simp only [step, hqi]
      rw [if_pos (by omega)]
    · intro j c hj hc' hn
      rw [hs3]; simp only [step]
      by_cases hrw : p2.row ≤ j ∧ j < p2.row + 96
      · exfalso; omega
      · rw [if_neg hrw, otT_out p2 s2 _ hrw]
  ihave H19 : pv c arg19 (harg19.unread (mk2 (s3.ps))) $$ [H19]
  · istop; refine pv_of_read harg19 ?_
    refine read_whole_mk2 _ _ _ _ _ ?_
    intro r c
    have hr := r.isLt; have := c.isLt
    delta v1123 v1122 v1124 r_39 v1130 v1131 v1134
    unfold_payloads; pointwise [ra1, ra2, ra3, ra4, raw2]
    try simp only [E, Matrix.cons_val_zero, Matrix.cons_val_one, Matrix.cons_val, Nat.zero_add, Nat.add_zero, fold_dotp]
    rw [hs3]; simp only [step, pscF, fieldF, nearF, lsum, hqi]
  ihave H18 : pv c arg18 (harg18.unread (mk2 (s3.r))) $$ [H18]
  · istop; refine pv_of_read harg18 ?_
    refine read_whole_mk2 _ _ _ _ _ ?_
    intro r c
    have hr := r.isLt; have := c.isLt
    delta v1140 v1122 v1128 v1137 r_39 v1125 v1136 v1129 v1135 v1126 r_38
    unfold_payloads; pointwise [ra1, ra2, ra3, ra4, raw2]
    try simp only [E, Matrix.cons_val_zero, Matrix.cons_val_one, Matrix.cons_val, Nat.zero_add, Nat.add_zero, fold_dotp]
    rw [hs3]; simp only [step, rrF, fieldF, nearF, lsum, hqi]
  ihave H17 : pv c arg17 (harg17.unread (mk2 (s3.mx))) $$ [H17]
  · istop; refine pv_of_read harg17 ?_
    refine read_whole_mk2 _ _ _ _ _ ?_
    intro r c
    have hr := r.isLt; have := c.isLt
    delta v1145 v1143 v1148 v1142 v1144
    unfold_payloads; pointwise [ra1, ra2, ra3, ra4, raw2]
    try simp only [E, Matrix.cons_val_zero, Matrix.cons_val_one, Matrix.cons_val, Nat.zero_add, Nat.add_zero, fold_dotp]
    rw [hs3]; simp only [step, mtop, hqi]
  ihave H12 : pv c arg12 (harg12.unread (mk2 (s3.A))) $$ [H12]
  · istop; refine pv_of_read harg12 ?_
    rw [harg12.read_unread, hs3]; simp only [step, hqi]
  ihave H11 : pv c arg11 (harg11.unread (mk2 (s3.B))) $$ [H11]
  · istop; refine pv_of_read harg11 ?_
    rw [harg11.read_unread, hs3]; simp only [step, hqi]
  clear E hqi hrow hK hV hQ hQ0 hTi hcb hvs ek0 ek1 ek2 ek3 ev0 ev1 ev2 ev3
  -- Head 3.
  obtain ⟨p3, hp3⟩ : ∃ p, p = hp (i 0).val (i 1).val 3 qs ks vs fq fk va vb fb := ⟨_, rfl⟩
  obtain ⟨s4, hs4⟩ : ∃ s, s = step p3 s3 := ⟨_, rfl⟩
  have hqi : p3.qi = (i 0).val := by rw [hp3]; rfl
  have hrow : p3.row = 96 := by rw [hp3]; rfl
  have hK : ∀ j d, fk 0 3 j d = p3.K j d := fun j d => by rw [hp3]; rfl
  have hV : ∀ d j, vb (96 + d) j = p3.V d j := fun d j => by rw [hp3]; simp [hp]
  have hQ : ∀ d c, d < 96 → fq 0 (288 + d) c = p3.Q d c := fun d c hd => by rw [hp3]; simp [hp, hd]
  have hQ0 : ∀ d c, p3.Q (96 + d) c = 0 := fun d c => by rw [hp3]; simp [hp]
  have hTi : ∀ r c, fb 3 r c * Ideal.div 1 (qs (k0_off1 i 3#32 0) * ks (k0_off1 i 3#32 0)) = p3.Ti r c := fun r c => by
    have e : k0_off1 i 3#32 = _ := k0_off1_eq i 3
    rw [hp3, e]; rfl
  have hcb : qs (k0_off2 i 3#32 1#32 0) * ks (k0_off2 i 3#32 1#32 0) * Named.named (F := Ideal) (φ := .f32) κ "log2e" 1069066811#32 = p3.cb := by
    have e : k0_off2 i 3#32 1#32 = _ := v_off2 i 3 0
    rw [hp3, e]; rfl
  have hvs : vs (k0_off2 i 3#32 2#32 0) = p3.vs := by
    have e : k0_off2 i 3#32 2#32 = _ := v_off2 i 3 1
    rw [hp3, e]; rfl
  have ek0 : k0_off48 i 0#32 = ![0, 3, 512 * (i 0).val + 0, 0] := k0_off48_eq i 0
  have ev0 : k0_off27 i 0#32 = ![96, 512 * (i 0).val + 0] := k0_off27_eq i 0
  have ek1 : k0_off48 i 128#32 = ![0, 3, 512 * (i 0).val + 128, 0] := k0_off48_eq i 1
  have ev1 : k0_off27 i 128#32 = ![96, 512 * (i 0).val + 128] := k0_off27_eq i 1
  have ek2 : k0_off48 i 256#32 = ![0, 3, 512 * (i 0).val + 256, 0] := k0_off48_eq i 2
  have ev2 : k0_off27 i 256#32 = ![96, 512 * (i 0).val + 256] := k0_off27_eq i 2
  have ek3 : k0_off48 i 384#32 = ![0, 3, 512 * (i 0).val + 384, 0] := k0_off48_eq i 3
  have ev3 : k0_off27 i 384#32 = ![96, 512 * (i 0).val + 384] := k0_off27_eq i 3
  have E := And.intro ek0 <| And.intro ek1 <| And.intro ek2 <| And.intro ek3 <| And.intro ev0 <| And.intro ev1 <| And.intro ev2 <| And.intro ev3 <| And.intro @v_off39 <| And.intro @v_off40 <| And.intro @v_off41 <| And.intro @k0_off12_eq <| And.intro @k0_off15_eq <| And.intro @k0_off16_eq <| And.intro @k0_off17_eq <| And.intro hK <| And.intro hV <| And.intro hTi <| And.intro hcb <| hvs
  sl_exec
  ihave H13 : pv c arg13 (harg13.unread (mk2 (p3.Q))) $$ [H13]
  · istop; refine pv_of_read harg13 ?_
    delta cst_637 v1153 bodyZero.sl.H13_2_3 v1156
    refine read_rows2_mk2 (n := 96) (m := 32) _ _ _ _ rfl _ _ ?_ ?_
    · intro r c
      unfold_payloads; pointwise [ra1, ra2, ra3, ra4, raw2]
      try simp only [E, Matrix.cons_val_zero, Matrix.cons_val_one, Matrix.cons_val, Nat.zero_add, Nat.add_zero, fold_dotp]
      exact hQ _ _ r.isLt
    · intro r c
      unfold_payloads; pointwise [ra1, ra2, ra3, ra4, raw2]
      try simp only [E, Matrix.cons_val_zero, Matrix.cons_val_one, Matrix.cons_val, Nat.zero_add, Nat.add_zero, fold_dotp]
      rw [hQ0]; exact zero_code
  ihave H14 : pv c arg14 (harg14.unread (mk2 (p3.Ti))) $$ [H14]
  · istop; refine pv_of_read harg14 ?_
    delta r_41 bodyZero.sl.H14_1_3 r_40
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    try exact hTi _ _
  ihave H15 : pv c arg15 (harg15.unread (mk2 (mac p3 (Tl 0)))) $$ [H15]
  · istop; refine pv_of_read harg15 ?_
    delta bodyZero.sl.H15_1_3
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [mac_zero]; exact ninf_bits
  ihave H16 : pv c arg16 (harg16.unread (mk2 (lac p3 s3 (Tl 0)))) $$ [H16]
  · istop; refine pv_of_read harg16 ?_
    delta bodyZero.sl.H16_1_3
    refine read_whole_mk2 _ _ _ _ _ ?_
    intro r c
    have hr := r.isLt; have := c.isLt
    unfold_payloads; pointwise [ra1, ra2, ra3, ra4, raw2]
    try simp only [E, Matrix.cons_val_zero, Matrix.cons_val_one, Matrix.cons_val, Nat.zero_add, Nat.add_zero, fold_dotp]
    rw [lac_zero]
  ihave H20 : pv c arg20 (harg20.unread (mk2 (otT p3 s3 (Tl 0)))) $$ [H20]
  · istop; refine pv_of_read harg20 ?_
    refine read_store_mk2 _ _ _ (harg20.read_unread _) _ (96) (0) (rfl) _ ?_ ?_
    · intro r c
      have hr := r.isLt; have := c.isLt
      delta cst_661
      unfold_payloads; pointwise [ra1, ra2, ra3, ra4, raw2]
      try simp only [E, Matrix.cons_val_zero, Matrix.cons_val_one, Matrix.cons_val, Nat.zero_add, Nat.add_zero, fold_dotp]
      rw [otT_zero_in p3 s3 (by omega)]
    · intro j c hj hc' hn
      exact otT_out p3 s3 _ (by omega)
  ihave H12 : pv c arg12 (harg12.unread (mk2 (stA p3 s3 (Tl 0)))) $$ [H12]
  · istop; refine pv_of_read harg12 ?_
    rw [harg12.read_unread, stA_zero]
  ihave H11 : pv c arg11 (harg11.unread (mk2 (stB p3 s3 (Tl 0)))) $$ [H11]
  · istop; refine pv_of_read harg11 ?_
    rw [harg11.read_unread, stB_zero]
  sl_for (fun k _ => iprop(pv c arg6 (harg6.unread (mk4 fk)) ∗ pv c arg8 (harg8.unread (mk2 vb)) ∗ pv c arg13 (harg13.unread (mk2 p3.Q)) ∗ pv c arg12 (harg12.unread (mk2 (stA p3 s3 (Tl k)))) ∗ pv c arg11 (harg11.unread (mk2 (stB p3 s3 (Tl k)))) ∗ pv c arg15 (harg15.unread (mk2 (mac p3 (Tl k)))) ∗ pv c arg16 (harg16.unread (mk2 (lac p3 s3 (Tl k)))) ∗ pv c arg20 (harg20.unread (mk2 (otT p3 s3 (Tl k)))))) $$ [H6 H8 H13 H12 H11 H15 H16 H20]
  · intro k acc
    have hk : k.val < (i 0).val - 1 := v_trips7 i ▸ k.isLt
    iintro ⟨H6, H8, H13, H12, H11, H15, H16, H20⟩
    sl_exec
    ihave H15 : pv c arg15 (harg15.unread (mk2 (mac p3 (Tl (k.val+1))))) $$ [H15]
    · istop; refine pv_of_read harg15 ?_
      refine read_whole_mk2 _ _ _ _ _ ?_
      intro r c
      have hr := r.isLt; have := c.isLt
      delta v1557_3 v1554_3 bodyZero.sl.cst_857_3 v1550_3 v1553_3 v1552_3 v1548_3
      unfold_payloads; pointwise [ra1, ra2, ra3, ra4, raw2]
      try simp only [E, Matrix.cons_val_zero, Matrix.cons_val_one, Matrix.cons_val, Nat.zero_add, Nat.add_zero, fold_dotp]
      refine mac_step p3 (64*k.val) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    ihave H16 : pv c arg16 (harg16.unread (mk2 (lac p3 s3 (Tl (k.val+1))))) $$ [H16]
    · istop; refine pv_of_read harg16 ?_
      refine read_whole_mk2 _ _ _ _ _ ?_
      intro r c
      have hr := r.isLt; have := c.isLt
      delta v1569_2 v1565_2 r_44 v1572_2 v1567_2 v1568_2 v1570_2 v1573_2 r_45 r_42 v1566_2 v1564_2 v1574_2 v1577_2 r_43
      unfold_payloads; pointwise [ra1, ra2, ra3, ra4, raw2]
      try simp only [E, Matrix.cons_val_zero, Matrix.cons_val_one, Matrix.cons_val, Nat.zero_add, Nat.add_zero, fold_dotp]
      refine lac_step p3 s3 (64*k.val) (by simp only [Tl, Td] <;> omega) (by simp only [Tl, Td] <;> omega) _ ?_
      intro x; have hx := x.isLt
      exact ee_of p3 s3 (by omega) (by simp only [Tl, Td] <;> omega)
    ihave H12 : pv c arg12 (harg12.unread (mk2 (stA p3 s3 (Tl (k.val+1))))) $$ [H12]
    · istop; refine pv_of_read harg12 ?_
      refine read_store_mk2 _ _ _ (harg12.read_unread _) _ (512*k.val) (0) (v_off39 i k) _ ?_ ?_
      · intro r c
        have hr := r.isLt; have := c.isLt
        delta bodyZero.sl.cst_857_3 v1550_3 v1561_2 v1548_3
        unfold_payloads; pointwise [ra1, ra2, ra3, ra4, raw2]
        try simp only [E, Matrix.cons_val_zero, Matrix.cons_val_one, Matrix.cons_val, Nat.zero_add, Nat.add_zero, fold_dotp]
        refine Eq.trans ?_ (stA_lt p3 s3 (by simp only [Tl, Td] <;> omega)).symm
        unfold sc
        split_ifs <;> first
          | exact dotp_congr _ (by omega) (by omega)
          | exact dotb_congr _ (by omega) (by omega) (by omega) (by omega)
          | (exfalso; omega)
      · intro j c hj hc' hn
        refine stA_out p3 s3 ?_
        simp only [Tl, Td] <;> omega
    ihave H11 : pv c arg11 (harg11.unread (mk2 (stB p3 s3 (Tl (k.val+1))))) $$ [H11]
    · istop; refine pv_of_read harg11 ?_
      refine read_store_mk2 _ _ _ (harg11.read_unread _) _ (512*k.val) (0) (v_off39 i k) _ ?_ ?_
      · intro r c
        have hr := r.isLt; have := c.isLt
        delta v1569_2 v1565_2 r_44 v1567_2 v1568_2 v1570_2 r_45 v1581_2 r_42 v1566_2 v1564_2 r_43
        unfold_payloads; pointwise [ra1, ra2, ra3, ra4, raw2]
        try simp only [E, Matrix.cons_val_zero, Matrix.cons_val_one, Matrix.cons_val, Nat.zero_add, Nat.add_zero, fold_dotp]
        exact (ee_of p3 s3 (by omega) (by simp only [Tl, Td] <;> omega)).trans (stB_lt p3 s3 (by simp only [Tl, Td] <;> omega)).symm
      · intro j c hj hc' hn
        refine stB_out p3 s3 ?_
        simp only [Tl, Td] <;> omega
    ihave H20 : pv c arg20 (harg20.unread (mk2 (otT p3 s3 (Tl (k.val+1))))) $$ [H20]
    · istop; refine pv_of_read harg20 ?_
      refine read_store_within_mk2 _ _ _ (harg20.read_unread _) _ _ (96) (0) rfl rfl _ _ ?_ ?_
      · intro r c
        have hr := r.isLt; have := c.isLt
        delta v1532_3 v1545_3 v1541_3 v1540_3 v1530_3 v1539_3 v1536_3 v1534_3 v1533_3 bodyZero.sl.cst_847_3 v1531_3
        unfold_payloads; pointwise [ra1, ra2, ra3, ra4, raw2]
        try simp only [E, Matrix.cons_val_zero, Matrix.cons_val_one, Matrix.cons_val, Nat.zero_add, Nat.add_zero, fold_dotp]
        refine ot_step p3 s3 (r := r.val) (by omega) r.isLt (512*k.val) (by simp only [Tl, Td] <;> omega) (by simp only [Tl, Td] <;> omega) _ ?_
        intro x; have hx := x.isLt
        exact ot_term p3 s3 (by omega) (by omega) (by simp only [Tl, Td] <;> omega)
      · intro j c hj hc' hn
        by_cases hrw : p3.row ≤ j ∧ j < p3.row + 96
        · simp only [otT, Tl, Td, if_pos hrw]
          first | (exfalso; omega) | (congr 2; omega)
        · rw [otT_out p3 s3 _ hrw, otT_out p3 s3 _ hrw]
    sl_step
    iframe
  · iframe
  iintro %acc
  iintro ⟨H6, H8, H13, H12, H11, H15, H16, H20⟩
  rw [v_trips7]
  rw [hTz]
  set_option sl_exec.maxSteps 25 in sl_exec
  ihave H15 : pv c arg15 (harg15.unread (mk2 (mac p3 (Td (i 0).val 1)))) $$ [H15]
  · istop; refine pv_of_read harg15 ?_
    refine read_whole_mk2 _ _ _ _ _ ?_
    intro r c
    have hr := r.isLt; have := c.isLt
    delta v1243 v1235 v1233 v1241 v1245 v1242 v1250 v1247 v1246 v1239 v1238 v1236 cst_689
    unfold_payloads; pointwise [ra1, ra2, ra3, ra4, raw2]
    try simp only [E, Matrix.cons_val_zero, Matrix.cons_val_one, Matrix.cons_val, Nat.zero_add, Nat.add_zero, fold_dotp]
    refine mac_step p3 (64*(i 0).val+0) (by simp only [Tl, Td] <;> omega) (by simp only [Tl, Td] <;> omega) _ ?_
    intro x; have hx := x.isLt; beta_reduce
    unfold sc
    split_ifs <;> first
      | exact dotp_congr _ (by omega) (by omega)
      | exact dotb_congr _ (by omega) (by omega) (by omega) (by omega)
      | (exfalso; omega)
  ihave H16 : pv c arg16 (harg16.unread (mk2 (lac p3 s3 (Td (i 0).val 1)))) $$ [H16]
  · istop; refine pv_of_read harg16 ?_
    refine read_whole_mk2 _ _ _ _ _ ?_
    intro r c
    have hr := r.isLt; have := c.isLt
    delta r_44 v1257 v1266 v1262 v1265 v1270 v1259 v1258 r_45 v1261 v1267 r_42 r_43 v1260 v1263
    unfold_payloads; pointwise [ra1, ra2, ra3, ra4, raw2]
    try simp only [E, Matrix.cons_val_zero, Matrix.cons_val_one, Matrix.cons_val, Nat.zero_add, Nat.add_zero, fold_dotp]
    refine lac_step p3 s3 (64*(i 0).val+0) (by simp only [Tl, Td] <;> omega) (by simp only [Tl, Td] <;> omega) _ ?_
    intro x; have hx := x.isLt
    exact ee_of p3 s3 (by omega) (by simp only [Tl, Td] <;> omega)
  ihave H12 : pv c arg12 (harg12.unread (mk2 (stA p3 s3 (Td (i 0).val 1)))) $$ [H12]
  · istop; refine pv_of_read harg12 ?_
    refine read_store_mk2 _ _ _ (harg12.read_unread _) _ (512*(i 0).val) (0) (k0_off12_eq i) _ ?_ ?_
    · intro r c
      have hr := r.isLt; have := c.isLt
      delta v1254 v1243 v1235 v1233 v1241 v1242 v1239 v1238 v1236 cst_689
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 1)))) $$ [H11]
  · istop; refine pv_of_read harg11 ?_
    refine read_store_mk2 _ _ _ (harg11.read_unread _) _ (512*(i 0).val) (0) (k0_off12_eq i) _ ?_ ?_
    · intro r c
      have hr := r.isLt; have := c.isLt
      delta r_44 v1257 v1262 v1259 v1258 r_45 v1261 r_42 v1274 r_43 v1260 v1263
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 1)))) $$ [H20]
  · istop; refine pv_of_read harg20 ?_
    refine read_store_within_mk2 _ _ _ (harg20.read_unread _) _ _ (96) (0) rfl rfl _ _ ?_ ?_
    · intro r c
      have hr := r.isLt; have := c.isLt
      delta v1221 v1224 v1217 v1225 v1216 v1230 cst_679 v1218 v1215 v1226 v1219
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 24 in sl_exec
  ihave H15 : pv c arg15 (harg15.unread (mk2 (mac p3 (Td (i 0).val 2)))) $$ [H15]
  · istop; refine pv_of_read harg15 ?_
    refine read_store_mk2 _ _ _ (harg15.read_unread _) _ (0) (128) (rfl) _ ?_ ?_
    · intro r c
      have hr := r.isLt; have := c.isLt
      delta v1299 v1309 v1310 v1314 v1297 v1306 v1302 v1303 v1307 cst_724 v1311 v1305 v1300
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+16) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 2)))) $$ [H16]
  · istop; refine pv_of_read harg16 ?_
    refine read_store_mk2 _ _ _ (harg16.read_unread _) _ (0) (128) (rfl) _ ?_ ?_
    · intro r c
      have hr := r.isLt; have := c.isLt
      delta v1321 r_44 v1332 v1324 v1323 v1330 v1328 v1327 v1331 v1322 v1326 r_45 r_42 v1335 v1325 r_43
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+16) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 2)))) $$ [H12]
  · istop; refine pv_of_read harg12 ?_
    refine read_store_mk2 _ _ _ (harg12.read_unread _) _ (512*(i 0).val+128) (128) (k0_off15_eq i) _ ?_ ?_
    · intro r c
      have hr := r.isLt; have := c.isLt
      delta v1299 v1318 v1297 v1306 v1302 v1303 v1307 cst_724 v1305 v1300
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 2)))) $$ [H11]
  · istop; refine pv_of_read harg11 ?_
    refine read_store_mk2 _ _ _ (harg11.read_unread _) _ (512*(i 0).val+128) (128) (k0_off15_eq i) _ ?_ ?_
    · intro r c
      have hr := r.isLt; have := c.isLt
      delta v1321 r_44 v1324 v1323 v1328 v1327 v1322 v1326 v1339 r_45 r_42 v1325 r_43
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 2)))) $$ [H20]
  · istop; refine pv_of_read harg20 ?_
    refine read_store_within_mk2 _ _ _ (harg20.read_unread _) _ _ (96) (128) rfl rfl _ _ ?_ ?_
    · intro r c
      have hr := r.isLt; have := c.isLt
      delta r_46 cst_714 v1281 v1294 v1282 v1290 v1283 v1279 v1280 v1289 v1288 v1285 v1278
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+128) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 22 in sl_exec
  ihave H15 : pv c arg15 (harg15.unread (mk2 (mac p3 (Td (i 0).val 3)))) $$ [H15]
  · istop; refine pv_of_read harg15 ?_
    refine read_store_mk2 _ _ _ (harg15.read_unread _) _ (0) (256) (rfl) _ ?_ ?_
    · intro r c
      have hr := r.isLt; have := c.isLt
      delta v1364 v1367 v1375 v1362 v1365 v1368 v1370 v1378 v1371 v1374 cst_759 v1373
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+32) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 3)))) $$ [H16]
  · istop; refine pv_of_read harg16 ?_
    refine read_store_mk2 _ _ _ (harg16.read_unread _) _ (0) (256) (rfl) _ ?_ ?_
    · intro r c
      have hr := r.isLt; have := c.isLt
      delta r_44 v1391 v1395 v1392 v1386 v1394 v1396 r_45 v1389 r_42 v1387 v1399 v1388 v1385 v1390 r_43
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+32) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 3)))) $$ [H12]
  · istop; refine pv_of_read harg12 ?_
    refine read_store_mk2 _ _ _ (harg12.read_unread _) _ (512*(i 0).val+256) (256) (k0_off16_eq i) _ ?_ ?_
    · intro r c
      have hr := r.isLt; have := c.isLt
      delta v1364 v1382 v1367 v1362 v1365 v1368 v1370 v1371 cst_759
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 3)))) $$ [H11]
  · istop; refine pv_of_read harg11 ?_
    refine read_store_mk2 _ _ _ (harg11.read_unread _) _ (512*(i 0).val+256) (256) (k0_off16_eq i) _ ?_ ?_
    · intro r c
      have hr := r.isLt; have := c.isLt
      delta r_44 v1391 v1392 v1386 r_45 v1389 r_42 v1387 v1403 v1388 v1385 v1390 r_43
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 3)))) $$ [H20]
  · istop; refine pv_of_read harg20 ?_
    refine read_store_within_mk2 _ _ _ (harg20.read_unread _) _ _ (96) (256) rfl rfl _ _ ?_ ?_
    · intro r c
      have hr := r.isLt; have := c.isLt
      delta r_46 v1353 v1346 v1355 v1354 v1344 v1347 v1359 v1345 v1350 v1343 v1348 cst_749
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+256) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 23 in sl_exec
  ihave H15 : pv c arg15 (harg15.unread (mk2 (mac p3 (Td (i 0).val 4)))) $$ [H15]
  · istop; refine pv_of_read harg15 ?_
    refine read_store_mk2 _ _ _ (harg15.read_unread _) _ (0) (384) (rfl) _ ?_ ?_
    · intro r c
      have hr := r.isLt; have := c.isLt
      delta v1428 v1434 v1426 v1437 v1432 v1433 v1430 cst_794
      unfold_payloads; pointwise [ra1, ra2, ra3, ra4, raw2]
      try simp only [E, Matrix.cons_val_zero, Matrix.cons_val_one, Matrix.cons_val, Nat.zero_add, Nat.add_zero, fold_dotp]
      refine mac_step p3 (64*(i 0).val+48) (by simp only [Tl, Td] <;> omega) (by simp only [Tl, Td] <;> omega) _ ?_
      intro x; have hx := x.isLt; beta_reduce
      unfold sc
      split_ifs <;> first
        | exact dotp_congr _ (by omega) (by omega)
        | exact dotb_congr _ (by omega) (by omega) (by omega) (by omega)
        | (exfalso; omega)
    · intro j c hj hc' hn
      unfold mac
      simp only [Tl, Td]
      congr 2; omega
  ihave H16 : pv c arg16 (harg16.unread (mk2 (lac p3 s3 (Td (i 0).val 4)))) $$ [H16]
  · istop; refine pv_of_read harg16 ?_
    refine read_store_mk2 _ _ _ (harg16.read_unread _) _ (0) (384) (rfl) _ ?_ ?_
    · intro r c
      have hr := r.isLt; have := c.isLt
      delta r_44 v1450 v1451 v1444 v1458 v1446 v1454 r_45 v1453 r_42 v1445 r_47 v1447 v1448 v1449 v1455 r_43
      unfold_payloads; pointwise [ra1, ra2, ra3, ra4, raw2]
      try simp only [E, Matrix.cons_val_zero, Matrix.cons_val_one, Matrix.cons_val, Nat.zero_add, Nat.add_zero, fold_dotp]
      refine lac_step p3 s3 (64*(i 0).val+48) (by simp only [Tl, Td] <;> omega) (by simp only [Tl, Td] <;> omega) _ ?_
      intro x; have hx := x.isLt
      exact ee_of p3 s3 (by omega) (by simp only [Tl, Td] <;> omega)
    · intro j c hj hc' hn
      unfold lac
      simp only [Tl, Td]
      congr 2; omega
  ihave H12 : pv c arg12 (harg12.unread (mk2 (stA p3 s3 (Td (i 0).val 4)))) $$ [H12]
  · istop; refine pv_of_read harg12 ?_
    refine read_store_mk2 _ _ _ (harg12.read_unread _) _ (512*(i 0).val+384) (384) (k0_off17_eq i) _ ?_ ?_
    · intro r c
      have hr := r.isLt; have := c.isLt
      delta v1441 v1428 v1426 v1430 cst_794
      unfold_payloads; pointwise [ra1, ra2, ra3, ra4, raw2]
      try simp only [E, Matrix.cons_val_zero, Matrix.cons_val_one, Matrix.cons_val, Nat.zero_add, Nat.add_zero, fold_dotp]
      refine Eq.trans ?_ (stA_lt p3 s3 (by simp only [Tl, Td] <;> omega)).symm
      unfold sc
      split_ifs <;> first
        | exact dotp_congr _ (by omega) (by omega)
        | exact dotb_congr _ (by omega) (by omega) (by omega) (by omega)
        | (exfalso; omega)
    · intro j c hj hc' hn
      refine stA_out p3 s3 ?_
      simp only [Tl, Td] <;> omega
  ihave H11 : pv c arg11 (harg11.unread (mk2 (stB p3 s3 (Td (i 0).val 4)))) $$ [H11]
  · istop; refine pv_of_read harg11 ?_
    refine read_store_mk2 _ _ _ (harg11.read_unread _) _ (512*(i 0).val+384) (384) (k0_off17_eq i) _ ?_ ?_
    · intro r c
      have hr := r.isLt; have := c.isLt
      delta r_44 v1450 v1451 v1462 v1444 v1446 r_45 r_42 v1445 r_47 v1447 v1448 v1449 r_43
      unfold_payloads; pointwise [ra1, ra2, ra3, ra4, raw2]
      try simp only [E, Matrix.cons_val_zero, Matrix.cons_val_one, Matrix.cons_val, Nat.zero_add, Nat.add_zero, fold_dotp]
      exact (ee_of p3 s3 (by omega) (by simp only [Tl, Td] <;> omega)).trans (stB_lt p3 s3 (by simp only [Tl, Td] <;> omega)).symm
    · intro j c hj hc' hn
      refine stB_out p3 s3 ?_
      simp only [Tl, Td] <;> omega
  ihave H20 : pv c arg20 (harg20.unread (mk2 (otT p3 s3 (Td (i 0).val 4)))) $$ [H20]
  · istop; refine pv_of_read harg20 ?_
    refine read_store_within_mk2 _ _ _ (harg20.read_unread _) _ _ (96) (384) rfl rfl _ _ ?_ ?_
    · intro r c
      have hr := r.isLt; have := c.isLt
      delta r_46 v1409 v1418 v1407 v1410 v1414 v1423 v1408 v1419 cst_784 v1411 v1417 v1412
      unfold_payloads; pointwise [ra1, ra2, ra3, ra4, raw2]
      try simp only [E, Matrix.cons_val_zero, Matrix.cons_val_one, Matrix.cons_val, Nat.zero_add, Nat.add_zero, fold_dotp]
      refine ot_step p3 s3 (r := r.val) (by omega) r.isLt (512*(i 0).val+384) (by simp only [Tl, Td] <;> omega) (by simp only [Tl, Td] <;> omega) _ ?_
      intro x; have hx := x.isLt
      exact ot_term p3 s3 (by omega) (by omega) (by simp only [Tl, Td] <;> omega)
    · intro j c hj hc' hn
      by_cases hrw : p3.row ≤ j ∧ j < p3.row + 96
      · simp only [otT, Tl, Td, if_pos hrw]
        first | (exfalso; omega) | (congr 2; omega)
      · rw [otT_out p3 s3 _ hrw, otT_out p3 s3 _ hrw]
  set_option sl_exec.maxSteps 19 in sl_exec
  ihave H20 : pv c arg20 (harg20.unread (mk2 (s4.ot))) $$ [H20]
  · istop; refine pv_of_read harg20 ?_
    refine read_store_mk2 _ _ _ (harg20.read_unread _) _ (96) (0) (rfl) _ ?_ ?_
    · intro r c
      have hr := r.isLt; have := c.isLt
      delta r_48 v1471 v1475 v1469 v1470 v1472
      unfold_payloads; pointwise [ra1, ra2, ra3, ra4, raw2]
      try simp only [E, Matrix.cons_val_zero, Matrix.cons_val_one, Matrix.cons_val, Nat.zero_add, Nat.add_zero, fold_dotp]
      rw [hs4]; simp only [step, hqi]
      rw [if_pos (by omega)]
    · intro j c hj hc' hn
      rw [hs4]; simp only [step]
      by_cases hrw : p3.row ≤ j ∧ j < p3.row + 96
      · exfalso; omega
      · rw [if_neg hrw, otT_out p3 s3 _ hrw]
  ihave H19 : pv c arg19 (harg19.unread (mk2 (s4.ps))) $$ [H19]
  · istop; refine pv_of_read harg19 ?_
    refine read_whole_mk2 _ _ _ _ _ ?_
    intro r c
    have hr := r.isLt; have := c.isLt
    delta v1480 v1482 cst_821 v1477 v1478 cst_822 v1483
    unfold_payloads; pointwise [ra1, ra2, ra3, ra4, raw2]
    try simp only [E, Matrix.cons_val_zero, Matrix.cons_val_one, Matrix.cons_val, Nat.zero_add, Nat.add_zero, fold_dotp]
    rw [hs4]; simp only [step, pscF, fieldF, nearF, lsum, hqi]
  ihave H18 : pv c arg18 (harg18.unread (mk2 (s4.r))) $$ [H18]
  · istop; refine pv_of_read harg18 ?_
    refine read_whole_mk2 _ _ _ _ _ ?_
    intro r c
    have hr := r.isLt; have := c.isLt
    delta v1480 v1482 cst_821 v1477 v1478 cst_822 v1483
    unfold_payloads; pointwise [ra1, ra2, ra3, ra4, raw2]
    try simp only [E, Matrix.cons_val_zero, Matrix.cons_val_one, Matrix.cons_val, Nat.zero_add, Nat.add_zero, fold_dotp]
    rw [hs4]; simp only [step, rrF, fieldF, nearF, lsum, hqi]
  ihave H17 : pv c arg17 (harg17.unread (mk2 (s4.mx))) $$ [H17]
  · istop; refine pv_of_read harg17 ?_
    refine read_whole_mk2 _ _ _ _ _ ?_
    intro r c
    have hr := r.isLt; have := c.isLt
    delta r_49
    unfold_payloads; pointwise [ra1, ra2, ra3, ra4, raw2]
    try simp only [E, Matrix.cons_val_zero, Matrix.cons_val_one, Matrix.cons_val, Nat.zero_add, Nat.add_zero, fold_dotp]
    rw [hs4]; simp only [step, mtop, hqi]
  ihave H11 : pv c arg11 (harg11.unread (mk2 (s4.A))) $$ [H11]
  · istop; refine pv_of_read harg11 ?_
    rw [harg11.read_unread, hs4]; simp only [step, hqi]
  ihave H12 : pv c arg12 (harg12.unread (mk2 (s4.B))) $$ [H12]
  · istop; refine pv_of_read harg12 ?_
    rw [harg12.read_unread, hs4]; simp only [step, hqi]
  clear E hqi hrow hK hV hQ hQ0 hTi hcb hvs ek0 ek1 ek2 ek3 ev0 ev1 ev2 ev3
  sl_exec
  ihave H10 : pv c arg10 (harg10.unread (mk3 fun _ x w => s2.ot w x)) $$ [H10]
  · istop; refine pv_of_read harg10 ?_
    first | delta bodyZero.sl.H10_3 | skip
    refine read_cols3_mk3 (a := 512) _ _ _ _ _ _ _ _ ?_ ?_ ?_
    · intro r c
      exact out_0 harg20 s2.ot r c
    · intro r c
      exact out_128 harg20 s2.ot r c
    · intro r c
      exact out_256 harg20 s2.ot r c
  sl_step
  subst hs4 hs3 hs2 hs1 hp3 hp2 hp1 hp0
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  iexact H20

end Cert.KernelIdeal.Hand

end
-- ==== Proof.ValueBody.lean ====
module

public import proofs.«01_k».proof.Proof.ValueBodyPos
public import proofs.«01_k».proof.Proof.ValueBodyZero

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- One run of the body, at any query block. -/
theorem bodyAny (c : Dev nD) (i : grid0.Coords) (arg2 : Memref sig .tc .smem S96 .f32) (harg2 : arg2.IsWhole) (arg3 : Memref sig .tc .smem S96 .f32) (harg3 : arg3.IsWhole) (arg4 : Memref sig .tc .smem S96 .f32) (harg4 : arg4.IsWhole) (arg5 : Memref sig .tc .vmem S1x384x512 .fp8e4m3) (harg5 : arg5.IsWhole) (arg6 : Memref sig .tc .vmem S1x4x8192x128 .fp8e4m3) (harg6 : arg6.IsWhole) (arg7 : Memref sig .tc .vmem S192x8192 .fp8e4m3) (harg7 : arg7.IsWhole) (arg8 : Memref sig .tc .vmem S192x8192 .fp8e4m3) (harg8 : arg8.IsWhole) (arg9 : Memref sig .tc .vmem S4x256x128 .f32) (harg9 : arg9.IsWhole) (arg10 : Memref sig .tc .vmem S1x512x384 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S128x512 .fp8e4m3) (harg13 : arg13.IsWhole) (arg14 : Memref sig .tc .vmem S256x128 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S8x512 .f32) (harg19 : arg19.IsWhole) (arg20 : Memref sig .tc .vmem S384x512 .f32) (harg20 : arg20.IsWhole)
    (qs ks vs : ℕ → EReal) (fq : ℕ → ℕ → ℕ → EReal) (fk : ℕ → ℕ → ℕ → ℕ → EReal) (va vb : ℕ → ℕ → EReal) (fb : ℕ → ℕ → ℕ → EReal) (s0 : HS)
    (Q : PUnit → sProp 𝕄) :
    iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ (∃ f, pv c arg10 f) ∗ pv c arg11 (harg11.unread (mk2 s0.A)) ∗ pv c arg12 (harg12.unread (mk2 s0.B)) ∗ (∃ f, pv c arg13 f) ∗ (∃ f, pv c arg14 f) ∗ (∃ f, pv c arg15 f) ∗ (∃ f, pv c arg16 f) ∗ pv c arg17 (harg17.unread (mk2 s0.mx)) ∗ pv c arg18 (harg18.unread (mk2 s0.r)) ∗ pv c arg19 (harg19.unread (mk2 s0.ps)) ∗ pv c arg20 (harg20.unread (mk2 s0.ot))
      ∗ (iprop(pv c arg2 (harg2.unread (mk1 qs)) ∗ pv c arg3 (harg3.unread (mk1 ks)) ∗ pv c arg4 (harg4.unread (mk1 vs)) ∗ pv c arg5 (harg5.unread (mk3 fq)) ∗ pv c arg6 (harg6.unread (mk4 fk)) ∗ pv c arg7 (harg7.unread (mk2 va)) ∗ pv c arg8 (harg8.unread (mk2 vb)) ∗ pv c arg9 (harg9.unread (mk3 fb)) ∗ pv c arg10 (harg10.unread (mk3 fun _ x w => (step (hp (i 0).val (i 1).val 1 qs ks vs fq fk va vb fb) (step (hp (i 0).val (i 1).val 0 qs ks vs fq fk va vb fb) s0)).ot w x)) ∗ pv c arg11 (harg11.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).A)) ∗ pv c arg12 (harg12.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).B)) ∗ (∃ f, pv c arg13 f) ∗ (∃ f, pv c arg14 f) ∗ (∃ f, pv c arg15 f) ∗ (∃ f, pv c arg16 f) ∗ pv c arg17 (harg17.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).mx)) ∗ pv c arg18 (harg18.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).r)) ∗ pv c arg19 (harg19.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ps)) ∗ pv c arg20 (harg20.unread (mk2 (step (hp (i 0).val (i 1).val 3 qs ks vs fq fk va vb fb) (step (hp (i 0).val (i 1).val 2 qs ks vs fq fk va vb fb) (step (hp (i 0).val (i 1).val 1 qs ks vs fq fk va vb fb) (step (hp (i 0).val (i 1).val 0 qs ks vs fq fk va vb fb) s0)))).ot))) -∗ Q ⟨⟩))
    ⊢ wp frame (wpE (defs₀ (F := Ideal)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  by_cases h : (i 0).val = 0
  · exact bodyZero c i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 qs ks vs fq fk va vb fb s0 Q
  · exact bodyPos c i (Nat.pos_of_ne_zero h) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 qs ks vs fq fk va vb fb s0 Q

end Cert.KernelIdeal.Hand

end
-- ==== Proof.ValuePipe.lean ====
module

public import proofs.«01_k».proof.Proof.KernelIdealFrame
public import proofs.«01_k».proof.Proof.ValueBlocks
public import proofs.«01_k».proof.Proof.ValueBody
public import Idealize.ShloMosaic.Lib.Pipeline.ValueKit
public import Idealize.ShloMosaic.Lib.Pipeline.ArrRel
public import Idealize.ShloMosaic.Lib.Pipeline.DatRel

@[expose] public section

set_option maxRecDepth 16384

noncomputable section

namespace Cert.KernelIdeal.Val

open Cert.KernelIdeal Cert.KernelIdeal.Gen
open Cert.KernelIdeal.Hand hiding frame dats run_main body_obligation
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

local notation "𝕄" => MT nD τ sig Unit (Elt Ideal) ℕ (UR sig nD τ) ℕ

/-! ## The run of the launch, its output block named at every point -/

variable (m : (ℓ : Loc nD τ sig) → Buf (Elt Ideal) ℓ) (ρ : Dev nD → PrngReg)

/-- The scratch buffers between grid points: after `4 * (n % 25)` head steps of query block `n / 25`. -/
def inv (c : Dev nD) (n : ℕ) : sProp 𝕄 :=
  iprop((∃ s : HS, ⌜∃ s0, s = iter (PP m c (n / 25)) s0 (4 * (n % 25))⌝ ∗ pv c (Memref.whole cc0_scratch0) ((Memref.isWhole_whole cc0_scratch0).unread (mk2 s.A)) ∗ pv c (Memref.whole cc0_scratch1) ((Memref.isWhole_whole cc0_scratch1).unread (mk2 s.B)) ∗ (∃ f, pv c (Memref.whole cc0_scratch2) f) ∗ (∃ f, pv c (Memref.whole cc0_scratch3) f) ∗ (∃ f, pv c (Memref.whole cc0_scratch4) f) ∗ (∃ f, pv c (Memref.whole cc0_scratch5) f) ∗ pv c (Memref.whole cc0_scratch6) ((Memref.isWhole_whole cc0_scratch6).unread (mk2 s.mx)) ∗ pv c (Memref.whole cc0_scratch7) ((Memref.isWhole_whole cc0_scratch7).unread (mk2 s.r)) ∗ pv c (Memref.whole cc0_scratch8) ((Memref.isWhole_whole cc0_scratch8).unread (mk2 s.ps)) ∗ pv c (Memref.whole cc0_scratch9) ((Memref.isWhole_whole cc0_scratch9).unread (mk2 s.ot))) ∗ ∃ r, prngReg c r)

/-- What the body leaves in the output block at point `t`: past the first point of a query block, the kernel's result there. -/
def Rl (c : Dev nD) : (w : Fin cfg0.W) → Fin cfg0.N → ((cfg0.win w).block.Idx → Elt Ideal (cfg0.win w).elt) → Prop
  | ⟨8, _⟩, t, X => ∀ y : S1x512x384.Idx, t.val % 25 ≠ 0 →
      (X y : EReal) = og m c ((t.val % 25 - 1) / 12) (512 * (t.val / 25) + (y 1).val) (384 * ((t.val % 25 - 1) % 12) + (y 2).val)
  | _, _, _ => True

/-- The proof data on core `c`: every input's block left in place, the output held to `Rl`, the scratch at `inv`. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ t := inv m c t.val
  q w := Pipeline.shareOf spec0 w
  owed _ := 0

theorem vA_eq (c : Dev nD) (w : Fin cfg0.W) : (vdats m 0 c).A w = V m c (Pipeline.arrRef spec0 w) := by dsimp only [vdats]
theorem vafter_0 (c : Dev nD) (t : Fin cfg0.N) : (vdats m 0 c).after 0 t = iblk m c 0 t := by dsimp only [vdats]
theorem vbefore_0 (c : Dev nD) (t : Fin cfg0.N) (d) : (vdats m 0 c).before 0 t d = iblk m c 0 t :=
  before0_0_of m _ (vA_eq m c 0) (vafter_0 m c) t d
theorem vafter_1 (c : Dev nD) (t : Fin cfg0.N) : (vdats m 0 c).after 1 t = iblk m c 1 t := by dsimp only [vdats]
theorem vbefore_1 (c : Dev nD) (t : Fin cfg0.N) (d) : (vdats m 0 c).before 1 t d = iblk m c 1 t :=
  before0_1_of m _ (vA_eq m c 1) (vafter_1 m c) t d
theorem vafter_2 (c : Dev nD) (t : Fin cfg0.N) : (vdats m 0 c).after 2 t = iblk m c 2 t := by dsimp only [vdats]
theorem vbefore_2 (c : Dev nD) (t : Fin cfg0.N) (d) : (vdats m 0 c).before 2 t d = iblk m c 2 t :=
  before0_2_of m _ (vA_eq m c 2) (vafter_2 m c) t d
theorem vafter_3 (c : Dev nD) (t : Fin cfg0.N) : (vdats m 0 c).after 3 t = iblk m c 3 t := by dsimp only [vdats]
theorem vbefore_3 (c : Dev nD) (t : Fin cfg0.N) (d) : (vdats m 0 c).before 3 t d = iblk m c 3 t :=
  before0_3_of m _ (vA_eq m c 3) (vafter_3 m c) t d
theorem vafter_4 (c : Dev nD) (t : Fin cfg0.N) : (vdats m 0 c).after 4 t = iblk m c 4 t := by dsimp only [vdats]
theorem vbefore_4 (c : Dev nD) (t : Fin cfg0.N) (d) : (vdats m 0 c).before 4 t d = iblk m c 4 t :=
  before0_4_of m _ (vA_eq m c 4) (vafter_4 m c) t d
theorem vafter_5 (c : Dev nD) (t : Fin cfg0.N) : (vdats m 0 c).after 5 t = iblk m c 5 t := by dsimp only [vdats]
theorem vbefore_5 (c : Dev nD) (t : Fin cfg0.N) (d) : (vdats m 0 c).before 5 t d = iblk m c 5 t :=
  before0_5_of m _ (vA_eq m c 5) (vafter_5 m c) t d
theorem vafter_6 (c : Dev nD) (t : Fin cfg0.N) : (vdats m 0 c).after 6 t = iblk m c 6 t := by dsimp only [vdats]
theorem vbefore_6 (c : Dev nD) (t : Fin cfg0.N) (d) : (vdats m 0 c).before 6 t d = iblk m c 6 t :=
  before0_6_of m _ (vA_eq m c 6) (vafter_6 m c) t d
theorem vafter_7 (c : Dev nD) (t : Fin cfg0.N) : (vdats m 0 c).after 7 t = iblk m c 7 t := by dsimp only [vdats]
theorem vbefore_7 (c : Dev nD) (t : Fin cfg0.N) (d) : (vdats m 0 c).before 7 t d = iblk m c 7 t :=
  before0_7_of m _ (vA_eq m c 7) (vafter_7 m c) t d

/-- What the body is called with at point `t`. -/
def vbodyPre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d))
    ∗ (∃ d, owns (c : Thread nD τ) (ms5 t) fullShare ((vdats m 0 c).before 5 t d))
    ∗ (∃ d, owns (c : Thread nD τ) (ms6 t) fullShare ((vdats m 0 c).before 6 t d))
    ∗ (∃ d, owns (c : Thread nD τ) (ms7 t) fullShare ((vdats m 0 c).before 7 t d))
    ∗ (∃ Y, ⌜((vdats m 0 c).toRRel forgets (Rl m c)).Finds 8 t Y⌝ ∗ owns (c : Thread nD τ) (ms8 t) fullShare Y))
/-- What it returns. -/
def vbodyPost (c : Dev nD) (t : Fin cfg0.N) : sProp 𝕄 :=
  iprop((vdats m 0 c).Φ t.succ ∗ (vdats m 0 c).owesAt () t.succ
    ∗ owns (c : Thread nD τ) (ms0 t) fullShare ((vdats m 0 c).after 0 t)
    ∗ owns (c : Thread nD τ) (ms1 t) fullShare ((vdats m 0 c).after 1 t)
    ∗ owns (c : Thread nD τ) (ms2 t) fullShare ((vdats m 0 c).after 2 t)
    ∗ owns (c : Thread nD τ) (ms3 t) fullShare ((vdats m 0 c).after 3 t)
    ∗ owns (c : Thread nD τ) (ms4 t) fullShare ((vdats m 0 c).after 4 t)
    ∗ owns (c : Thread nD τ) (ms5 t) fullShare ((vdats m 0 c).after 5 t)
    ∗ owns (c : Thread nD τ) (ms6 t) fullShare ((vdats m 0 c).after 6 t)
    ∗ owns (c : Thread nD τ) (ms7 t) fullShare ((vdats m 0 c).after 7 t)
    ∗ (∃ X, ⌜Rl m c 8 t X⌝ ∗ owns (c : Thread nD τ) (ms8 t) fullShare X))

/-- Four head steps are one grid point. -/
theorem iter_point (P : ℕ → HP) (s0 : HS) (k : ℕ) (p0 p1 p2 p3 : HP) (e0 : P k = p0) (e1 : P (k + 1) = p1) (e2 : P (k + 2) = p2) (e3 : P (k + 3) = p3) :
    step p3 (step p2 (step p1 (step p0 (iter P s0 k)))) = iter P s0 (k + 4) := by subst e0 e1 e2 e3; rfl

/-- What head `h` of the group at point `t` reads. -/
def hpt (c : Dev nD) (t : Fin cfg0.N) (h : ℕ) : HP := (hp (grid0.coords t 0).val (grid0.coords t 1).val h (gqs m c) (gks m c) (gvs m c)
      (fun a r x => gq m c (min (t.val % 25) 23 / 12 + a) (min (t.val % 25) 23 % 12 * 384 + r) (t.val / 25 * 512 + x))
      (fun a h j d => gk m c (min (t.val % 25) 23 / 12 + a) (min (t.val % 25) 23 % 12 * 4 + h) j d) (fun r j => gv m c ((2 * (t.val % 25) - 1) * 192 + r) j)
      (fun r j => gv m c (min (2 * (t.val % 25)) 47 * 192 + r) j) (fun h r x => gb m c (min (t.val % 25) 23 % 12 * 4 + h) r x))
theorem hpt_eq (c : Dev nD) (t : Fin cfg0.N) (h : ℕ) (hh : h < 4) : PP m c (t.val / 25) (4 * (t.val % 25) + h) = hpt m c t h := by
  unfold hpt; rw [co0, co1]; exact PP_eq m c _ _ h hh

/-- After the four steps of a point the scratch is as it is before the next one. -/
theorem inv_step (c : Dev nD) (t : Fin cfg0.N) (s : HS) (hs : ∃ s0, s = iter (PP m c (t.val / 25)) s0 (4 * (t.val % 25))) :
    ∃ s0, step (hpt m c t 3) (step (hpt m c t 2) (step (hpt m c t 1) (step (hpt m c t 0) s))) = iter (PP m c ((t.val + 1) / 25)) s0 (4 * ((t.val + 1) % 25)) := by
  obtain ⟨s0, rfl⟩ := hs
  by_cases hl : t.val % 25 = 24
  · rw [show (t.val + 1) % 25 = 0 by omega]; exact ⟨_, rfl⟩
  · refine ⟨s0, ?_⟩
    rw [iter_point _ s0 (4 * (t.val % 25)) _ _ _ _ (hpt_eq m c t 0 (by omega)) (hpt_eq m c t 1 (by omega)) (hpt_eq m c t 2 (by omega)) (hpt_eq m c t 3 (by omega)),
      show (t.val + 1) / 25 = t.val / 25 by omega, show 4 * ((t.val + 1) % 25) = 4 * (t.val % 25) + 4 by omega]

/-- The output block after the second step of a point. -/
theorem out_step (c : Dev nD) (t : Fin cfg0.N) (s : HS) (hs : ∃ s0, s = iter (PP m c (t.val / 25)) s0 (4 * (t.val % 25))) :
    Rl m c 8 t (mk3 fun _ x w => (step (hpt m c t 1) (step (hpt m c t 0) s)).ot w x) := by
  obtain ⟨s0, rfl⟩ := hs
  intro y h0
  show (step (hpt m c t 1) (step (hpt m c t 0) _)).ot (y 2).val (y 1).val = _
  rw [← hpt_eq m c t 0 (by omega), ← hpt_eq m c t 1 (by omega)]
  exact og_eq m c (t.val / 25) s0 (t.val % 25) (y 2).val (y 1).val h0 (Nat.mod_lt _ (by norm_num)) (y 2).isLt (y 1).isLt

set_option maxHeartbeats 4000000 in
/-- The body at the point, from the inputs' blocks and the scratch. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).Φ t.succ = inv m c (t.val + 1) from rfl,
    show (vdats m 0 c).owesAt () t.succ = (vdats m 0 c).owesAt () t.castSucc from rfl,
    show (vdats m 0 c).Φ t.castSucc = inv m c t.val from rfl]
  unfold inv
  unfold Dat.owesAt Pipeline.owesWithin
  rw [show (vdats m 0 c).owed t.castSucc = 0 from rfl]
  simp only [vbefore_0, vbefore_1, vbefore_2, vbefore_3, vbefore_4, vbefore_5, vbefore_6, vbefore_7, vafter_0, vafter_1, vafter_2, vafter_3, vafter_4, vafter_5, vafter_6, vafter_7]
  rw [owns_eq_pt c (ms0 t) (hs0 t), owns_eq_pt c (ms1 t) (hs1 t), owns_eq_pt c (ms2 t) (hs2 t), owns_eq_pt c (ms3 t) (hs3 t), owns_eq_pt c (ms4 t) (hs4 t), owns_eq_pt c (ms5 t) (hs5 t), owns_eq_pt c (ms6 t) (hs6 t), owns_eq_pt c (ms7 t) (hs7 t)]
  simp only [owns_eq_pt c (ms8 t) (hs8 t)]
  iintro ⟨⟨⟨%s, %hs, HS0, HS1, HS2, HS3, HS4, HS5, HS6, HS7, HS8, HS9⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, -, %f8, -, H8⟩⟩
  have e0 := (hs0 t).eq_unread (hf0.trans (iblk_0 m c t))
  subst e0
  have e1 := (hs1 t).eq_unread (hf1.trans (iblk_1 m c t))
  subst e1
  have e2 := (hs2 t).eq_unread (hf2.trans (iblk_2 m c t))
  subst e2
  have e3 := (hs3 t).eq_unread (hf3.trans (iblk_3 m c t))
  subst e3
  have e4 := (hs4 t).eq_unread (hf4.trans (iblk_4 m c t))
  subst e4
  have e5 := (hs5 t).eq_unread (hf5.trans (iblk_5 m c t))
  subst e5
  have e6 := (hs6 t).eq_unread (hf6.trans (iblk_6 m c t))
  subst e6
  have e7 := (hs7 t).eq_unread (hf7.trans (iblk_7 m c t))
  subst e7
  iapply (bodyAny c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (gqs m c) (gks m c) (gvs m c) (fun a r x => gq m c (min (t.val % 25) 23 / 12 + a) (min (t.val % 25) 23 % 12 * 384 + r) (t.val / 25 * 512 + x)) (fun a h j d => gk m c (min (t.val % 25) 23 / 12 + a) (min (t.val % 25) 23 % 12 * 4 + h) j d) (fun r j => gv m c ((2 * (t.val % 25) - 1) * 192 + r) j) (fun r j => gv m c (min (2 * (t.val % 25)) 47 * 192 + r) j) (fun h r x => gb m c (min (t.val % 25) 23 % 12 * 4 + h) r x) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · iexists _; isplitr
      · ipureintro; exact inv_step m c t s hs
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [HW]; · iexact HW
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  iexists (mk3 fun _ x w => (step (hpt m c t 1) (step (hpt m c t 0) s)).ot w x); isplitr
  · ipureintro; exact out_step m c t s hs
  iexists _; isplitr; swap; · iexact H8
  ipureintro; exact (hs8 t).read_unread _

theorem vbody_obligation (c : Dev nD) :
    BodyObligationRel (vdats m 0 c) (defs₀ (F := Ideal)) Variants.none () Set.univ forgets (Rl m c) := fun t => by
  rw [bigSep_W0, bigSep_W0, defs₀_row]
  exact triple_restated (vsound_body m c t) rfl .rfl fun _ => .rfl

end Cert.KernelIdeal.Val

end
-- ==== Proof.ValueRun.lean ====
module

public import proofs.«01_k».proof.Proof.ValuePipe

@[expose] public section

set_option maxRecDepth 16384

noncomputable section

namespace Cert.KernelIdeal.Val

open Cert.KernelIdeal Cert.KernelIdeal.Gen
open Cert.KernelIdeal.Hand hiding frame dats run_main body_obligation
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-- Any contents of a matrix buffer are the spelling of a function of two natural numbers. -/
theorem unread_any {sp : Space} {a b : ℕ} {M : Memref sig .tc sp ⟨2, ![a, b]⟩ .f32} (h : M.IsWhole) (f : M.view.ty.Contents (Elt Ideal)) :
    ∃ g : ℕ → ℕ → EReal, f = h.unread (mk2 g) :=
  ⟨un2 (M.view.read (Elt Ideal) f), by
    have e := h.eq_unread (f := f) (X := mk2 (un2 (M.view.read (Elt Ideal) f)))
      (mk2_un2 (α := EReal) (M.view.read (Elt Ideal) f)).symm
    exact e⟩

/-- The scratch at the launch, at any contents, meets the invariant. -/
theorem hin (c : Dev nD) : (Pipeline.ΦA spec0 c : sProp 𝕄) ⊢ inv m c 0 := by
  unfold Pipeline.ΦA inv
  rw [scopedRest0_eq]
  iintro ⟨⟨⟨%f0, H0⟩, ⟨%f1, H1⟩, H2, H3, H4, H5, ⟨%f6, H6⟩, ⟨%f7, H7⟩, ⟨%f8, H8⟩, ⟨%f9, H9⟩⟩, Hg⟩
  obtain ⟨g0, e0⟩ := unread_any (Memref.isWhole_whole cc0_scratch0) f0
  obtain ⟨g1, e1⟩ := unread_any (Memref.isWhole_whole cc0_scratch1) f1
  obtain ⟨g6, e6⟩ := unread_any (Memref.isWhole_whole cc0_scratch6) f6
  obtain ⟨g7, e7⟩ := unread_any (Memref.isWhole_whole cc0_scratch7) f7
  obtain ⟨g8, e8⟩ := unread_any (Memref.isWhole_whole cc0_scratch8) f8
  obtain ⟨g9, e9⟩ := unread_any (Memref.isWhole_whole cc0_scratch9) f9
  subst e0 e1 e6 e7 e8 e9
  isplitl [H0 H1 H2 H3 H4 H5 H6 H7 H8 H9]
  · iexists (⟨g0, g1, g6, g7, g8, g9⟩ : HS)
    isplitr
    · ipureintro; exact ⟨_, rfl⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- After the last grid point the invariant gives the scratch back. -/
theorem hout (c : Dev nD) (n : ℕ) : inv m c n ⊢ (Pipeline.ΦA spec0 c : sProp 𝕄) := by
  unfold Pipeline.ΦA inv
  rw [scopedRest0_eq]
  iintro ⟨⟨%s, -, H0, H1, H2, H3, H4, H5, H6, H7, H8, H9⟩, Hg⟩
  isplitl [H0 H1 H2 H3 H4 H5 H6 H7 H8 H9]
  · isplitl [H0]; · iexists _; iexact H0
    isplitl [H1]; · iexists _; iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  iexact Hg

set_option backward.isDefEq.respectTransparency.types false in
/-- The launch runs to the post of the proof data, the output held to `Rl`. -/
theorem run_main :
    θ_run defs (onTc (τ := τ) (main (F := Ideal))) (s₀ m ρ)
      (fun r => Pipeline.RDat.FramePost (cfgs 0) (fun c => (vdats m 0 c).toRRel forgets (Rl m c)) (V m) r ∧ r.2.sem = fun _ => 0) :=
  Pipeline.RDat.θ_run_frame_track_shared cfgs (0 : Fin 1) launch₀0 defs₀ Variants.none (fun c => (vdats m 0 c).toRRel forgets (Rl m c)) m ρ main
    (fun c => (vbody_obligation m c).toRRel) (fun _ _ _ => rfl) (fun _ _ => rfl) (V m) (hmain m Variants.none) (vA_eq m)
    (fun c => hin m c) (fun c => hout m c _) _ (fun _ h => h)

/-- The kernel's result array, element by element. -/
def result (c : Dev nD) : S2x8192x4608.Idx → EReal := fun i => og m c (i 0).val (i 1).val (i 2).val

set_option backward.isDefEq.respectTransparency.types false in
/-- The result array, when what each point leaves in its block is held to `Rl`. -/
theorem arr_eq (c : Dev nD) (d : Dat τ (Elt Ideal) Unit ℕ (UR sig nD τ) ℕ cfg0 c)
    (hR : ∀ t : Fin cfg0.N, (cfg0.win 8).flush t = true → Rl m c 8 t (d.after 8 t)) : d.arrAt 8 cfg0.N = result m c := by
  refine Dat.arrAt_eq_of_covers d 8 (result m c) (by decide +kernel) fun t hf y => ?_
  have hv := hR t hf y (flush8 t hf)
  refine Eq.trans ?_ (hv.trans ?_)
  · blk_simp
  · unfold result
    have e0 : (((cfg0.win 8).blk t).view.emb y 0).val = (t.val % 25 - 1) / 12 := by blk_simp [ei8]
    have e1 : (((cfg0.win 8).blk t).view.emb y 1).val = 512 * (t.val / 25) + (y 1).val := by blk_simp [ei8]; omega
    have e2 : (((cfg0.win 8).blk t).view.emb y 2).val = 384 * ((t.val % 25 - 1) % 12) + (y 2).val := by blk_simp [ei8]; omega
    exact (congr (congr (congrArg (og m c) e0) e1) e2).symm

/-- The kernel terminates without fault, its result is `result`, and its arguments end unchanged. -/
theorem run_value : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(by
      obtain ⟨after, hL, hA⟩ := Pipeline.RDat.FramePost.exists_exact h.1 c
      refine (hA 8).trans ?_
      exact arr_eq m c _ fun t hf => Dat.toRRel_leaves (vdats m 0 c) (fgt := forgets) (Rl := Rl m c) (w := 8) rfl (hL 8 t hf)), ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    (by
      have h7 := (h.1 c).1 7
      rw [Pipeline.RDat.ArrAt_in _ _ rfl] at h7
      exact h7.trans (V_main_arg6 m c))⟩) (run_main m ρ)

end Cert.KernelIdeal.Val

end
-- ==== Proof.ValueRef.lean ====
module

public import proofs.«01_k».proof.Proof.Gen.ReferenceIdeal.Frame
public import proofs.«01_k».proof.Proof.Gen.ReferenceIdeal.Skeleton
public import proofs.«01_k».proof.Proof.ValueRows
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Cert.KernelIdeal.Hand (rE rP rX rC rOut)

/-! The reference's one block at an index. -/

variable (x0 x1 x2 : Vec Ideal S96x8192x96 .fp8e4m3) (x3 x4 : Vec Ideal S96x1x1 .f32) (x5 : Vec Ideal S96x8192x8192 .f32)

/-- The scores of query `I` of head unit `u`. -/
def rs (u : Fin 96) (I : Fin 8192) (j : Fin 8192) : EReal :=
  (∑ d : Fin 96, x0 (ix3 u I d) * x1 (ix3 u j d)) * x3 (ix3 u 0 0) + x5 (ix3 u I j)

/-- The reference's weights at an index. -/
theorem pay2_at (u : Fin 96) (I j : Fin 8192) : k0_pay2 x0 x1 x3 x5 (ix3 u I j) = rP (rs x0 x1 x3 x5 u I) j := by
  unfold k0_pay2
  pointwise
  rfl

/-- A row's maximum. -/
theorem rowMax_at (P : FVec Ideal S96x8192x8192 .f32) (u : Fin 96) (I : Fin 8192) :
    shapeCast S96x8192x1 (multiReduction .maximumf [2] S96x8192 P 0xFF800000#32 reduces_S96x8192x8192_S96x8192 (.inl rfl) rfl) shapeCasts_S96x8192_S96x8192x1 (ix3 u I 0)
      = Finset.fold max (Ideal.ofBits FTy.f32 4286578688#32) (fun x => P (ix3 u I x)) Finset.univ := by
  pointwise

/-- The exponent of the weight scale, of the row maxima. -/
theorem expo_at (Q : FVec Ideal S96x8192x1 .f32) (u : Fin 96) (I : Fin 8192) :
    addf (floor (mulf (log (mulf Q (broadcast S96x8192x1 (Scalar.ofBits .f32 0x3B124925#32)))) (broadcast S96x8192x1 (Named.named κ "log2e" 0x3FB8AA3B#32))))
        (broadcast S96x8192x1 (Scalar.ofBits .f32 0x3F800000#32)) (ix3 u I 0)
      = Ideal.liftRound Int.floor (Ideal.log (Q (ix3 u I 0) * Ideal.ofBits FTy.f32 991054117#32)
        * Named.named (F := Ideal) (φ := .f32) Cert.ReferenceIdeal.κ "log2e" 1069066811#32) + 1 := by
  pointwise

/-- The weights over their scale. -/
theorem code_at (P : FVec Ideal S96x8192x8192 .f32) (Q : FVec Ideal S96x8192x1 .f32) (u : Fin 96) (I j : Fin 8192) :
    mulf P (broadcastTo S96x8192x8192 (exp2 (subf (broadcast S96x8192x1 (Scalar.ofBits .f32 0x00000000#32)) Q)) broadcasts_S96x8192x1_S96x8192x8192) (ix3 u I j)
      = P (ix3 u I j) * Ideal.exp2 (0 - Q (ix3 u I 0)) := by
  pointwise
  rfl

/-- The reference's exponent of the weight scale at an index. -/
theorem pay3_at (u : Fin 96) (I : Fin 8192) : k0_pay3 x0 x1 x3 x5 (ix3 u I 0) = rX (rs x0 x1 x3 x5 u I) := by
  refine (expo_at (shapeCast S96x8192x1 (multiReduction .maximumf [2] S96x8192 (k0_pay2 x0 x1 x3 x5) 0xFF800000#32 reduces_S96x8192x8192_S96x8192 (.inl rfl) rfl) shapeCasts_S96x8192_S96x8192x1) u I).trans ?_
  rw [rowMax_at, show (fun x => k0_pay2 x0 x1 x3 x5 (ix3 u I x)) = rP (rs x0 x1 x3 x5 u I) from funext fun j => pay2_at x0 x1 x3 x5 u I j]
  rfl

/-- The reference's weights over their scale at an index. -/
theorem pay5_at (u : Fin 96) (I j : Fin 8192) : k0_pay5 x0 x1 x3 x5 (ix3 u I j) = rP (rs x0 x1 x3 x5 u I) j * Ideal.exp2 (0 - rX (rs x0 x1 x3 x5 u I)) := by
  refine (code_at (k0_pay2 x0 x1 x3 x5) (k0_pay3 x0 x1 x3 x5) u I j).trans ?_
  rw [pay2_at, pay3_at]

/-- The last payload at an index, of the codes and the scales. -/
theorem pay1_at (v31 : FVec Ideal S96x8192x1 .f32) (v36 : FVec Ideal S96x8192x8192 .f32) (c19 : EReal) (v37 : FVec Ideal S96x8192x8192 .f32)
    (u : Fin 96) (I : Fin 8192) (d : Fin 96) (b : Fin 2) (W : Fin 4608) (hu : u.val = 48 * b.val + W.val / 96) (hd : d.val = W.val % 96) :
    k0_pay1 v31 v36 c19 v37 x2 x4 (ix3 b I W) =
      (∑ j, min c19 (max (v37 (ix3 u I j)) (v36 (ix3 u I j))) * x2 (ix3 u j d)) * (v31 (ix3 u I 0) * x4 (ix3 u 0 0)) := by
  unfold k0_pay1
  pointwise
  have eu : ∀ h, (⟨b.val * 48 + W.val / 96, h⟩ : Fin 96) = u := fun h => Fin.ext (by rw [hu]; simp only; omega)
  have ed : ∀ h, (⟨W.val % 96, h⟩ : Fin 96) = d := fun h => Fin.ext hd.symm
  simp only [eu, ed]

/-- A power of two at an index. -/
theorem exp2_at (Q : FVec Ideal S96x8192x1 .f32) (i : S96x8192x1.Idx) : exp2 Q i = Ideal.exp2 (Q i) := by
  pointwise
  rfl

/-- The reference's block at an index. -/
theorem out_at (u : Fin 96) (I : Fin 8192) (d : Fin 96) (b : Fin 2) (W : Fin 4608) (hu : u.val = 48 * b.val + W.val / 96) (hd : d.val = W.val % 96) :
    k0_pay1 (k0_pay4 x0 x1 x3 x5) (k0_pay5 x0 x1 x3 x5) (Scalar.ofBits .f32 0x43E00000#32) k0_pay6 x2 x4 (ix3 b I W) =
      (∑ j, rC (rs x0 x1 x3 x5 u I) j * x2 (ix3 u j d)) * (Ideal.exp2 (rX (rs x0 x1 x3 x5 u I)) * x4 (ix3 u 0 0)) := by
  have e4 : k0_pay4 x0 x1 x3 x5 (ix3 u I 0) = Ideal.exp2 (rX (rs x0 x1 x3 x5 u I)) :=
    (exp2_at (k0_pay3 x0 x1 x3 x5) (ix3 u I 0)).trans (congrArg Ideal.exp2 (pay3_at x0 x1 x3 x5 u I))
  refine (pay1_at x2 x4 _ _ _ _ u I d b W hu hd).trans ?_
  rw [e4]
  have ej : ∀ j, min (α := EReal) (Scalar.ofBits .f32 0x43E00000#32 : Ideal .f32) (max (α := EReal) (k0_pay6 (F := Ideal) (ix3 u I j)) (k0_pay5 x0 x1 x3 x5 (ix3 u I j))) = rC (rs x0 x1 x3 x5 u I) j :=
    fun j => by rw [pay5_at]; rfl
  exact congrArg (fun z : EReal => z * _) (Finset.sum_congr rfl fun j _ => congrArg (fun z : EReal => z * x2 (ix3 u j d)) (ej j))

end Cert.ReferenceIdeal.Val

end
-- ==== Proof.ValueRefRun.lean ====
module

public import proofs.«01_k».proof.Proof.ValueRef
public import proofs.«01_k».proof.Proof.Gen.ReferenceIdeal.Frame

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! The reference's one block is its arrays. -/

theorem ei0 : ∀ t : Fin cfg0.N, win0_0.index t = ![0, 0, 0] := (by decide +kernel : ∀ t : Fin grid0.N, win0_0.index t = ![0, 0, 0])
theorem ei1 : ∀ t : Fin cfg0.N, win0_1.index t = ![0, 0, 0] := (by decide +kernel : ∀ t : Fin grid0.N, win0_1.index t = ![0, 0, 0])
theorem ei2 : ∀ t : Fin cfg0.N, win0_2.index t = ![0, 0, 0] := (by decide +kernel : ∀ t : Fin grid0.N, win0_2.index t = ![0, 0, 0])
theorem ei3 : ∀ t : Fin cfg0.N, win0_3.index t = ![0, 0, 0] := (by decide +kernel : ∀ t : Fin grid0.N, win0_3.index t = ![0, 0, 0])
theorem ei4 : ∀ t : Fin cfg0.N, win0_4.index t = ![0, 0, 0] := (by decide +kernel : ∀ t : Fin grid0.N, win0_4.index t = ![0, 0, 0])
theorem ei5 : ∀ t : Fin cfg0.N, win0_5.index t = ![0, 0, 0] := (by decide +kernel : ∀ t : Fin grid0.N, win0_5.index t = ![0, 0, 0])
theorem ei6 : ∀ t : Fin cfg0.N, win0_6.index t = ![0, 0, 0] := (by decide +kernel : ∀ t : Fin grid0.N, win0_6.index t = ![0, 0, 0])

/-- Two triples of coordinates with the same values are the same. -/
theorem ext3 {a b c : ℕ} (x y : (⟨3, ![a, b, c]⟩ : Shape).Idx) (h0 : (x 0).val = (y 0).val) (h1 : (x 1).val = (y 1).val) (h2 : (x 2).val = (y 2).val) : x = y := by
  funext k
  match k with
  | 0 => exact Fin.ext h0
  | 1 => exact Fin.ext h1
  | 2 => exact Fin.ext h2

/-- A rank-3 array at coordinates with the same values. -/
theorem at3 {a b c : ℕ} (X : (⟨3, ![a, b, c]⟩ : Shape).Idx → EReal) (x y : (⟨3, ![a, b, c]⟩ : Shape).Idx) (h0 : (x 0).val = (y 0).val) (h1 : (x 1).val = (y 1).val)
    (h2 : (x 2).val = (y 2).val) : X x = X y :=
  congrArg X (ext3 x y h0 h1 h2)

theorem iblk_0 (c : Dev nD) (t : Fin cfg0.N) : iblk m c 0 t = V m c main_v1 := by
  funext y; refine Eq.trans ?_ (at3 (a := 96) (b := 8192) (c := 96) (V m c main_v1) ((win0_0.blk t).view.emb y) y ?_ ?_ ?_)
  · blk_simp [iblk]
  all_goals blk_simp [ei0]
theorem iblk_1 (c : Dev nD) (t : Fin cfg0.N) : iblk m c 1 t = V m c main_v3 := by
  funext y; refine Eq.trans ?_ (at3 (a := 96) (b := 8192) (c := 96) (V m c main_v3) ((win0_1.blk t).view.emb y) y ?_ ?_ ?_)
  · blk_simp [iblk]
  all_goals blk_simp [ei1]
theorem iblk_2 (c : Dev nD) (t : Fin cfg0.N) : iblk m c 2 t = V m c main_v5 := by
  funext y; refine Eq.trans ?_ (at3 (a := 96) (b := 8192) (c := 96) (V m c main_v5) ((win0_2.blk t).view.emb y) y ?_ ?_ ?_)
  · blk_simp [iblk]
  all_goals blk_simp [ei2]
theorem iblk_3 (c : Dev nD) (t : Fin cfg0.N) : iblk m c 3 t = V m c main_v7 := by
  funext y; refine Eq.trans ?_ (at3 (a := 96) (b := 1) (c := 1) (V m c main_v7) ((win0_3.blk t).view.emb y) y ?_ ?_ ?_)
  · blk_simp [iblk]
  all_goals blk_simp [ei3]
theorem iblk_4 (c : Dev nD) (t : Fin cfg0.N) : iblk m c 4 t = V m c main_v36 := by
  funext y; refine Eq.trans ?_ (at3 (a := 96) (b := 1) (c := 1) (V m c main_v36) ((win0_4.blk t).view.emb y) y ?_ ?_ ?_)
  · blk_simp [iblk]
  all_goals blk_simp [ei4]
theorem iblk_5 (c : Dev nD) (t : Fin cfg0.N) : iblk m c 5 t = V m c main_v35 := by
  unfold iblk
  generalize V m c = X
  funext y; refine Eq.trans ?_ (at3 (a := 96) (b := 8192) (c := 8192) (X main_v35) ((win0_5.blk t).view.emb y) y ?_ ?_ ?_)
  · rw [View.read_apply]; exact eq_of_heq ((cast_heq _ _).trans HEq.rfl)
  all_goals blk_simp [ei5]

/-- The reference's result array, by the arrays it is handed. -/
def refArr (c : Dev nD) : S2x8192x4608.Idx → EReal :=
  k0_pay1 (F := Ideal) (k0_pay4 (V m c main_v1) (V m c main_v3) (V m c main_v7) (V m c main_v35)) (k0_pay5 (V m c main_v1) (V m c main_v3) (V m c main_v7) (V m c main_v35))
    (Scalar.ofBits .f32 0x43E00000#32) k0_pay6 (V m c main_v5) (V m c main_v36)

/-- What the reference's one point leaves is `refArr`. -/
theorem out_eq (c : Dev nD) (t : Fin cfg0.N) : out0_6 (iblk m c 0 t) (iblk m c 1 t) (iblk m c 2 t) (iblk m c 3 t) (iblk m c 4 t) (iblk m c 5 t) = refArr m c := by
  rw [iblk_0, iblk_1, iblk_2, iblk_3, iblk_4, iblk_5]
  have hz : (![0, 0, 0] : Fin 3 → ℕ) = fun _ => 0 := by decide
  unfold out0_6 refArr
  rw [View.canon_unit_zero hz, View.ld_unit_zero hz, View.ld_unit_zero hz, View.ld_unit_zero hz, View.ld_unit_zero hz, View.ld_unit_zero hz, View.ld_unit_zero hz]

/-- The reference's result after its run. -/
theorem arr_eq (c : Dev nD) : (dats m 0 c).arrAt 6 cfg0.N = refArr m c := by
  refine (dats m 0 c).arrAt_eq_of_covers 6 (refArr m c) (by decide +kernel) fun t hf y => ?_
  have e : ((cfg0.win 6).blk t).view.emb y = y := ext3 (a := 2) (b := 8192) (c := 4608) _ _ (by blk_simp [ei6]) (by blk_simp [ei6]) (by blk_simp [ei6])
  refine Eq.trans (b := (dats m 0 c).after 6 t y) (by blk_simp) ?_
  rw [after0_6, out_eq]
  exact (congrArg (refArr m c) e).symm

/-- The reference terminates without fault, its result is `refArr`, and its arguments end unchanged. -/
theorem run_value : θ_run defs (onTc (τ := τ) (main (F := Ideal))) ⟨m, fun _ => 0, ρ⟩ (fun r => ∀ c : Dev nD,
      r.2.mem ((c.tc : Thread nD τ).loc main_v37) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (arr_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.ReferenceIdeal.Val

end
-- ==== Proof.ValueHost.lean ====
module

public import proofs.«01_k».proof.Proof.ValueBlocks
public import proofs.«01_k».proof.Proof.Gen.ReferenceIdeal.Frame
public import Idealize.ShloMosaic.Lib.Pointwise
public import Idealize.ShloMosaic.Lib.StableHlo.ReadAt

@[expose] public section

set_option maxRecDepth 16384

noncomputable section

/-! ## The arrays the kernel is handed, by the arguments -/

namespace Cert.KernelIdeal.Val

open Cert.KernelIdeal Cert.KernelIdeal.Gen
open Cert.KernelIdeal.Hand hiding frame dats run_main body_obligation
open Idealize.ShloMosaic Idealize.ShloMosaic.TcCoe Idealize.ShloMosaic.Tactic
open Idealize.ShloMosaic.StableHlo

variable (m : (ℓ : Loc nD τ sig) → Buf (Elt Ideal) ℓ) (c : Dev nD)

/-- The queries: heads and head lanes joined, positions last. -/
theorem q_at (b : Fin 2) (r : Fin 4608) (i : Fin 8192) :
    V m c main_v1 (ix3 b r i) = m ((c : Thread nD τ).loc main_arg0) (ix4 b i (⟨r.val / 96, by omega⟩ : Fin 48) (⟨r.val % 96, by omega⟩ : Fin 96)) := by
  after_reads_at

/-- The keys, padded with zero lanes. -/
theorem k_at (b : Fin 2) (H : Fin 48) (j : Fin 8192) (d : Fin 128) (h : d.val < 96) :
    V m c main_v6 (ix4 b H j d) = m ((c : Thread nD τ).loc main_arg1) (ix4 b j H (⟨d.val, h⟩ : Fin 96)) := by
  after_reads_at
  rw [dif_pos h]

/-- The values: batches, heads and head lanes joined, positions last. -/
theorem v_at (r : Fin 9216) (j : Fin 8192) :
    V m c main_v3 (ix2 r j) = m ((c : Thread nD τ).loc main_arg2) (ix4 (⟨r.val / 4608, by omega⟩ : Fin 2) j (⟨r.val / 96 % 48, by omega⟩ : Fin 48) (⟨r.val % 96, by omega⟩ : Fin 96)) := by
  after_reads_at

/-- The query scales. -/
theorem qs_at (u : Fin 96) :
    V m c main_v7 (ix1 u) = m ((c : Thread nD τ).loc main_arg3) (ix2 (⟨u.val / 48, by omega⟩ : Fin 2) (⟨u.val % 48, by omega⟩ : Fin 48)) := by
  after_reads_at

/-- The key scales. -/
theorem ks_at (u : Fin 96) :
    V m c main_v8 (ix1 u) = m ((c : Thread nD τ).loc main_arg4) (ix2 (⟨u.val / 48, by omega⟩ : Fin 2) (⟨u.val % 48, by omega⟩ : Fin 48)) := by
  after_reads_at

/-- The value scales. -/
theorem vs_at (u : Fin 96) :
    V m c main_v9 (ix1 u) = m ((c : Thread nD τ).loc main_arg5) (ix2 (⟨u.val / 48, by omega⟩ : Fin 2) (⟨u.val % 48, by omega⟩ : Fin 48)) := by
  after_reads_at

end Cert.KernelIdeal.Val

/-! ## The arrays the reference is handed, by the arguments -/

namespace Cert.ReferenceIdeal.Val

open Cert.ReferenceIdeal Cert.ReferenceIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-- The queries by head unit. -/
theorem q_at (u : Fin 96) (i : Fin 8192) (d : Fin 96) :
    V m c main_v1 (ix3 u i d) = m ((c : Thread nD τ).loc main_arg0) (ix4 (⟨u.val / 48, by omega⟩ : Fin 2) i (⟨u.val % 48, by omega⟩ : Fin 48) d) := by
  after_reads_at

/-- The keys by head unit. -/
theorem k_at (u : Fin 96) (i : Fin 8192) (d : Fin 96) :
    V m c main_v3 (ix3 u i d) = m ((c : Thread nD τ).loc main_arg1) (ix4 (⟨u.val / 48, by omega⟩ : Fin 2) i (⟨u.val % 48, by omega⟩ : Fin 48) d) := by
  after_reads_at

/-- The values by head unit. -/
theorem v_at (u : Fin 96) (i : Fin 8192) (d : Fin 96) :
    V m c main_v5 (ix3 u i d) = m ((c : Thread nD τ).loc main_arg2) (ix4 (⟨u.val / 48, by omega⟩ : Fin 2) i (⟨u.val % 48, by omega⟩ : Fin 48) d) := by
  after_reads_at

/-- The score scales by head unit. -/
theorem qk_at (u : Fin 96) :
    V m c main_v7 (ix3 u 0 0) = @HMul.hMul EReal EReal EReal instHMul (m ((c : Thread nD τ).loc main_arg3) (ix2 (⟨u.val / 48, by omega⟩ : Fin 2) (⟨u.val % 48, by omega⟩ : Fin 48)))
      (m ((c : Thread nD τ).loc main_arg4) (ix2 (⟨u.val / 48, by omega⟩ : Fin 2) (⟨u.val % 48, by omega⟩ : Fin 48))) := by
  after_reads_at

/-- The value scales by head unit. -/
theorem vs_at (u : Fin 96) :
    V m c main_v36 (ix3 u 0 0) = m ((c : Thread nD τ).loc main_arg5) (ix2 (⟨u.val / 48, by omega⟩ : Fin 2) (⟨u.val % 48, by omega⟩ : Fin 48)) := by
  after_reads_at

/-- A block number is compared with the one before another. -/
theorem prev_word (a b : ℕ) (ha : a < 64) (hb : b < 64) :
    IntOp.cmpi CmpIPredicate.eq (BitVec.ofNat 32 a) (IntOp.subi (BitVec.ofNat 32 b) 1#32) = 1#1 ↔ a + 1 = b := by
  rw [WordCmp.cmpi_eq_eq_toNat, WordCmp.ofBool_decide_eq_one_iff]
  show (BitVec.ofNat 32 a).toNat = (BitVec.ofNat 32 b - 1#32).toNat ↔ _
  rw [BitVec.toNat_sub, BitVec.toNat_ofNat, BitVec.toNat_ofNat, BitVec.toNat_ofNat]
  omega

/-- The bias by head unit: the diagonal tile, the tile before it, zero further back, minus infinity after the query. -/
theorem bias_at (u : Fin 96) (i j : Fin 8192) :
    V m c main_v35 (ix3 u i j) = @ite EReal (j.val ≤ i.val) _
      (@ite EReal (j.val / 128 = i.val / 128) _
        (m ((c : Thread nD τ).loc main_arg6) (ix3 (⟨u.val % 48, by omega⟩ : Fin 48) (⟨128 + j.val % 128, by omega⟩ : Fin 256) (⟨i.val % 128, by omega⟩ : Fin 128)))
        (@ite EReal (j.val / 128 + 1 = i.val / 128) _
          (m ((c : Thread nD τ).loc main_arg6) (ix3 (⟨u.val % 48, by omega⟩ : Fin 48) (⟨j.val % 128, by omega⟩ : Fin 256) (⟨i.val % 128, by omega⟩ : Fin 128))) 0)) ⊥ := by
  after_reads_at
  have hi := i.isLt
  have hj := j.isLt
  have hb : Ideal.ofBits FTy.f32 4286578688#32 = (⊥ : EReal) := by simp [Ideal.ofBits, Ideal.ieee]
  unfold Scalar.select
  have e1 : (IntOp.cmpi CmpIPredicate.sle (BitVec.ofNat 32 j.val) (BitVec.ofNat 32 i.val) = 1) = (j.val ≤ i.val) :=
    propext (WordCmp.cmpi_sle_ofNat_eq_one_iff (by omega) (by omega))
  have e2 : (IntOp.cmpi CmpIPredicate.eq (BitVec.ofNat 32 (j.val / 128)) (BitVec.ofNat 32 (i.val / 128)) = 1) = (j.val / 128 = i.val / 128) :=
    propext (WordCmp.cmpi_eq_ofNat_eq_one_iff (by omega) (by omega))
  have e3 : (IntOp.cmpi CmpIPredicate.eq (BitVec.ofNat 32 (j.val / 128)) (IntOp.subi (BitVec.ofNat 32 (i.val / 128)) 1#32) = 1) = (j.val / 128 + 1 = i.val / 128) :=
    propext (prev_word _ _ (by omega) (by omega))
  simp only [e1, e2, e3, hb]

end Cert.ReferenceIdeal.Val

end
-- ==== Proof.ValueScores.lean ====
module

public import proofs.«01_k».proof.Proof.ValueIter

@[expose] public section

noncomputable section

namespace Cert.KernelIdeal.Hand

open Idealize.ShloMosaic

/-! The reference's score of a key is the kernel's, scaled. -/

/-- Scaling by the reciprocal of a positive number and by that number leaves a value as it was. -/
theorem mul_div_cancel_real (x : EReal) (D : ℝ) (hD : 0 < D) : x * Ideal.div 1 (D : EReal) * (D : EReal) = x := by
  have e : Ideal.div 1 (D : EReal) = ((D⁻¹ : ℝ) : EReal) := by
    rw [show (1 : EReal) = ((1 : ℝ) : EReal) from rfl]
    unfold Ideal.div
    rw [if_neg (by exact_mod_cast hD.ne'), EReal.coe_one, one_mul, EReal.coe_inv]
  rw [e, mul_assoc, ← EReal.coe_mul, inv_mul_cancel₀ hD.ne', EReal.coe_one, mul_one]

/-- A positive real factor distributes over a sum. -/
theorem add_mul_real (x y : EReal) (D : ℝ) (hD : 0 < D) : (x + y) * (D : EReal) = x * (D : EReal) + y * (D : EReal) :=
  EReal.right_distrib_of_nonneg_of_ne_top (by exact_mod_cast hD.le) (EReal.coe_ne_top D) x y

/-- The product over 128 padded lanes is the product over the 96 lanes of a head. -/
theorem dot_pad (k q : ℕ → EReal) : ∑ x : Fin 128, k x.val * (if x.val < 96 then q x.val else 0) = ∑ d : Fin 96, q d.val * k d.val := by
  rw [Fin.sum_univ_eq_sum_range (fun x => k x * (if x < 96 then q x else 0)) 128, Fin.sum_univ_eq_sum_range (fun x => q x * k x) 96,
    ← Finset.sum_range_add_sum_Ico (fun x => k x * (if x < 96 then q x else 0)) (show 96 ≤ 128 by norm_num)]
  rw [Finset.sum_eq_zero (s := Finset.Ico 96 128), add_zero]
  · refine Finset.sum_congr rfl fun x hx => ?_
    rw [if_pos (Finset.mem_range.mp hx), mul_comm]
  · intro x hx
    rw [if_neg (by have := (Finset.mem_Ico.mp hx).1; omega), mul_zero]

/-- The reference's score of key `j` for query `I` of head unit `u`: the kernel's score scaled where the kernel goes through the key, and minus
    infinity past that. -/
theorem score_eq (qs ks : ℕ → EReal) (q3 : ℕ → ℕ → ℕ → EReal) (k4 : ℕ → ℕ → ℕ → ℕ → EReal) (b3 : ℕ → ℕ → ℕ → EReal) (u I j : ℕ)
    (D : ℝ) (hD : 0 < D) (hqk : qs u * ks u = (D : EReal)) (hmask : ∀ k q, k < 128 → q < k → b3 (u % 48) (128 + k) q = ⊥)
    (x0 x1 : Fin 96 → EReal) (hx0 : ∀ d, x0 d = q3 (u / 48) (96 * (u % 48) + d.val) I) (hx1 : ∀ d, x1 d = k4 (u / 48) (u % 48) j d.val) (x5 : EReal)
    (hx5 : x5 = if j ≤ I then if j / 128 = I / 128 then b3 (u % 48) (128 + j % 128) (I % 128)
      else if j / 128 + 1 = I / 128 then b3 (u % 48) (j % 128) (I % 128) else 0 else ⊥) :
    (∑ d, x0 d * x1 d) * (D : EReal) + x5 = if j < nk (I / 512) (I % 512) then uS qs ks q3 k4 b3 (I / 512) u (I % 512) j * (D : EReal) else ⊥ := by
  have hn : nk (I / 512) (I % 512) = 128 * (I / 128 + 1) := by unfold nk; omega
  have eI : 512 * (I / 512) + I % 512 = I := by omega
  have eb : 4 * (I / 512) + I % 512 / 128 = I / 128 := by omega
  have ec : I % 512 % 128 = I % 128 := by omega
  have ed : ∑ d, x0 d * x1 d = ∑ x : Fin 128, k4 (u / 48) (u % 48) j x.val * (if x.val < 96 then q3 (u / 48) (96 * (u % 48) + x.val) I else 0) := by
    rw [dot_pad (fun x => k4 (u / 48) (u % 48) j x) (fun x => q3 (u / 48) (96 * (u % 48) + x) I)]
    exact Finset.sum_congr rfl fun d _ => by rw [hx0, hx1]
  unfold uS
  rw [hn, eI, eb, ec, hqk, ← ed, hx5]
  dsimp only
  by_cases hj : j < 128 * (I / 128 + 1)
  · rw [if_pos hj]
    by_cases h1 : j / 128 = I / 128
    · rw [if_pos h1, if_pos h1, add_mul_real _ _ D hD, mul_div_cancel_real _ D hD]
      by_cases h2 : j ≤ I
      · rw [if_pos h2]
      · rw [if_neg h2, hmask (j % 128) (I % 128) (by omega) (by omega)]
    · rw [if_neg h1, if_pos (show j ≤ I by omega), if_neg h1]
      by_cases h3 : j / 128 + 1 = I / 128
      · rw [if_pos h3, if_pos h3, add_mul_real _ _ D hD, mul_div_cancel_real _ D hD]
      · rw [if_neg h3, if_neg h3, add_zero]
  · rw [if_neg hj, if_neg (by omega), EReal.add_bot]

end Cert.KernelIdeal.Hand

end
-- ==== Proof.ValuePre.lean ====
module

public import proofs.«01_k».proof.Pre_scales_positive_future_masked
public import Idealize.ShloMosaic.Lib.Pointwise
public import Idealize.ShloMosaic.Lib.WordCmp

@[expose] public section

noncomputable section

namespace Cert.Pre_scales_positive_future_masked

open Idealize.ShloMosaic Idealize.ShloMosaic.Tactic

/-- The precondition's shape facts. -/
theorem facts : Cert.Pre_scales_positive_future_masked.Facts where
  bcast_S_S2x48 := by decide
  slices_S48x256x128_S48x128x128_0_128_0 := by decide
  bcast_S_S48x128x128 := by decide

theorem inf_bits : Ideal.ofBits FTy.f32 2139095040#32 = (⊤ : EReal) := by simp [Ideal.ofBits, Ideal.ieee]
theorem ninf_bits : Ideal.ofBits FTy.f32 4286578688#32 = (⊥ : EReal) := by simp [Ideal.ofBits, Ideal.ieee]
theorem zero_bits : Ideal.ofBits FTy.f32 0#32 = (0 : EReal) := by simp [Ideal.ofBits, Ideal.ieee]

variable [Facts] (a0 a1 a2 : FVec Ideal S2x8192x48x96 .fp8e4m3) (a3 a4 a5 : FVec Ideal S2x48 .f32) (a6 : FVec Ideal S48x256x128 .f32)

/-- The product of the scales of a head is a positive real number. -/
theorem scales (h : (fn (F := Ideal) a0 a1 a2 a3 a4 a5 a6).1 = fun _ => 1#1) (b : Fin 2) (H : Fin 48) :
    ∃ D : ℝ, 0 < D ∧ @HMul.hMul EReal EReal EReal instHMul (a3 (ix2 b H)) (a4 (ix2 b H)) = (D : EReal) := by
  have h1 := congrFun h (ix2 b H)
  unfold fn at h1
  dsimp only at h1
  pointwise at h1
  rw [inf_bits] at h1
  generalize hz : @HMul.hMul EReal EReal EReal instHMul (a3 (ix2 b H)) (a4 (ix2 b H)) = z
  have hz' : a3 (ix2 b H) * a4 (ix2 b H) = z := hz
  rw [hz'] at h1
  by_cases hp : 0 < z
  · by_cases ht : z < ⊤
    · lift z to ℝ using ⟨ht.ne, (lt_trans (by simp) hp).ne'⟩
      exact ⟨z, by exact_mod_cast hp, rfl⟩
    · exact absurd (h1.symm.trans (by rw [decide_eq_false ht]; cases decide (0 < z) <;> rfl)) (by decide : ¬ (1#1 = 0#1))
  · exact absurd (h1.symm.trans (by rw [decide_eq_false hp]; cases decide (z < ⊤) <;> rfl)) (by decide : ¬ (1#1 = 0#1))

/-- The bias of a query's own tile is minus infinity at the keys after the query. -/
theorem masked (h : (fn (F := Ideal) a0 a1 a2 a3 a4 a5 a6).2 = fun _ => 1#1) (H : Fin 48) (k q : Fin 128) (hkq : q.val < k.val) :
    a6 (ix3 H (⟨128 + k.val, by omega⟩ : Fin 256) q) = (⊥ : EReal) := by
  have h1 := congrFun h (ix3 H k q)
  unfold fn at h1
  dsimp only at h1
  pointwise at h1
  have hc : IntOp.cmpi CmpIPredicate.sle (BitVec.ofNat 32 k.val) (BitVec.ofNat 32 q.val) = 0#1 := by
    have hk := k.isLt
    have hq := q.isLt
    rcases BitVec.eq_zero_or_eq_one (IntOp.cmpi CmpIPredicate.sle (BitVec.ofNat 32 k.val) (BitVec.ofNat 32 q.val)) with e | e
    · exact e
    · exact absurd ((WordCmp.cmpi_sle_ofNat_eq_one_iff (by omega) (by omega)).mp e) (by omega)
  rw [hc, ninf_bits] at h1
  by_contra hne
  exact absurd (h1.symm.trans (by rw [decide_eq_false hne]; rfl)) (by decide : ¬ (1#1 = 0#1))

end Cert.Pre_scales_positive_future_masked

end
-- ==== Proof.ValueMain.lean ====
module

public import proofs.«01_k».proof.Defs
public import proofs.«01_k».proof.Proof.ValueRun
public import proofs.«01_k».proof.Proof.ValueRefRun
public import proofs.«01_k».proof.Proof.ValueHost
public import proofs.«01_k».proof.Proof.ValueScores
public import proofs.«01_k».proof.Proof.ValuePre

@[expose] public section

set_option maxRecDepth 16384

noncomputable section

namespace Cert.Final

open Idealize.ShloMosaic Idealize.ShloMosaic.TcCoe Idealize.ShloMosaic.Tactic Idealize.SL.Sem
open Cert.KernelIdeal.Hand (kOut rOut rC rX scaled row_eq score_eq uS nk un1 un3 un4 ur2 un1_of un3_of un4_of ur2_of)

/-- The unpadded reading of an array is the array at an index. -/
theorem n1 {a : ℕ} (X : (⟨1, ![a]⟩ : Shape).Idx → EReal) (i : Fin a) : un1 X i.val = X (ix1 i) := (un1_of X (ix1 i) i.val rfl).symm
theorem n2 {a b : ℕ} (X : (⟨2, ![a, b]⟩ : Shape).Idx → EReal) (i : Fin a) (j : Fin b) : ur2 X i.val j.val = X (ix2 i j) := (ur2_of X (ix2 i j) i.val j.val rfl rfl).symm
theorem n3 {a b c : ℕ} (X : (⟨3, ![a, b, c]⟩ : Shape).Idx → EReal) (i : Fin a) (j : Fin b) (k : Fin c) : un3 X i.val j.val k.val = X (ix3 i j k) :=
  (un3_of X (ix3 i j k) i.val j.val k.val rfl rfl rfl).symm
theorem n4 {a b c d : ℕ} (X : (⟨4, ![a, b, c, d]⟩ : Shape).Idx → EReal) (i : Fin a) (j : Fin b) (k : Fin c) (l : Fin d) :
    un4 X i.val j.val k.val l.val = X (ix4 i j k l) := (un4_of X (ix4 i j k l) i.val j.val k.val l.val rfl rfl rfl rfl).symm

/-- An array of rank two at equal coordinates. -/
theorem i2 {a b : ℕ} (X : (⟨2, ![a, b]⟩ : Shape).Idx → EReal) {i i' : Fin a} {j j' : Fin b} (h0 : i.val = i'.val) (h1 : j.val = j'.val) :
    X (ix2 i j) = X (ix2 i' j') := by
  rw [Fin.ext h0, Fin.ext h1]
/-- An array of rank three at equal coordinates. -/
theorem i3 {a b c : ℕ} (X : (⟨3, ![a, b, c]⟩ : Shape).Idx → EReal) {i i' : Fin a} {j j' : Fin b} {k k' : Fin c} (h0 : i.val = i'.val) (h1 : j.val = j'.val)
    (h2 : k.val = k'.val) : X (ix3 i j k) = X (ix3 i' j' k') := by
  rw [Fin.ext h0, Fin.ext h1, Fin.ext h2]
/-- An array of rank four at equal coordinates. -/
theorem i4 {a b c d : ℕ} (X : (⟨4, ![a, b, c, d]⟩ : Shape).Idx → EReal) {i i' : Fin a} {j j' : Fin b} {k k' : Fin c} {l l' : Fin d} (h0 : i.val = i'.val)
    (h1 : j.val = j'.val) (h2 : k.val = k'.val) (h3 : l.val = l'.val) : X (ix4 i j k l) = X (ix4 i' j' k' l') := by
  rw [Fin.ext h0, Fin.ext h1, Fin.ext h2, Fin.ext h3]

open Cert.ReferenceIdeal Cert.ReferenceIdeal.Gen in
/-- One element of the kernel's result is the reference's, when the arrays they are handed agree and the scores' scale is a positive real number. -/
theorem element (qs ks vs : ℕ → EReal) (q3 : ℕ → ℕ → ℕ → EReal) (k4 : ℕ → ℕ → ℕ → ℕ → EReal) (v2 : ℕ → ℕ → EReal) (b3 : ℕ → ℕ → ℕ → EReal)
    (x0 x1 x2 : Vec Ideal S96x8192x96 .fp8e4m3) (x3 x4 : Vec Ideal S96x1x1 .f32) (x5 : Vec Ideal S96x8192x8192 .f32)
    (u : Fin 96) (I : Fin 8192) (d : Fin 96) (b : Fin 2) (W : Fin 4608) (hu : u.val = 48 * b.val + W.val / 96) (hd : d.val = W.val % 96)
    (D : ℝ) (hD : 0 < D) (hqk : qs u.val * ks u.val = (D : EReal)) (h3 : x3 (ix3 u 0 0) = (D : EReal)) (h4 : x4 (ix3 u 0 0) = vs u.val)
    (hmask : ∀ k q, k < 128 → q < k → b3 (u.val % 48) (128 + k) q = ⊥)
    (h0 : ∀ d : Fin 96, x0 (ix3 u I d) = q3 (u.val / 48) (96 * (u.val % 48) + d.val) I.val)
    (h1 : ∀ (j : Fin 8192) (d : Fin 96), x1 (ix3 u j d) = k4 (u.val / 48) (u.val % 48) j.val d.val)
    (h2 : ∀ j : Fin 8192, x2 (ix3 u j d) = v2 (96 * u.val + W.val % 96) j.val)
    (h5 : ∀ j : Fin 8192, x5 (ix3 u I j) = @ite EReal (j.val ≤ I.val) _ (@ite EReal (j.val / 128 = I.val / 128) _ (b3 (u.val % 48) (128 + j.val % 128) (I.val % 128))
      (@ite EReal (j.val / 128 + 1 = I.val / 128) _ (b3 (u.val % 48) (j.val % 128) (I.val % 128)) 0)) ⊥) :
    kOut (uS qs ks q3 k4 b3 (I.val / 512) (48 * b.val + W.val / 96) (I.val % 512)) (fun j => v2 (96 * (48 * b.val + W.val / 96) + W.val % 96) j)
      (nk (I.val / 512) (I.val % 512)) (qs (48 * b.val + W.val / 96) * ks (48 * b.val + W.val / 96) * Named.named (F := Ideal) (φ := .f32) Cert.KernelIdeal.κ "log2e" 1069066811#32)
      (vs (48 * b.val + W.val / 96))
    = k0_pay1 (F := Ideal) (k0_pay4 x0 x1 x3 x5) (k0_pay5 x0 x1 x3 x5) (Scalar.ofBits .f32 0x43E00000#32) k0_pay6 x2 x4 (ix3 b I W) := by
  have hI := I.isLt
  have hn : nk (I.val / 512) (I.val % 512) = 128 * (I.val / 128 + 1) := by unfold nk; omega
  refine Eq.trans ?_ (Cert.ReferenceIdeal.Val.out_at x0 x1 x2 x3 x4 x5 u I d b W hu hd).symm
  rw [← hu, hqk, row_eq _ _ _ (by rw [hn]; omega) (by rw [hn]; omega) D hD]
  have hs : Cert.ReferenceIdeal.Val.rs x0 x1 x3 x5 u I = scaled (uS qs ks q3 k4 b3 (I.val / 512) u.val (I.val % 512)) (nk (I.val / 512) (I.val % 512)) D := by
    funext j
    unfold Cert.ReferenceIdeal.Val.rs scaled
    rw [h3]
    exact score_eq qs ks q3 k4 b3 u.val I.val j.val D hD hqk hmask (fun d => x0 (ix3 u I d)) (fun d => x1 (ix3 u j d)) h0 (h1 j) _ (h5 j)
  rw [hs, h4]
  unfold rOut
  exact congrArg (fun z : EReal => z * _) (Finset.sum_congr rfl fun j _ => congrArg (fun z : EReal => _ * z) (h2 j).symm)

open Cert.KernelIdeal.Hand (og gqs gks gvs gq gk gv gb) in
/-- From memories that agree on the arguments and meet the precondition, the kernel's result array is the reference's. -/
theorem result_eq [Cert.Pre_scales_positive_future_masked.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scales_positive_future_masked m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.refArr m' c = Cert.KernelIdeal.Val.result m c := by
  obtain ⟨p1, p2⟩ := hpre c
  have hb6 : ∀ (H : Fin 48) (r : Fin 256) (x : Fin 128), gb m c H.val r.val x.val
      = m ((c.tc : Thread Cert.KernelIdeal.nD Cert.KernelIdeal.τ).loc Cert.KernelIdeal.main_arg6) (ix3 H r x) := fun H r x =>
    (n3 _ H r x).trans (congrFun (Cert.KernelIdeal.Gen.V_main_arg6 m c) (ix3 H r x))
  funext i
  have hi0 : (i 0).val < 2 := (i 0).isLt
  have hi1 : (i 1).val < 8192 := (i 1).isLt
  have hi2 : (i 2).val < 4608 := (i 2).isLt
  set b : Fin 2 := ⟨(i 0).val, hi0⟩ with hbd
  set I : Fin 8192 := ⟨(i 1).val, hi1⟩ with hId
  set W : Fin 4608 := ⟨(i 2).val, hi2⟩ with hWd
  have ei : i = ix3 b I W := Cert.ReferenceIdeal.Val.ext3 (a := 2) (b := 8192) (c := 4608) i _ rfl rfl rfl
  have hW := W.isLt
  have hb := b.isLt
  obtain ⟨u, hu⟩ : ∃ u : Fin 96, u.val = 48 * b.val + W.val / 96 := ⟨⟨48 * b.val + W.val / 96, by omega⟩, rfl⟩
  obtain ⟨d, hd⟩ : ∃ d : Fin 96, d.val = W.val % 96 := ⟨⟨W.val % 96, by omega⟩, rfl⟩
  have hul := u.isLt
  have hdl := d.isLt
  obtain ⟨B, hB⟩ : ∃ B : Fin 2, B.val = u.val / 48 := ⟨⟨u.val / 48, by omega⟩, rfl⟩
  obtain ⟨H, hH⟩ : ∃ H : Fin 48, H.val = u.val % 48 := ⟨⟨u.val % 48, by omega⟩, rfl⟩
  obtain ⟨D, hD, hDe⟩ := Cert.Pre_scales_positive_future_masked.scales _ _ _ _ _ _ _ p1 B H
  rw [ei]
  refine Eq.symm ?_
  show og m c b.val I.val W.val = _
  unfold og Cert.ReferenceIdeal.Val.refArr
  refine element (gqs m c) (gks m c) (gvs m c) (gq m c) (gk m c) (gv m c) (gb m c) _ _ _ _ _ _ u I d b W hu hd D hD ?_ ?_ ?_ ?_ ?_ ?_ ?_ ?_
  · have q1 := (n1 (a := 96) (Cert.KernelIdeal.Gen.V m c Cert.KernelIdeal.main_v7) u).trans (Cert.KernelIdeal.Val.qs_at m c u)
    have q2 := (n1 (a := 96) (Cert.KernelIdeal.Gen.V m c Cert.KernelIdeal.main_v8) u).trans (Cert.KernelIdeal.Val.ks_at m c u)
    refine Eq.trans (congrArg₂ (fun x y : EReal => x * y) (q1.trans ?_) (q2.trans ?_)) hDe
    · exact i2 _ hB.symm hH.symm
    · exact i2 _ hB.symm hH.symm
  · refine (Cert.ReferenceIdeal.Val.qk_at m' c u).trans ?_
    refine Eq.trans (congrArg₂ (fun x y : EReal => x * y) ((congrFun e3 _).trans ?_) ((congrFun e4 _).trans ?_)) hDe
    · exact i2 _ hB.symm hH.symm
    · exact i2 _ hB.symm hH.symm
  · refine (Cert.ReferenceIdeal.Val.vs_at m' c u).trans ((congrFun e5 _).trans ?_)
    exact ((n1 (a := 96) (Cert.KernelIdeal.Gen.V m c Cert.KernelIdeal.main_v9) u).trans (Cert.KernelIdeal.Val.vs_at m c u)).symm
  · intro k q hk hq
    have h := hb6 H ⟨128 + k, by omega⟩ ⟨q, by omega⟩
    rw [← hH]
    exact h.trans (Cert.Pre_scales_positive_future_masked.masked _ _ _ _ _ _ _ p2 H ⟨k, hk⟩ ⟨q, by omega⟩ hq)
  · intro d
    have hdl := d.isLt
    refine (Cert.ReferenceIdeal.Val.q_at m' c u I d).trans ((congrFun e0 _).trans ?_)
    have h := (n3 (a := 2) (b := 4608) (c := 8192) (Cert.KernelIdeal.Gen.V m c Cert.KernelIdeal.main_v1) B ⟨96 * H.val + d.val, by omega⟩ I).trans (Cert.KernelIdeal.Val.q_at m c B ⟨96 * H.val + d.val, by omega⟩ I)
    refine Eq.trans (i4 _ hB.symm rfl (by dsimp only; omega) (by dsimp only; omega)) (h.symm.trans ?_)
    rw [← hB, ← hH]
    rfl
  · intro j d
    have hdl := d.isLt
    refine (Cert.ReferenceIdeal.Val.k_at m' c u j d).trans ((congrFun e1 _).trans ?_)
    have h := (n4 (a := 2) (b := 48) (c := 8192) (d := 128) (Cert.KernelIdeal.Gen.V m c Cert.KernelIdeal.main_v6) B H j ⟨d.val, by omega⟩).trans (Cert.KernelIdeal.Val.k_at m c B H j ⟨d.val, by omega⟩ hdl)
    refine Eq.trans (i4 _ hB.symm rfl hH.symm rfl) (h.symm.trans ?_)
    rw [← hB, ← hH]
    rfl
  · intro j
    refine (Cert.ReferenceIdeal.Val.v_at m' c u j d).trans ((congrFun e2 _).trans ?_)
    have h := (n2 (a := 9216) (b := 8192) (Cert.KernelIdeal.Gen.V m c Cert.KernelIdeal.main_v3) ⟨96 * u.val + W.val % 96, by omega⟩ j).trans (Cert.KernelIdeal.Val.v_at m c ⟨96 * u.val + W.val % 96, by omega⟩ j)
    refine Eq.trans ?_ h.symm
    exact i4 _ (by dsimp only; omega) rfl (by dsimp only; omega) (by dsimp only; omega)
  · intro j
    have hjl := j.isLt
    have hIl := I.isLt
    refine (Cert.ReferenceIdeal.Val.bias_at m' c u I j).trans ?_
    have h1 := hb6 H ⟨128 + j.val % 128, by omega⟩ ⟨I.val % 128, by omega⟩
    have h2 := hb6 H ⟨j.val % 128, by omega⟩ ⟨I.val % 128, by omega⟩
    have g1 := (congrFun e6 (ix3 (⟨u.val % 48, by omega⟩ : Fin 48) (⟨128 + j.val % 128, by omega⟩ : Fin 256) (⟨I.val % 128, by omega⟩ : Fin 128))).trans ((i3 _ hH.symm rfl rfl).trans (h1.symm.trans (congrArg (fun H : ℕ => gb m c H (128 + j.val % 128) (I.val % 128)) hH)))
    have g2 := (congrFun e6 (ix3 (⟨u.val % 48, by omega⟩ : Fin 48) (⟨j.val % 128, by omega⟩ : Fin 256) (⟨I.val % 128, by omega⟩ : Fin 128))).trans ((i3 _ hH.symm rfl rfl).trans (h2.symm.trans (congrArg (fun H : ℕ => gb m c H (j.val % 128) (I.val % 128)) hH)))
    exact congrArg (fun z : EReal => @ite EReal (j.val ≤ I.val) _ z ⊥) (congrArg₂ (fun x y : EReal => @ite EReal (j.val / 128 = I.val / 128) _ x (@ite EReal (j.val / 128 + 1 = I.val / 128) _ y 0)) g1 g2)

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.KernelFrame
public import proofs.«01_k».proof.Proof.KernelIdealFrame
public import proofs.«01_k».proof.Proof.ValueMain
public import Idealize.ShloMosaic.Adequacy
public import Idealize.ShloMosaic.Init

@[expose] public section

noncomputable section

namespace Cert.Proof

open Idealize.ShloMosaic Idealize.SL.Sem Cert.Kernel

/-- The kernel and the reference, over the extended reals and from memories that agree on the arguments, end with the same result. -/
theorem algebraic : algebraic_KernelIdeal_ReferenceIdeal_pre_scales_positive_future_masked (hKernelIdeal := Cert.KernelIdeal.Gen.facts)
    (hReferenceIdeal := Cert.ReferenceIdeal.Gen.facts) (hPre_scales_positive_future_masked := Cert.Pre_scales_positive_future_masked.facts) := by
  intro m g m' g' hpre hargs
  refine ⟨fun c => Cert.KernelIdeal.Val.result m c, Cert.KernelIdeal.Val.run_value m g, ?_⟩
  refine (θ_run _ _ _).mono (fun r h c => ⟨(h c).1.trans ?_, (h c).2⟩) (Cert.ReferenceIdeal.Val.run_value m' g')
  obtain ⟨e0, e1, e2, e3, e4, e5, e6⟩ := hargs c
  exact @Cert.Final.result_eq Cert.Pre_scales_positive_future_masked.facts m m' hpre c e0 e1 e2 e3 e4 e5 e6

/-- Everything claimed. -/
theorem claim : Cert.Claim := ⟨Cert.Kernel.Gen.facts, Cert.KernelIdeal.Gen.facts, Cert.ReferenceIdeal.Gen.facts, Cert.Reference.Gen.facts,
  Cert.Pre_scales_positive_future_masked.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  fun m g _ => Cert.Reference.Gen.frame m g,
  IdealRules.named_const.statement Cert.KernelIdeal.κ "log2e" .f32 0x3FB8AA3B#32 _ rfl,
  IdealRules.named_const.statement Cert.ReferenceIdeal.κ "log2e" .f32 0x3FB8AA3B#32 _ rfl,
  algebraic⟩

end Cert.Proof

end
